-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.bf16_pair.BufferStatement Cert.Kernel3Ideal.S135168x2x128 Cert.Kernel3Ideal.S135168x1x128
  ∧ IdealRules.bf16_pair.BufferStatement Cert.Kernel3Ideal.S4096x2x128 Cert.Kernel3Ideal.S4096x1x128
  ∧ IdealRules.bf16_pair.PackStatement Cert.Kernel3Ideal.S512x1024
  ∧ IdealRules.bf16_pair.Statement Cert.Kernel3Ideal.S512x2x128 Cert.Kernel3Ideal.S512x1x128

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_2) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v53) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16896x7680 : Shape := ⟨2, ![16896, 7680]⟩
abbrev S4x2x512 : Shape := ⟨3, ![4, 2, 512]⟩
abbrev S_ : Shape := ⟨0, ![]⟩

class Facts : Prop where
  bcast_S_S16896x7680 : S_.BroadcastsInDim S16896x7680 (![] : Fin 0 → Fin S16896x7680.rank)
  reducesTo_S16896x7680_S_d0_1 : S16896x7680.ReducesTo [0, 1] S_
  h_S_ : 0 < S_.numel
  bcast_S_S4x2x512 : S_.BroadcastsInDim S4x2x512 (![] : Fin 0 → Fin S4x2x512.rank)
  reducesTo_S4x2x512_S_d0_1_2 : S4x2x512.ReducesTo [0, 1, 2] S_

variable [Facts]

def fn {F : FTy → Type} [FloatOps F] (main_arg0 : FVec F S16896x7680 .f32) (main_arg1 : FVec F S4x2x512 .f32) : IVec S_ 1 :=
  let main_v0 : FVec F S16896x7680 .f32 := Host.absf main_arg0
  let main_cst : FVec F S_ .f32 := constant S_ .f32 0x7F800000#32
  let main_v1 : FVec F S16896x7680 .f32 := broadcastInDim S16896x7680 ![] bcast_S_S16896x7680 main_cst
  let main_v2 : IVec S16896x7680 1 := cmpf .olt main_v0 main_v1
  let main_c : IVec S_ 1 := constantI S_ 1 1#1
  let main_v3 : IVec S_ 1 := (fun x v => Host.reduce IntOp.andi x v reducesTo_S16896x7680_S_d0_1 h_S_) main_v2 main_c
  let main_v4 : FVec F S4x2x512 .f32 := Host.absf main_arg1
  let main_cst_0 : FVec F S_ .f32 := constant S_ .f32 0x7F800000#32
  let main_v5 : FVec F S4x2x512 .f32 := broadcastInDim S4x2x512 ![] bcast_S_S4x2x512 main_cst_0
  let main_v6 : IVec S4x2x512 1 := cmpf .olt main_v4 main_v5
  let main_c_1 : IVec S_ 1 := constantI S_ 1 1#1
  let main_v7 : IVec S_ 1 := (fun x v => Host.reduce IntOp.andi x v reducesTo_S4x2x512_S_d0_1_2 h_S_) main_v6 main_c_1
  let main_v8 : IVec S_ 1 := andi main_v3 main_v7
  main_v8
-- ==== Pre_finite3.lean ====
abbrev S16896x512 : Shape := ⟨2, ![16896, 512]⟩
abbrev S2048x2048 : Shape := ⟨2, ![2048, 2048]⟩
abbrev S16896x2048 : Shape := ⟨2, ![16896, 2048]⟩
abbrev S8x6x2048 : Shape := ⟨3, ![8, 6, 2048]⟩
abbrev S2048 : Shape := ⟨1, ![2048]⟩
abbrev S2048x4 : Shape := ⟨2, ![2048, 4]⟩
abbrev S2048x32 : Shape := ⟨2, ![2048, 32]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S16896x2048 : S_.BroadcastsInDim S16896x2048 (![] : Fin 0 → Fin S16896x2048.rank)
  reducesTo_S16896x2048_S_d0_1 : S16896x2048.ReducesTo [0, 1] S_
  bcast_S_S8x6x2048 : S_.BroadcastsInDim S8x6x2048 (![] : Fin 0 → Fin S8x6x2048.rank)
  reducesTo_S8x6x2048_S_d0_1_2 : S8x6x2048.ReducesTo [0, 1, 2] S_
  bcast_S_S2048 : S_.BroadcastsInDim S2048 (![] : Fin 0 → Fin S2048.rank)
  reducesTo_S2048_S_d0 : S2048.ReducesTo [0] S_
  bcast_S_S2048x4 : S_.BroadcastsInDim S2048x4 (![] : Fin 0 → Fin S2048x4.rank)
  reducesTo_S2048x4_S_d0_1 : S2048x4.ReducesTo [0, 1] S_
  bcast_S_S2048x32 : S_.BroadcastsInDim S2048x32 (![] : Fin 0 → Fin S2048x32.rank)
  reducesTo_S2048x32_S_d0_1 : S2048x32.ReducesTo [0, 1] S_
  bitsLt_bf16_f32 : FTy.bits .bf16 < FTy.bits .f32
  bcast_S_S16896x512 : S_.BroadcastsInDim S16896x512 (![] : Fin 0 → Fin S16896x512.rank)
  reducesTo_S16896x512_S_d0_1 : S16896x512.ReducesTo [0, 1] S_

variable [Facts]

def fn_part3 {F : FTy → Type} [FloatOps F] (main_v46 : IVec S_ 1) (main_v51 : IVec S_ 1) : IVec S_ 1 :=
  let main_v52 : IVec S_ 1 := andi main_v46 main_v51
  main_v52

def fn_part2 {F : FTy → Type} [FloatOps F] (main_arg1 : FVec F S16896x512 .bf16) (main_arg2 : FVec F S16896x512 .bf16) (main_arg3 : FVec F S16896x512 .bf16) (main_v28 : IVec S_ 1) (main_v33 : IVec S_ 1) : IVec S_ 1 :=
  let main_v34 : IVec S_ 1 := andi main_v28 main_v33
  let main_v35 : FVec F S16896x512 .f32 := (extf .f32 · bitsLt_bf16_f32) main_arg1
  let main_v36 : FVec F S16896x512 .f32 := Host.absf main_v35
  let main_cst_12 : FVec F S_ .f32 := constant S_ .f32 0x7F800000#32
  let main_v37 : FVec F S16896x512 .f32 := broadcastInDim S16896x512 ![] bcast_S_S16896x512 main_cst_12
  let main_v38 : IVec S16896x512 1 := cmpf .olt main_v36 main_v37
  let main_c_13 : IVec S_ 1 := constantI S_ 1 1#1
  let main_v39 : IVec S_ 1 := (fun x v => Host.reduce IntOp.andi x v reducesTo_S16896x512_S_d0_1 h_S_) main_v38 main_c_13
  let main_v40 : IVec S_ 1 := andi main_v34 main_v39
  let main_v41 : FVec F S16896x512 .f32 := (extf .f32 · bitsLt_bf16_f32) main_arg2
  let main_v42 : FVec F S16896x512 .f32 := Host.absf main_v41
  let main_cst_14 : FVec F S_ .f32 := constant S_ .f32 0x7F800000#32
  let main_v43 : FVec F S16896x512 .f32 := broadcastInDim S16896x512 ![] bcast_S_S16896x512 main_cst_14
  let main_v44 : IVec S16896x512 1 := cmpf .olt main_v42 main_v43
  let main_c_15 : IVec S_ 1 := constantI S_ 1 1#1
  let main_v45 : IVec S_ 1 := (fun x v => Host.reduce IntOp.andi x v reducesTo_S16896x512_S_d0_1 h_S_) main_v44 main_c_15
  let main_v46 : IVec S_ 1 := andi main_v40 main_v45
  let main_v47 : FVec F S16896x512 .f32 := (extf .f32 · bitsLt_bf16_f32) main_arg3
  let main_v48 : FVec F S16896x512 .f32 := Host.absf main_v47
  let main_cst_16 : FVec F S_ .f32 := constant S_ .f32 0x7F800000#32
  let main_v49 : FVec F S16896x512 .f32 := broadcastInDim S16896x512 ![] bcast_S_S16896x512 main_cst_16
  let main_v50 : IVec S16896x512 1 := cmpf .olt main_v48 main_v49
  let main_c_17 : IVec S_ 1 := constantI S_ 1 1#1
  let main_v51 : IVec S_ 1 := (fun x v => Host.reduce IntOp.andi x v reducesTo_S16896x512_S_d0_1 h_S_) main_v50 main_c_17
  fn_part3 (F := F) main_v46 main_v51

def fn_part1 {F : FTy → Type} [FloatOps F] (main_arg0 : FVec F S16896x512 .bf16) (main_arg1 : FVec F S16896x512 .bf16) (main_arg2 : FVec F S16896x512 .bf16) (main_arg3 : FVec F S16896x512 .bf16) (main_arg8 : FVec F S2048x4 .f32) (main_arg9 : FVec F S2048x32 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x4 .f32 := Host.absf main_arg8
  let main_cst_6 : FVec F S_ .f32 := constant S_ .f32 0x7F800000#32
  let main_v20 : FVec F S2048x4 .f32 := broadcastInDim S2048x4 ![] bcast_S_S2048x4 main_cst_6
  let main_v21 : IVec S2048x4 1 := cmpf .olt main_v19 main_v20
  let main_c_7 : IVec S_ 1 := constantI S_ 1 1#1
  let main_v22 : IVec S_ 1 := (fun x v => Host.reduce IntOp.andi x v reducesTo_S2048x4_S_d0_1 h_S_) main_v21 main_c_7
  let main_v23 : IVec S_ 1 := andi main_v18 main_v22
  let main_v24 : FVec F S2048x32 .f32 := Host.absf main_arg9
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  let main_v29 : FVec F S16896x512 .f32 := (extf .f32 · bitsLt_bf16_f32) main_arg0
  let main_v30 : FVec F S16896x512 .f32 := Host.absf main_v29
  let main_cst_10 : FVec F S_ .f32 := constant S_ .f32 0x7F800000#32
  let main_v31 : FVec F S16896x512 .f32 := broadcastInDim S16896x512 ![] bcast_S_S16896x512 main_cst_10
  let main_v32 : IVec S16896x512 1 := cmpf .olt main_v30 main_v31
  let main_c_11 : IVec S_ 1 := constantI S_ 1 1#1
  let main_v33 : IVec S_ 1 := (fun x v => Host.reduce IntOp.andi x v reducesTo_S16896x512_S_d0_1 h_S_) main_v32 main_c_11
  fn_part2 (F := F) main_arg1 main_arg2 main_arg3 main_v28 main_v33

def fn {F : FTy → Type} [FloatOps F] (main_arg0 : FVec F S16896x512 .bf16) (main_arg1 : FVec F S16896x512 .bf16) (main_arg2 : FVec F S16896x512 .bf16) (main_arg3 : FVec F S16896x512 .bf16) (main_arg4 : FVec F S2048x2048 .f32) (main_arg5 : FVec F S16896x2048 .f32) (main_arg6 : FVec F S8x6x2048 .f32) (main_arg7 : FVec F S2048 .f32) (main_arg8 : FVec F S2048x4 .f32) (main_arg9 : FVec F S2048x32 .f32) : IVec S_ 1 :=
  let main_v0 : FVec F S2048x2048 .f32 := Host.absf main_arg4
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S16896x2048 .f32 := Host.absf main_arg5
  let main_cst_0 : FVec F S_ .f32 := constant S_ .f32 0x7F800000#32
  let main_v5 : FVec F S16896x2048 .f32 := broadcastInDim S16896x2048 ![] bcast_S_S16896x2048 main_cst_0
  let main_v6 : IVec S16896x2048 1 := cmpf .olt main_v4 main_v5
  let main_c_1 : IVec S_ 1 := constantI S_ 1 1#1
  let main_v7 : IVec S_ 1 := (fun x v => Host.reduce IntOp.andi x v reducesTo_S16896x2048_S_d0_1 h_S_) main_v6 main_c_1
  let main_v8 : IVec S_ 1 := andi main_v3 main_v7
  let main_v9 : FVec F S8x6x2048 .f32 := Host.absf main_arg6
  let main_cst_2 : FVec F S_ .f32 := constant S_ .f32 0x7F800000#32
  let main_v10 : FVec F S8x6x2048 .f32 := broadcastInDim S8x6x2048 ![] bcast_S_S8x6x2048 main_cst_2
  let main_v11 : IVec S8x6x2048 1 := cmpf .olt main_v9 main_v10
  let main_c_3 : IVec S_ 1 := constantI S_ 1 1#1
  let main_v12 : IVec S_ 1 := (fun x v => Host.reduce IntOp.andi x v reducesTo_S8x6x2048_S_d0_1_2 h_S_) main_v11 main_c_3
  let main_v13 : IVec S_ 1 := andi main_v8 main_v12
  let main_v14 : FVec F S2048 .f32 := Host.absf main_arg7
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg0 main_arg1 main_arg2 main_arg3 main_arg8 main_arg9 main_v13 main_v16
-- ==== Kernel.lean ====
abbrev S16896x7680 : Shape := ⟨2, ![16896, 7680]⟩
abbrev S4x2x512 : Shape := ⟨3, ![4, 2, 512]⟩
abbrev S_ : Shape := ⟨0, ![]⟩
abbrev S2x512 : Shape := ⟨2, ![2, 512]⟩
abbrev S1x2x512 : Shape := ⟨3, ![1, 2, 512]⟩
abbrev S4x2x1x512 : Shape := ⟨4, ![4, 2, 1, 512]⟩
abbrev S1x2x1x512 : Shape := ⟨4, ![1, 2, 1, 512]⟩
abbrev S2x1x512 : Shape := ⟨3, ![2, 1, 512]⟩
abbrev S16896x512 : Shape := ⟨2, ![16896, 512]⟩
abbrev S256x512 : Shape := ⟨2, ![256, 512]⟩
abbrev S1x1x512 : Shape := ⟨3, ![1, 1, 512]⟩
abbrev S4x128x128 : Shape := ⟨3, ![4, 128, 128]⟩
abbrev S1x512 : Shape := ⟨2, ![1, 512]⟩
abbrev S128x128 : Shape := ⟨2, ![128, 128]⟩
abbrev S128x512 : Shape := ⟨2, ![128, 512]⟩
abbrev S16x8x512 : Shape := ⟨3, ![16, 8, 512]⟩
abbrev S128x1536 : Shape := ⟨2, ![128, 1536]⟩
abbrev S512 : Shape := ⟨1, ![512]⟩
abbrev S16x1x512 : Shape := ⟨3, ![16, 1, 512]⟩
abbrev S8x16x512 : Shape := ⟨3, ![8, 16, 512]⟩
abbrev S8x1x512 : Shape := ⟨3, ![8, 1, 512]⟩
abbrev S4x32x512 : Shape := ⟨3, ![4, 32, 512]⟩
abbrev S4x1x512 : Shape := ⟨3, ![4, 1, 512]⟩
abbrev S2x64x512 : Shape := ⟨3, ![2, 64, 512]⟩
abbrev S1x128x512 : Shape := ⟨3, ![1, 128, 512]⟩
abbrev S1x128x128 : Shape := ⟨3, ![1, 128, 128]⟩
abbrev S1x128 : Shape := ⟨2, ![1, 128]⟩

abbrev nBuf : Space → Nat
  | .hbm => 26
  | .vmem => 10
  | .smem => 0
  | _ => 0

abbrev bufTy : (tb : Table) → Fin (tcTables nBuf tb) → BufTy
  | .hbm, ⟨0, _⟩ => ⟨S16896x7680, .f32⟩
  | .hbm, ⟨1, _⟩ => ⟨S4x2x512, .f32⟩
  | .hbm, ⟨2, _⟩ => ⟨S_, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S1x2x512, .f32⟩
  | .hbm, ⟨8, _⟩ => ⟨S4x2x512, .f32⟩
  | .hbm, ⟨9, _⟩ => ⟨S4x2x512, .f32⟩
  | .hbm, ⟨10, _⟩ => ⟨S4x2x512, .f32⟩
  | .hbm, ⟨11, _⟩ => ⟨S_, .f32⟩
  | .hbm, ⟨12, _⟩ => ⟨S2x512, .f32⟩
  | .hbm, ⟨13, _⟩ => ⟨S1x2x512, .f32⟩
  | .hbm, ⟨14, _⟩ => ⟨S4x2x512, .f32⟩
  | .hbm, ⟨15, _⟩ => ⟨S4x2x512, .f32⟩
  | .hbm, ⟨16, _⟩ => ⟨S_, .f32⟩
  | .hbm, ⟨17, _⟩ => ⟨S_, .f32⟩
  | .hbm, ⟨18, _⟩ => ⟨S4x2x512, .f32⟩
  | .hbm, ⟨19, _⟩ => ⟨S1x2x512, .f32⟩
  | .hbm, ⟨20, _⟩ => ⟨S4x2x512, .f32⟩
  | .hbm, ⟨21, _⟩ => ⟨S4x2x512, .f32⟩
  | .hbm, ⟨22, _⟩ => ⟨S4x2x1x512, .f32⟩
  | .hbm, ⟨23, _⟩ => ⟨S1x2x1x512, .f32⟩
  | .hbm, ⟨24, _⟩ => ⟨S2x1x512, .f32⟩
  | .hbm, ⟨25, _⟩ => ⟨S16896x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x1x512, .f32⟩
  | .local _ .vmem, ⟨7, _⟩ => ⟨S256x512, .f32⟩
  | .local _ .vmem, ⟨8, _⟩ => ⟨S256x512, .f32⟩
  | .local _ .vmem, ⟨9, _⟩ => ⟨S4x128x128, .f32⟩
  | _, _ => ⟨S16896x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let v1 : BitVec 32 := Scalar.subi arg1 c1_i32_0
  let v2 : BitVec 32 := Scalar.select v0 arg1 v1
  let c1_i32_1 : BitVec 32 := 1#32
  let v3 : BitVec 32 := Scalar.muli arg0 c1_i32_1
  let c64_i32 : BitVec 32 := 64#32
  let v4 : BitVec 32 := Scalar.addi c64_i32 v3
  let v5 : BitVec 32 := Scalar.addi v4 v2
  let c32_i32 : BitVec 32 := 32#32
  let v6 : BitVec 32 := Scalar.muli arg0 c32_i32
  let v7 : BitVec 32 := Scalar.addi v6 v2
  let v8 : BitVec 32 := Scalar.select v0 v5 v7
  let c0_i32 : BitVec 32 := 0#32
  let c0_i32_2 : BitVec 32 := 0#32
  ![v8.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let v1 : BitVec 32 := Scalar.subi arg1 c1_i32_0
  let v2 : BitVec 32 := Scalar.select v0 arg1 v1
  let c1_i32_1 : BitVec 32 := 1#32
  let v3 : BitVec 32 := Scalar.muli arg0 c1_i32_1
  let c64_i32 : BitVec 32 := 64#32
  let v4 : BitVec 32 := Scalar.addi c64_i32 v3
  let v5 : BitVec 32 := Scalar.addi v4 v2
  let c32_i32 : BitVec 32 := 32#32
  let v6 : BitVec 32 := Scalar.muli arg0 c32_i32
  let v7 : BitVec 32 := Scalar.addi v6 v2
  let v8 : BitVec 32 := Scalar.select v0 v5 v7
  let c1_i32_2 : BitVec 32 := 1#32
  let c0_i32 : BitVec 32 := 0#32
  ![v8.toNat, c1_i32_2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let v1 : BitVec 32 := Scalar.subi arg1 c1_i32_0
  let v2 : BitVec 32 := Scalar.select v0 arg1 v1
  let c1_i32_1 : BitVec 32 := 1#32
  let v3 : BitVec 32 := Scalar.muli arg0 c1_i32_1
  let c64_i32 : BitVec 32 := 64#32
  let v4 : BitVec 32 := Scalar.addi c64_i32 v3
  let v5 : BitVec 32 := Scalar.addi v4 v2
  let c32_i32 : BitVec 32 := 32#32
  let v6 : BitVec 32 := Scalar.muli arg0 c32_i32
  let v7 : BitVec 32 := Scalar.addi v6 v2
  let v8 : BitVec 32 := Scalar.select v0 v5 v7
  let c3_i32 : BitVec 32 := 3#32
  let c0_i32 : BitVec 32 := 0#32
  ![v8.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c1_i32_0 : BitVec 32 := 1#32
  let v1 : BitVec 32 := Scalar.subi arg1 c1_i32_0
  let v2 : BitVec 32 := Scalar.select v0 arg1 v1
  let c1_i32_1 : BitVec 32 := 1#32
  let v3 : BitVec 32 := Scalar.muli arg0 c1_i32_1
  let c64_i32 : BitVec 32 := 64#32
  let v4 : BitVec 32 := Scalar.addi c64_i32 v3
  let v5 : BitVec 32 := Scalar.addi v4 v2
  let c32_i32 : BitVec 32 := 32#32
  let v6 : BitVec 32 := Scalar.muli arg0 c32_i32
  let v7 : BitVec 32 := Scalar.addi v6 v2
  let v8 : BitVec 32 := Scalar.select v0 v5 v7
  let c0_i32 : BitVec 32 := 0#32
  let c0_i32_2 : BitVec 32 := 0#32
  ![v8.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16896x7680 : Shape := ⟨2, ![16896, 7680]⟩
abbrev S4x2x512 : Shape := ⟨3, ![4, 2, 512]⟩
abbrev S_ : Shape := ⟨0, ![]⟩
abbrev S2x512 : Shape := ⟨2, ![2, 512]⟩
abbrev S1x2x512 : Shape := ⟨3, ![1, 2, 512]⟩
abbrev S1x1x512 : Shape := ⟨3, ![1, 1, 512]⟩
abbrev S512 : Shape := ⟨1, ![512]⟩
abbrev S16384x2560 : Shape := ⟨2, ![16384, 2560]⟩
abbrev S2x8192x2560 : Shape := ⟨3, ![2, 8192, 2560]⟩
abbrev S512x2560 : Shape := ⟨2, ![512, 2560]⟩
abbrev S2x256x2560 : Shape := ⟨3, ![2, 256, 2560]⟩
abbrev S2x4x128x128 : Shape := ⟨4, ![2, 4, 128, 128]⟩
abbrev S2x256x512 : Shape := ⟨3, ![2, 256, 512]⟩
abbrev S2x256x4x128 : Shape := ⟨4, ![2, 256, 4, 128]⟩
abbrev S2x4x256x128 : Shape := ⟨4, ![2, 4, 256, 128]⟩
abbrev S2x8192x512 : Shape := ⟨3, ![2, 8192, 512]⟩
abbrev S2x8192x4x128 : Shape := ⟨4, ![2, 8192, 4, 128]⟩
abbrev S2x4x8192x128 : Shape := ⟨4, ![2, 4, 8192, 128]⟩
abbrev S2x4x8448x128 : Shape := ⟨4, ![2, 4, 8448, 128]⟩
abbrev S64x64 : Shape := ⟨2, ![64, 64]⟩
abbrev S2x4x132x64x128 : Shape := ⟨5, ![2, 4, 132, 64, 128]⟩
abbrev S132x2x4x64x128 : Shape := ⟨5, ![132, 2, 4, 64, 128]⟩
abbrev S1x2x4x64x128 : Shape := ⟨5, ![1, 2, 4, 64, 128]⟩
abbrev S2x4x64x128 : Shape := ⟨4, ![2, 4, 64, 128]⟩
abbrev S2x4x64x1x128 : Shape := ⟨5, ![2, 4, 64, 1, 128]⟩
abbrev S2x4x1x64x128 : Shape := ⟨5, ![2, 4, 1, 64, 128]⟩
abbrev S2x4x64x64x128 : Shape := ⟨5, ![2, 4, 64, 64, 128]⟩
abbrev S64x64x1 : Shape := ⟨3, ![64, 64, 1]⟩
abbrev S2x4x64x64 : Shape := ⟨4, ![2, 4, 64, 64]⟩
abbrev S2x4x1x128 : Shape := ⟨4, ![2, 4, 1, 128]⟩
abbrev S2x4x128 : Shape := ⟨3, ![2, 4, 128]⟩
abbrev S2x4x128x1 : Shape := ⟨4, ![2, 4, 128, 1]⟩
abbrev S16384x512 : Shape := ⟨2, ![16384, 512]⟩
abbrev S512x512 : Shape := ⟨2, ![512, 512]⟩
abbrev S16896x512 : Shape := ⟨2, ![16896, 512]⟩

abbrev nBuf : Space → Nat
  | .hbm => 235
  | .vmem => 0
  | .smem => 0
  | _ => 0

abbrev hbmTy0_0 (i : Nat) : BufTy := match i % 128 with
  | 0 => ⟨S16896x7680, .f32⟩
  | 1 => ⟨S4x2x512, .f32⟩
  | 2 => ⟨S_, .f32⟩
  | 3 => ⟨S2x512, .f32⟩
  | 4 => ⟨S_, .f32⟩
  | 5 => ⟨S2x512, .f32⟩
  | 6 => ⟨S2x512, .f32⟩
  | 7 => ⟨S1x2x512, .f32⟩
  | 8 => ⟨S4x2x512, .f32⟩
  | 9 => ⟨S4x2x512, .f32⟩
  | 10 => ⟨S4x2x512, .f32⟩
  | 11 => ⟨S_, .f32⟩
  | 12 => ⟨S2x512, .f32⟩
  | 13 => ⟨S1x2x512, .f32⟩
  | 14 => ⟨S4x2x512, .f32⟩
  | 15 => ⟨S4x2x512, .f32⟩
  | 16 => ⟨S_, .f32⟩
  | 17 => ⟨S_, .f32⟩
  | 18 => ⟨S4x2x512, .f32⟩
  | 19 => ⟨S1x2x512, .f32⟩
  | 20 => ⟨S4x2x512, .f32⟩
  | 21 => ⟨S4x2x512, .f32⟩
  | 22 => ⟨S1x1x512, .f32⟩
  | 23 => ⟨S512, .f32⟩
  | 24 => ⟨S16384x2560, .f32⟩
  | 25 => ⟨S2x8192x2560, .f32⟩
  | 26 => ⟨S512x2560, .f32⟩
  | 27 => ⟨S2x256x2560, .f32⟩
  | 28 => ⟨S_, .f32⟩
  | 29 => ⟨S2x4x128x128, .f32⟩
  | 30 => ⟨S2x256x512, .f32⟩
  | 31 => ⟨S2x256x512, .f32⟩
  | 32 => ⟨S2x256x512, .f32⟩
  | 33 => ⟨S2x256x512, .f32⟩
  | 34 => ⟨S2x256x512, .f32⟩
  | 35 => ⟨S_, .f32⟩
  | 36 => ⟨S512, .f32⟩
  | 37 => ⟨S512, .f32⟩
  | 38 => ⟨S2x256x512, .f32⟩
  | 39 => ⟨S2x256x512, .f32⟩
  | 40 => ⟨S_, .f32⟩
  | 41 => ⟨S2x256x512, .f32⟩
  | 42 => ⟨S2x256x512, .f32⟩
  | 43 => ⟨S_, .f32⟩
  | 44 => ⟨S2x256x512, .f32⟩
  | 45 => ⟨S2x256x512, .f32⟩
  | 46 => ⟨S1x1x512, .f32⟩
  | 47 => ⟨S2x256x512, .f32⟩
  | 48 => ⟨S2x256x512, .f32⟩
  | 49 => ⟨S1x1x512, .f32⟩
  | 50 => ⟨S2x256x512, .f32⟩
  | 51 => ⟨S2x256x512, .f32⟩
  | 52 => ⟨S_, .f32⟩
  | 53 => ⟨S512, .f32⟩
  | 54 => ⟨S512, .f32⟩
  | 55 => ⟨S2x256x512, .f32⟩
  | 56 => ⟨S2x256x512, .f32⟩
  | 57 => ⟨S2x256x512, .f32⟩
  | 58 => ⟨S_, .f32⟩
  | 59 => ⟨S2x256x512, .f32⟩
  | 60 => ⟨S2x256x512, .f32⟩
  | 61 => ⟨S_, .f32⟩
  | 62 => ⟨S2x256x512, .f32⟩
  | 63 => ⟨S2x256x512, .f32⟩
  | 64 => ⟨S1x1x512, .f32⟩
  | 65 => ⟨S2x256x512, .f32⟩
  | 66 => ⟨S2x256x512, .f32⟩
  | 67 => ⟨S2x256x4x128, .f32⟩
  | 68 => ⟨S2x4x256x128, .f32⟩
  | 69 => ⟨S2x256x4x128, .f32⟩
  | 70 => ⟨S2x4x256x128, .f32⟩
  | 71 => ⟨S2x256x4x128, .f32⟩
  | 72 => ⟨S2x4x256x128, .f32⟩
  | 73 => ⟨S2x256x512, .f32⟩
  | 74 => ⟨S2x256x4x128, .f32⟩
  | 75 => ⟨S2x4x256x128, .f32⟩
  | 76 => ⟨S2x8192x512, .f32⟩
  | 77 => ⟨S2x8192x512, .f32⟩
  | 78 => ⟨S2x8192x512, .f32⟩
  | 79 => ⟨S2x8192x512, .f32⟩
  | 80 => ⟨S2x8192x512, .f32⟩
  | 81 => ⟨S_, .f32⟩
  | 82 => ⟨S512, .f32⟩
  | 83 => ⟨S512, .f32⟩
  | 84 => ⟨S2x8192x512, .f32⟩
  | 85 => ⟨S2x8192x512, .f32⟩
  | 86 => ⟨S_, .f32⟩
  | 87 => ⟨S2x8192x512, .f32⟩
  | 88 => ⟨S2x8192x512, .f32⟩
  | 89 => ⟨S_, .f32⟩
  | 90 => ⟨S2x8192x512, .f32⟩
  | 91 => ⟨S2x8192x512, .f32⟩
  | 92 => ⟨S1x1x512, .f32⟩
  | 93 => ⟨S2x8192x512, .f32⟩
  | 94 => ⟨S2x8192x512, .f32⟩
  | 95 => ⟨S1x1x512, .f32⟩
  | 96 => ⟨S2x8192x512, .f32⟩
  | 97 => ⟨S2x8192x512, .f32⟩
  | 98 => ⟨S_, .f32⟩
  | 99 => ⟨S512, .f32⟩
  | 100 => ⟨S512, .f32⟩
  | 101 => ⟨S2x8192x512, .f32⟩
  | 102 => ⟨S2x8192x512, .f32⟩
  | 103 => ⟨S2x8192x512, .f32⟩
  | 104 => ⟨S_, .f32⟩
  | 105 => ⟨S2x8192x512, .f32⟩
  | 106 => ⟨S2x8192x512, .f32⟩
  | 107 => ⟨S_, .f32⟩
  | 108 => ⟨S2x8192x512, .f32⟩
  | 109 => ⟨S2x8192x512, .f32⟩
  | 110 => ⟨S1x1x512, .f32⟩
  | 111 => ⟨S2x8192x512, .f32⟩
  | 112 => ⟨S2x8192x512, .f32⟩
  | 113 => ⟨S2x8192x4x128, .f32⟩
  | 114 => ⟨S2x4x8192x128, .f32⟩
  | 115 => ⟨S2x8192x4x128, .f32⟩
  | 116 => ⟨S2x4x8192x128, .f32⟩
  | 117 => ⟨S2x8192x4x128, .f32⟩
  | 118 => ⟨S2x4x8192x128, .f32⟩
  | 119 => ⟨S2x8192x512, .f32⟩
  | 120 => ⟨S2x8192x4x128, .f32⟩
  | 121 => ⟨S2x4x8192x128, .f32⟩
  | 122 => ⟨S2x4x8448x128, .f32⟩
  | 123 => ⟨S2x4x8448x128, .f32⟩
  | 124 => ⟨S2x4x8448x128, .f32⟩
  | 125 => ⟨S2x4x8448x128, .f32⟩
  | 126 => ⟨S_, .i1⟩
  | 127 => ⟨S64x64, .i1⟩
  | _ => ⟨S16896x7680, .f32⟩

abbrev hbmTy0_1 (i : Nat) : BufTy := match i % 128 with
  | 0 => ⟨S64x64, .i32⟩
  | 1 => ⟨S_, .i32⟩
  | 2 => ⟨S64x64, .i32⟩
  | 3 => ⟨S64x64, .i32⟩
  | 4 => ⟨S64x64, .i32⟩
  | 5 => ⟨S64x64, .i1⟩
  | 6 => ⟨S_, .i1⟩
  | 7 => ⟨S64x64, .i1⟩
  | 8 => ⟨S64x64, .i1⟩
  | 9 => ⟨S2x4x132x64x128, .f32⟩
  | 10 => ⟨S132x2x4x64x128, .f32⟩
  | 11 => ⟨S2x4x132x64x128, .f32⟩
  | 12 => ⟨S132x2x4x64x128, .f32⟩
  | 13 => ⟨S2x4x132x64x128, .f32⟩
  | 14 => ⟨S132x2x4x64x128, .f32⟩
  | 15 => ⟨S2x4x132x64x128, .f32⟩
  | 16 => ⟨S132x2x4x64x128, .f32⟩
  | 17 => ⟨S_, .f32⟩
  | 18 => ⟨S132x2x4x64x128, .f32⟩
  | 19 => ⟨S_, .i32⟩
  | 20 => ⟨S132x2x4x64x128, .f32⟩
  | 21 => ⟨S132x2x4x64x128, .f32⟩
  | 22 => ⟨S132x2x4x64x128, .f32⟩
  | 23 => ⟨S132x2x4x64x128, .f32⟩
  | 24 => ⟨S64x64, .i1⟩
  | 25 => ⟨S_, .i32⟩
  | 26 => ⟨S2x4x128x128, .f32⟩
  | 27 => ⟨S132x2x4x64x128, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S1x2x4x64x128, .f32⟩
  | 35 => ⟨S2x4x64x128, .f32⟩
  | 36 => ⟨S_, .i32⟩
  | 37 => ⟨S_, .i32⟩
  | 38 => ⟨S_, .i32⟩
  | 39 => ⟨S_, .i32⟩
  | 40 => ⟨S1x2x4x64x128, .f32⟩
  | 41 => ⟨S2x4x64x128, .f32⟩
  | 42 => ⟨S_, .i32⟩
  | 43 => ⟨S_, .i32⟩
  | 44 => ⟨S_, .i32⟩
  | 45 => ⟨S_, .i32⟩
  | 46 => ⟨S1x2x4x64x128, .f32⟩
  | 47 => ⟨S2x4x64x128, .f32⟩
  | 48 => ⟨S_, .i32⟩
  | 49 => ⟨S_, .i32⟩
  | 50 => ⟨S_, .i32⟩
  | 51 => ⟨S_, .i32⟩
  | 52 => ⟨S1x2x4x64x128, .f32⟩
  | 53 => ⟨S2x4x64x128, .f32⟩
  | 54 => ⟨S_, .f32⟩
  | 55 => ⟨S_, .f32⟩
  | 56 => ⟨S2x4x64x128, .f32⟩
  | 57 => ⟨S2x4x64x1x128, .f32⟩
  | 58 => ⟨S2x4x1x64x128, .f32⟩
  | 59 => ⟨S2x4x64x64x128, .f32⟩
  | 60 => ⟨S2x4x64x64x128, .f32⟩
  | 61 => ⟨S2x4x64x64x128, .f32⟩
  | 62 => ⟨S64x64x1, .i1⟩
  | 63 => ⟨S_, .f32⟩
  | 64 => ⟨S_, .f32⟩
  | 65 => ⟨S2x4x64x64x128, .i1⟩
  | 66 => ⟨S2x4x64x64x128, .f32⟩
  | 67 => ⟨S2x4x64x64x128, .f32⟩
  | 68 => ⟨S2x4x64x64x128, .f32⟩
  | 69 => ⟨S2x4x1x64x128, .f32⟩
  | 70 => ⟨S2x4x64x64x128, .f32⟩
  | 71 => ⟨S2x4x64x64x128, .f32⟩
  | 72 => ⟨S2x4x64x64, .f32⟩
  | 73 => ⟨S2x4x64x128, .f32⟩
  | 74 => ⟨S2x4x64x128, .f32⟩
  | 75 => ⟨S2x4x64x128, .f32⟩
  | 76 => ⟨S2x4x64x128, .f32⟩
  | 77 => ⟨S2x4x64x128, .f32⟩
  | 78 => ⟨S2x4x1x128, .f32⟩
  | 79 => ⟨S2x4x1x128, .f32⟩
  | 80 => ⟨S2x4x128, .f32⟩
  | 81 => ⟨S2x4x128x1, .f32⟩
  | 82 => ⟨S2x4x128x128, .f32⟩
  | 83 => ⟨S2x4x128x128, .f32⟩
  | 84 => ⟨S2x4x64x128, .f32⟩
  | 85 => ⟨S2x4x64x128, .f32⟩
  | 86 => ⟨S2x4x64x128, .f32⟩
  | 87 => ⟨S2x4x64x128, .f32⟩
  | 88 => ⟨S2x4x128x128, .f32⟩
  | 89 => ⟨S2x4x128x128, .f32⟩
  | 90 => ⟨S1x2x4x64x128, .f32⟩
  | 91 => ⟨S_, .i32⟩
  | 92 => ⟨S_, .i32⟩
  | 93 => ⟨S_, .i32⟩
  | 94 => ⟨S_, .i32⟩
  | 95 => ⟨S132x2x4x64x128, .f32⟩
  | 96 => ⟨S_, .i32⟩
  | 97 => ⟨S_, .i32⟩
  | 98 => ⟨S2x4x132x64x128, .f32⟩
  | 99 => ⟨S2x4x8448x128, .f32⟩
  | 100 => ⟨S2x4x8192x128, .f32⟩
  | 101 => ⟨S2x8192x4x128, .f32⟩
  | 102 => ⟨S16384x512, .f32⟩
  | 103 => ⟨S2x4x256x128, .f32⟩
  | 104 => ⟨S2x256x4x128, .f32⟩
  | 105 => ⟨S512x512, .f32⟩
  | 106 => ⟨S16896x512, .f32⟩
  | _ => ⟨S16896x7680, .f32⟩

abbrev hbmTy (i : Nat) : BufTy := match i / 128 with
  | 0 => hbmTy0_0 i
  | 1 => hbmTy0_1 i
  | _ => ⟨S16896x7680, .f32⟩

abbrev bufTy : (tb : Table) → Fin (tcTables nBuf tb) → BufTy
  | .hbm, ⟨i, _⟩ => hbmTy i
  | _, _ => ⟨S16896x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_10 : Ref sig .tc := ⟨.hbm, 86, rfl⟩
abbrev main_v71 : Ref sig .tc := ⟨.hbm, 87, rfl⟩
abbrev main_v72 : Ref sig .tc := ⟨.hbm, 88, rfl⟩
abbrev main_cst_11 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_12 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_13 : Ref sig .tc := ⟨.hbm, 104, rfl⟩
abbrev main_v86 : Ref sig .tc := ⟨.hbm, 105, rfl⟩
abbrev main_v87 : Ref sig .tc := ⟨.hbm, 106, rfl⟩
abbrev main_cst_14 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_c : Ref sig .tc := ⟨.hbm, 126, rfl⟩
abbrev main_v106 : Ref sig .tc := ⟨.hbm, 127, rfl⟩
abbrev main_call1_v0 : Ref sig .tc := ⟨.hbm, 128, rfl⟩
abbrev main_call1_c : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_c_0 : Ref sig .tc := ⟨.hbm, 134, rfl⟩
abbrev main_call1_v5 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_15 : Ref sig .tc := ⟨.hbm, 145, rfl⟩
abbrev main_v116 : Ref sig .tc := ⟨.hbm, 146, rfl⟩
abbrev main_c_16 : Ref sig .tc := ⟨.hbm, 147, rfl⟩
abbrev main_v117_0 : Ref sig .tc := ⟨.hbm, 148, rfl⟩
abbrev main_v117_1 : Ref sig .tc := ⟨.hbm, 149, rfl⟩
abbrev main_v117_2 : Ref sig .tc := ⟨.hbm, 150, rfl⟩
abbrev main_v117_3 : Ref sig .tc := ⟨.hbm, 151, rfl⟩
abbrev main_v117_4 : Ref sig .tc := ⟨.hbm, 152, rfl⟩
abbrev main_v117_5 : Ref sig .tc := ⟨.hbm, 153, rfl⟩
abbrev main_v117_6 : Ref sig .tc := ⟨.hbm, 154, rfl⟩
abbrev main_v117_7 : Ref sig .tc := ⟨.hbm, 155, rfl⟩
abbrev main_while0c_c_24 : Ref sig .tc := ⟨.hbm, 156, rfl⟩
abbrev main_while0c_v127 : Ref sig .tc := ⟨.hbm, 157, rfl⟩
abbrev main_while0b_call2_c : Ref sig .tc := ⟨.hbm, 158, rfl⟩
abbrev main_while0b_call2_c_0 : Ref sig .tc := ⟨.hbm, 159, rfl⟩
abbrev main_while0b_call2_c_1 : Ref sig .tc := ⟨.hbm, 160, rfl⟩
abbrev main_while0b_call2_c_2 : Ref sig .tc := ⟨.hbm, 161, rfl⟩
abbrev main_while0b_call2_v0 : Ref sig .tc := ⟨.hbm, 162, rfl⟩
abbrev main_while0b_v127 : Ref sig .tc := ⟨.hbm, 163, rfl⟩
abbrev main_while0b_call3_c : Ref sig .tc := ⟨.hbm, 164, rfl⟩
abbrev main_while0b_call3_c_0 : Ref sig .tc := ⟨.hbm, 165, rfl⟩
abbrev main_while0b_call3_c_1 : Ref sig .tc := ⟨.hbm, 166, rfl⟩
abbrev main_while0b_call3_c_2 : Ref sig .tc := ⟨.hbm, 167, rfl⟩
abbrev main_while0b_call3_v0 : Ref sig .tc := ⟨.hbm, 168, rfl⟩
abbrev main_while0b_v128 : Ref sig .tc := ⟨.hbm, 169, rfl⟩
abbrev main_while0b_call4_c : Ref sig .tc := ⟨.hbm, 170, rfl⟩
abbrev main_while0b_call4_c_0 : Ref sig .tc := ⟨.hbm, 171, rfl⟩
abbrev main_while0b_call4_c_1 : Ref sig .tc := ⟨.hbm, 172, rfl⟩
abbrev main_while0b_call4_c_2 : Ref sig .tc := ⟨.hbm, 173, rfl⟩
abbrev main_while0b_call4_v0 : Ref sig .tc := ⟨.hbm, 174, rfl⟩
abbrev main_while0b_v129 : Ref sig .tc := ⟨.hbm, 175, rfl⟩
abbrev main_while0b_call5_c : Ref sig .tc := ⟨.hbm, 176, rfl⟩
abbrev main_while0b_call5_c_0 : Ref sig .tc := ⟨.hbm, 177, rfl⟩
abbrev main_while0b_call5_c_1 : Ref sig .tc := ⟨.hbm, 178, rfl⟩
abbrev main_while0b_call5_c_2 : Ref sig .tc := ⟨.hbm, 179, rfl⟩
abbrev main_while0b_call5_v0 : Ref sig .tc := ⟨.hbm, 180, rfl⟩
abbrev main_while0b_v130 : Ref sig .tc := ⟨.hbm, 181, rfl⟩
abbrev main_while0b_call6_call0_cst : Ref sig .tc := ⟨.hbm, 182, rfl⟩
abbrev main_while0b_call6_call0_v0 : Ref sig .tc := ⟨.hbm, 183, rfl⟩
abbrev main_while0b_v131 : Ref sig .tc := ⟨.hbm, 184, rfl⟩
abbrev main_while0b_v132 : Ref sig .tc := ⟨.hbm, 185, rfl⟩
abbrev main_while0b_v133 : Ref sig .tc := ⟨.hbm, 186, rfl⟩
abbrev main_while0b_v134 : Ref sig .tc := ⟨.hbm, 187, rfl⟩
abbrev main_while0b_v135 : Ref sig .tc := ⟨.hbm, 188, rfl⟩
abbrev main_while0b_v136 : Ref sig .tc := ⟨.hbm, 189, rfl⟩
abbrev main_while0b_v137 : Ref sig .tc := ⟨.hbm, 190, rfl⟩
abbrev main_while0b_cst_24 : Ref sig .tc := ⟨.hbm, 191, rfl⟩
abbrev main_while0b_call7_v0 : Ref sig .tc := ⟨.hbm, 192, rfl⟩
abbrev main_while0b_call7_v1 : Ref sig .tc := ⟨.hbm, 193, rfl⟩
abbrev main_while0b_call7_v2 : Ref sig .tc := ⟨.hbm, 194, rfl⟩
abbrev main_while0b_v138 : Ref sig .tc := ⟨.hbm, 195, rfl⟩
abbrev main_while0b_v139 : Ref sig .tc := ⟨.hbm, 196, rfl⟩
abbrev main_while0b_v140 : Ref sig .tc := ⟨.hbm, 197, rfl⟩
abbrev main_while0b_v141 : Ref sig .tc := ⟨.hbm, 198, rfl⟩
abbrev main_while0b_v142 : Ref sig .tc := ⟨.hbm, 199, rfl⟩
abbrev main_while0b_v143 : Ref sig .tc := ⟨.hbm, 200, rfl⟩
abbrev main_while0b_v144 : Ref sig .tc := ⟨.hbm, 201, rfl⟩
abbrev main_while0b_v145 : Ref sig .tc := ⟨.hbm, 202, rfl⟩
abbrev main_while0b_v146 : Ref sig .tc := ⟨.hbm, 203, rfl⟩
abbrev main_while0b_v147 : Ref sig .tc := ⟨.hbm, 204, rfl⟩
abbrev main_while0b_v148 : Ref sig .tc := ⟨.hbm, 205, rfl⟩
abbrev main_while0b_v149 : Ref sig .tc := ⟨.hbm, 206, rfl⟩
abbrev main_while0b_v150 : Ref sig .tc := ⟨.hbm, 207, rfl⟩
abbrev main_while0b_v151 : Ref sig .tc := ⟨.hbm, 208, rfl⟩
abbrev main_while0b_v152 : Ref sig .tc := ⟨.hbm, 209, rfl⟩
abbrev main_while0b_v153 : Ref sig .tc := ⟨.hbm, 210, rfl⟩
abbrev main_while0b_v154 : Ref sig .tc := ⟨.hbm, 211, rfl⟩
abbrev main_while0b_v155 : Ref sig .tc := ⟨.hbm, 212, rfl⟩
abbrev main_while0b_v156 : Ref sig .tc := ⟨.hbm, 213, rfl⟩
abbrev main_while0b_v157 : Ref sig .tc := ⟨.hbm, 214, rfl⟩
abbrev main_while0b_v158 : Ref sig .tc := ⟨.hbm, 215, rfl⟩
abbrev main_while0b_v159 : Ref sig .tc := ⟨.hbm, 216, rfl⟩
abbrev main_while0b_v160 : Ref sig .tc := ⟨.hbm, 217, rfl⟩
abbrev main_while0b_call8_v0 : Ref sig .tc := ⟨.hbm, 218, rfl⟩
abbrev main_while0b_call8_c : Ref sig .tc := ⟨.hbm, 219, rfl⟩
abbrev main_while0b_call8_c_0 : Ref sig .tc := ⟨.hbm, 220, rfl⟩
abbrev main_while0b_call8_c_1 : Ref sig .tc := ⟨.hbm, 221, rfl⟩
abbrev main_while0b_call8_c_2 : Ref sig .tc := ⟨.hbm, 222, rfl⟩
abbrev main_while0b_v161 : Ref sig .tc := ⟨.hbm, 223, rfl⟩
abbrev main_while0b_c_25 : Ref sig .tc := ⟨.hbm, 224, rfl⟩
abbrev main_while0b_v162 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_v123 : Ref sig .tc := ⟨.hbm, 231, rfl⟩
abbrev main_v124 : Ref sig .tc := ⟨.hbm, 232, rfl⟩
abbrev main_v125 : Ref sig .tc := ⟨.hbm, 233, rfl⟩
abbrev main_v126 : Ref sig .tc := ⟨.hbm, 234, rfl⟩

abbrev nD : Nat := 1
abbrev τ : Topo := Topo.v7x

variable {F : FTy → Type} [FloatOps F]

abbrev main_while0_count : Scf.Loop 32 := ⟨0#32, 132#32, 1#32⟩
-- ==== Kernel2.lean ====
abbrev S16896x2048 : Shape := ⟨2, ![16896, 2048]⟩
abbrev S2048x7200 : Shape := ⟨2, ![2048, 7200]⟩
abbrev S2048x2560 : Shape := ⟨2, ![2048, 2560]⟩
abbrev S2048x512 : Shape := ⟨2, ![2048, 512]⟩
abbrev S2048x1024 : Shape := ⟨2, ![2048, 1024]⟩
abbrev S2048x16 : Shape := ⟨2, ![2048, 16]⟩
abbrev S2048x2048 : Shape := ⟨2, ![2048, 2048]⟩
abbrev S2048x32 : Shape := ⟨2, ![2048, 32]⟩
abbrev S_ : Shape := ⟨0, ![]⟩
abbrev S2048x480 : Shape := ⟨2, ![2048, 480]⟩
abbrev S2048x7680 : Shape := ⟨2, ![2048, 7680]⟩
abbrev S2048x15x512 : Shape := ⟨3, ![2048, 15, 512]⟩
abbrev S15x2048x512 : Shape := ⟨3, ![15, 2048, 512]⟩
abbrev S16896x7680 : Shape := ⟨2, ![16896, 7680]⟩
abbrev S2816x2048 : Shape := ⟨2, ![2816, 2048]⟩
abbrev S1x2048x512 : Shape := ⟨3, ![1, 2048, 512]⟩
abbrev S2816x512 : Shape := ⟨2, ![2816, 512]⟩

abbrev nBuf : Space → Nat
  | .hbm => 18
  | .vmem => 6
  | .smem => 0
  | _ => 0

abbrev bufTy : (tb : Table) → Fin (tcTables nBuf tb) → BufTy
  | .hbm, ⟨0, _⟩ => ⟨S16896x2048, .f32⟩
  | .hbm, ⟨1, _⟩ => ⟨S2048x7200, .f32⟩
  | .hbm, ⟨2, _⟩ => ⟨S2048x2560, .f32⟩
  | .hbm, ⟨3, _⟩ => ⟨S2048x512, .f32⟩
  | .hbm, ⟨4, _⟩ => ⟨S2048x1024, .f32⟩
  | .hbm, ⟨5, _⟩ => ⟨S2048x16, .f32⟩
  | .hbm, ⟨6, _⟩ => ⟨S2048x1024, .f32⟩
  | .hbm, ⟨7, _⟩ => ⟨S2048x2048, .f32⟩
  | .hbm, ⟨8, _⟩ => ⟨S2048x16, .f32⟩
  | .hbm, ⟨9, _⟩ => ⟨S2048x32, .f32⟩
  | .hbm, ⟨10, _⟩ => ⟨S_, .f32⟩
  | .hbm, ⟨11, _⟩ => ⟨S2048x480, .f32⟩
  | .hbm, ⟨12, _⟩ => ⟨S2048x7680, .f32⟩
  | .hbm, ⟨13, _⟩ => ⟨S2048x7680, .bf16⟩
  | .hbm, ⟨14, _⟩ => ⟨S2048x15x512, .bf16⟩
  | .hbm, ⟨15, _⟩ => ⟨S15x2048x512, .bf16⟩
  | .hbm, ⟨16, _⟩ => ⟨S16896x2048, .bf16⟩
  | .hbm, ⟨17, _⟩ => ⟨S16896x7680, .f32⟩
  | .local _ .vmem, ⟨0, _⟩ => ⟨S2816x2048, .bf16⟩
  | .local _ .vmem, ⟨1, _⟩ => ⟨S2816x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2816x512, .f32⟩
  | .local _ .vmem, ⟨5, _⟩ => ⟨S2816x512, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2816x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16896x2048 : Shape := ⟨2, ![16896, 2048]⟩
abbrev S2048x7200 : Shape := ⟨2, ![2048, 7200]⟩
abbrev S16896x7200 : Shape := ⟨2, ![16896, 7200]⟩
abbrev S16896x2560 : Shape := ⟨2, ![16896, 2560]⟩
abbrev S16896x1552 : Shape := ⟨2, ![16896, 1552]⟩
abbrev S16896x1024 : Shape := ⟨2, ![16896, 1024]⟩
abbrev S16896x2064 : Shape := ⟨2, ![16896, 2064]⟩
abbrev S16896x1536 : Shape := ⟨2, ![16896, 1536]⟩
abbrev S16896x16 : Shape := ⟨2, ![16896, 16]⟩
abbrev S_ : Shape := ⟨0, ![]⟩
abbrev S16896x480 : Shape := ⟨2, ![16896, 480]⟩
abbrev S16896x7680 : Shape := ⟨2, ![16896, 7680]⟩

abbrev nBuf : Space → Nat
  | .hbm => 14
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048x7200, .f32⟩
  | .hbm, ⟨2, _⟩ => ⟨S16896x7200, .f32⟩
  | .hbm, ⟨3, _⟩ => ⟨S16896x2560, .f32⟩
  | .hbm, ⟨4, _⟩ => ⟨S16896x1552, .f32⟩
  | .hbm, ⟨5, _⟩ => ⟨S16896x1024, .f32⟩
  | .hbm, ⟨6, _⟩ => ⟨S16896x2064, .f32⟩
  | .hbm, ⟨7, _⟩ => ⟨S16896x1536, .f32⟩
  | .hbm, ⟨8, _⟩ => ⟨S16896x16, .f32⟩
  | .hbm, ⟨9, _⟩ => ⟨S16896x2048, .f32⟩
  | .hbm, ⟨10, _⟩ => ⟨S16896x16, .f32⟩
  | .hbm, ⟨11, _⟩ => ⟨S_, .f32⟩
  | .hbm, ⟨12, _⟩ => ⟨S16896x480, .f32⟩
  | .hbm, ⟨13, _⟩ => ⟨S16896x7680, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S16896x512 : Shape := ⟨2, ![16896, 512]⟩
abbrev S2048x2048 : Shape := ⟨2, ![2048, 2048]⟩
abbrev S16896x2048 : Shape := ⟨2, ![16896, 2048]⟩
abbrev S8x6x2048 : Shape := ⟨3, ![8, 6, 2048]⟩
abbrev S2048 : Shape := ⟨1, ![2048]⟩
abbrev S2048x4 : Shape := ⟨2, ![2048, 4]⟩
abbrev S2048x32 : Shape := ⟨2, ![2048, 32]⟩
abbrev S_ : Shape := ⟨0, ![]⟩
abbrev S2048x92 : Shape := ⟨2, ![2048, 92]⟩
abbrev S2048x128 : Shape := ⟨2, ![2048, 128]⟩
abbrev S2048x256 : Shape := ⟨2, ![2048, 256]⟩
abbrev S4x512x2048 : Shape := ⟨3, ![4, 512, 2048]⟩
abbrev S1x2048 : Shape := ⟨2, ![1, 2048]⟩
abbrev S135168x128 : Shape := ⟨2, ![135168, 128]⟩
abbrev S16896x128 : Shape := ⟨2, ![16896, 128]⟩
abbrev S512x512 : Shape := ⟨2, ![512, 512]⟩
abbrev S512x2048 : Shape := ⟨2, ![512, 2048]⟩
abbrev S1x6x2048 : Shape := ⟨3, ![1, 6, 2048]⟩
abbrev S4096x128 : Shape := ⟨2, ![4096, 128]⟩
abbrev S512x128 : Shape := ⟨2, ![512, 128]⟩
abbrev S1x512x2048 : Shape := ⟨3, ![1, 512, 2048]⟩
abbrev S1x1x2048 : Shape := ⟨3, ![1, 1, 2048]⟩
abbrev S512 : Shape := ⟨1, ![512]⟩
abbrev S512x1 : Shape := ⟨2, ![512, 1]⟩
abbrev S512x1024 : Shape := ⟨2, ![512, 1024]⟩
abbrev S512x256 : Shape := ⟨2, ![512, 256]⟩

abbrev nBuf : Space → Nat
  | .hbm => 24
  | .vmem => 21
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x512, .bf16⟩
  | .hbm, ⟨3, _⟩ => ⟨S16896x512, .bf16⟩
  | .hbm, ⟨4, _⟩ => ⟨S2048x2048, .f32⟩
  | .hbm, ⟨5, _⟩ => ⟨S16896x2048, .f32⟩
  | .hbm, ⟨6, _⟩ => ⟨S8x6x2048, .f32⟩
  | .hbm, ⟨7, _⟩ => ⟨S2048, .f32⟩
  | .hbm, ⟨8, _⟩ => ⟨S2048x4, .f32⟩
  | .hbm, ⟨9, _⟩ => ⟨S2048x32, .f32⟩
  | .hbm, ⟨10, _⟩ => ⟨S_, .f32⟩
  | .hbm, ⟨11, _⟩ => ⟨S2048x92, .f32⟩
  | .hbm, ⟨12, _⟩ => ⟨S2048x128, .f32⟩
  | .hbm, ⟨13, _⟩ => ⟨S2048x128, .bf16⟩
  | .hbm, ⟨14, _⟩ => ⟨S2048x128, .f32⟩
  | .hbm, ⟨15, _⟩ => ⟨S2048x128, .f32⟩
  | .hbm, ⟨16, _⟩ => ⟨S2048x128, .bf16⟩
  | .hbm, ⟨17, _⟩ => ⟨S2048x256, .bf16⟩
  | .hbm, ⟨18, _⟩ => ⟨S2048x2048, .bf16⟩
  | .hbm, ⟨19, _⟩ => ⟨S4x512x2048, .bf16⟩
  | .hbm, ⟨20, _⟩ => ⟨S1x2048, .f32⟩
  | .hbm, ⟨21, _⟩ => ⟨S16896x2048, .f32⟩
  | .hbm, ⟨22, _⟩ => ⟨S135168x128, .i32⟩
  | .hbm, ⟨23, _⟩ => ⟨S16896x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x512x2048, .bf16⟩
  | .local _ .vmem, ⟨9, _⟩ => ⟨S512x2048, .f32⟩
  | .local _ .vmem, ⟨10, _⟩ => ⟨S512x2048, .f32⟩
  | .local _ .vmem, ⟨11, _⟩ => ⟨S1x6x2048, .f32⟩
  | .local _ .vmem, ⟨12, _⟩ => ⟨S1x6x2048, .f32⟩
  | .local _ .vmem, ⟨13, _⟩ => ⟨S1x2048, .f32⟩
  | .local _ .vmem, ⟨14, _⟩ => ⟨S2048x256, .bf16⟩
  | .local _ .vmem, ⟨15, _⟩ => ⟨S512x2048, .f32⟩
  | .local _ .vmem, ⟨16, _⟩ => ⟨S512x2048, .f32⟩
  | .local _ .vmem, ⟨17, _⟩ => ⟨S4096x128, .i32⟩
  | .local _ .vmem, ⟨18, _⟩ => ⟨S4096x128, .i32⟩
  | .local _ .vmem, ⟨19, _⟩ => ⟨S512x128, .f32⟩
  | .local _ .vmem, ⟨20, _⟩ => ⟨S512x128, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c512_i32_0 : BitVec 32 := 512#32
  let v2 : BitVec 32 := Scalar.muli arg0 c512_i32_0
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8192_i32 c0_i32_2
  let v10 : BitVec 32 := Scalar.extui v9
  let c0_i32_3 : BitVec 32 := 0#32
  let v11 : BitVec 1 := Scalar.cmpi .slt c8192_i32 c0_i32_3
  let v12 : BitVec 32 := Scalar.extui v11
  let v13 : BitVec 32 := Scalar.subi v10 v12
  let v14 : BitVec 1 := Scalar.cmpi .ne v8 v13
  let v15 : BitVec 32 := Scalar.remsi v2 c8192_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c2_i32 : BitVec 32 := 2#32
  let v20 : BitVec 32 := Scalar.select v1 v19 c2_i32
  let c0_i32_5 : BitVec 32 := 0#32
  let c0_i32_6 : BitVec 32 := 0#32
  let c0_i32_7 : BitVec 32 := 0#32
  ![v20.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
abbrev S16896x512 : Shape := ⟨2, ![16896, 512]⟩
abbrev S2048x2048 : Shape := ⟨2, ![2048, 2048]⟩
abbrev S16896x2048 : Shape := ⟨2, ![16896, 2048]⟩
abbrev S8x6x2048 : Shape := ⟨3, ![8, 6, 2048]⟩
abbrev S2048 : Shape := ⟨1, ![2048]⟩
abbrev S2048x4 : Shape := ⟨2, ![2048, 4]⟩
abbrev S2048x32 : Shape := ⟨2, ![2048, 32]⟩
abbrev S_ : Shape := ⟨0, ![]⟩
abbrev S2048x92 : Shape := ⟨2, ![2048, 92]⟩
abbrev S2048x128 : Shape := ⟨2, ![2048, 128]⟩
abbrev S2048x256 : Shape := ⟨2, ![2048, 256]⟩
abbrev S4x512x2048 : Shape := ⟨3, ![4, 512, 2048]⟩
abbrev S1x2048 : Shape := ⟨2, ![1, 2048]⟩
abbrev S135168x2x128 : Shape := ⟨3, ![135168, 2, 128]⟩
abbrev S16896x128 : Shape := ⟨2, ![16896, 128]⟩
abbrev S135168x1x128 : Shape := ⟨3, ![135168, 1, 128]⟩
abbrev S135168x128 : Shape := ⟨2, ![135168, 128]⟩
abbrev S512x512 : Shape := ⟨2, ![512, 512]⟩
abbrev S512x2048 : Shape := ⟨2, ![512, 2048]⟩
abbrev S1x6x2048 : Shape := ⟨3, ![1, 6, 2048]⟩
abbrev S4096x128 : Shape := ⟨2, ![4096, 128]⟩
abbrev S4096x2x128 : Shape := ⟨3, ![4096, 2, 128]⟩
abbrev S4096x1x128 : Shape := ⟨3, ![4096, 1, 128]⟩
abbrev S512x128 : Shape := ⟨2, ![512, 128]⟩
abbrev S1x512x2048 : Shape := ⟨3, ![1, 512, 2048]⟩
abbrev S1x1x2048 : Shape := ⟨3, ![1, 1, 2048]⟩
abbrev S512 : Shape := ⟨1, ![512]⟩
abbrev S512x1 : Shape := ⟨2, ![512, 1]⟩
abbrev S512x1024 : Shape := ⟨2, ![512, 1024]⟩
abbrev S512x2x128 : Shape := ⟨3, ![512, 2, 128]⟩
abbrev S512x1x128 : Shape := ⟨3, ![512, 1, 128]⟩
abbrev S512x256 : Shape := ⟨2, ![512, 256]⟩

abbrev nBuf : Space → Nat
  | .hbm => 24
  | .vmem => 21
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x512, .bf16⟩
  | .hbm, ⟨3, _⟩ => ⟨S16896x512, .bf16⟩
  | .hbm, ⟨4, _⟩ => ⟨S2048x2048, .f32⟩
  | .hbm, ⟨5, _⟩ => ⟨S16896x2048, .f32⟩
  | .hbm, ⟨6, _⟩ => ⟨S8x6x2048, .f32⟩
  | .hbm, ⟨7, _⟩ => ⟨S2048, .f32⟩
  | .hbm, ⟨8, _⟩ => ⟨S2048x4, .f32⟩
  | .hbm, ⟨9, _⟩ => ⟨S2048x32, .f32⟩
  | .hbm, ⟨10, _⟩ => ⟨S_, .f32⟩
  | .hbm, ⟨11, _⟩ => ⟨S2048x92, .f32⟩
  | .hbm, ⟨12, _⟩ => ⟨S2048x128, .f32⟩
  | .hbm, ⟨13, _⟩ => ⟨S2048x128, .bf16⟩
  | .hbm, ⟨14, _⟩ => ⟨S2048x128, .f32⟩
  | .hbm, ⟨15, _⟩ => ⟨S2048x128, .f32⟩
  | .hbm, ⟨16, _⟩ => ⟨S2048x128, .bf16⟩
  | .hbm, ⟨17, _⟩ => ⟨S2048x256, .bf16⟩
  | .hbm, ⟨18, _⟩ => ⟨S2048x2048, .bf16⟩
  | .hbm, ⟨19, _⟩ => ⟨S4x512x2048, .bf16⟩
  | .hbm, ⟨20, _⟩ => ⟨S1x2048, .f32⟩
  | .hbm, ⟨21, _⟩ => ⟨S16896x2048, .f32⟩
  | .hbm, ⟨22, _⟩ => ⟨S135168x2x128, .bf16⟩
  | .hbm, ⟨23, _⟩ => ⟨S16896x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x512x2048, .bf16⟩
  | .local _ .vmem, ⟨9, _⟩ => ⟨S512x2048, .f32⟩
  | .local _ .vmem, ⟨10, _⟩ => ⟨S512x2048, .f32⟩
  | .local _ .vmem, ⟨11, _⟩ => ⟨S1x6x2048, .f32⟩
  | .local _ .vmem, ⟨12, _⟩ => ⟨S1x6x2048, .f32⟩
  | .local _ .vmem, ⟨13, _⟩ => ⟨S1x2048, .f32⟩
  | .local _ .vmem, ⟨14, _⟩ => ⟨S2048x256, .bf16⟩
  | .local _ .vmem, ⟨15, _⟩ => ⟨S512x2048, .f32⟩
  | .local _ .vmem, ⟨16, _⟩ => ⟨S512x2048, .f32⟩
  | .local _ .vmem, ⟨17, _⟩ => ⟨S4096x2x128, .bf16⟩
  | .local _ .vmem, ⟨18, _⟩ => ⟨S4096x2x128, .bf16⟩
  | .local _ .vmem, ⟨19, _⟩ => ⟨S512x128, .f32⟩
  | .local _ .vmem, ⟨20, _⟩ => ⟨S512x128, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c512_i32_0 : BitVec 32 := 512#32
  let v2 : BitVec 32 := Scalar.muli arg0 c512_i32_0
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8192_i32 c0_i32_2
  let v10 : BitVec 32 := Scalar.extui v9
  let c0_i32_3 : BitVec 32 := 0#32
  let v11 : BitVec 1 := Scalar.cmpi .slt c8192_i32 c0_i32_3
  let v12 : BitVec 32 := Scalar.extui v11
  let v13 : BitVec 32 := Scalar.subi v10 v12
  let v14 : BitVec 1 := Scalar.cmpi .ne v8 v13
  let v15 : BitVec 32 := Scalar.remsi v2 c8192_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c2_i32 : BitVec 32 := 2#32
  let v20 : BitVec 32 := Scalar.select v1 v19 c2_i32
  let c0_i32_5 : BitVec 32 := 0#32
  let c0_i32_6 : BitVec 32 := 0#32
  let c0_i32_7 : BitVec 32 := 0#32
  ![v20.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x2x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16896x512 : Shape := ⟨2, ![16896, 512]⟩
abbrev S2048x2048 : Shape := ⟨2, ![2048, 2048]⟩
abbrev S16896x2048 : Shape := ⟨2, ![16896, 2048]⟩
abbrev S8x6x2048 : Shape := ⟨3, ![8, 6, 2048]⟩
abbrev S2048 : Shape := ⟨1, ![2048]⟩
abbrev S2048x4 : Shape := ⟨2, ![2048, 4]⟩
abbrev S2048x32 : Shape := ⟨2, ![2048, 32]⟩
abbrev S2x1x2048 : Shape := ⟨3, ![2, 1, 2048]⟩
abbrev S2x2048 : Shape := ⟨2, ![2, 2048]⟩
abbrev S2x8192x2048 : Shape := ⟨3, ![2, 8192, 2048]⟩
abbrev S16384x2048 : Shape := ⟨2, ![16384, 2048]⟩
abbrev S1x1x2048 : Shape := ⟨3, ![1, 1, 2048]⟩
abbrev S512x2048 : Shape := ⟨2, ![512, 2048]⟩
abbrev S_ : Shape := ⟨0, ![]⟩
abbrev S16896 : Shape := ⟨1, ![16896]⟩
abbrev S16896x1 : Shape := ⟨2, ![16896, 1]⟩
abbrev S1x2048 : Shape := ⟨2, ![1, 2048]⟩
abbrev S16896x4 : Shape := ⟨2, ![16896, 4]⟩
abbrev S16896x32 : Shape := ⟨2, ![16896, 32]⟩
abbrev S16896x92 : Shape := ⟨2, ![16896, 92]⟩
abbrev S16896x128 : Shape := ⟨2, ![16896, 128]⟩

abbrev nBuf : Space → Nat
  | .hbm => 71
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x512, .bf16⟩
  | .hbm, ⟨3, _⟩ => ⟨S16896x512, .bf16⟩
  | .hbm, ⟨4, _⟩ => ⟨S2048x2048, .f32⟩
  | .hbm, ⟨5, _⟩ => ⟨S16896x2048, .f32⟩
  | .hbm, ⟨6, _⟩ => ⟨S8x6x2048, .f32⟩
  | .hbm, ⟨7, _⟩ => ⟨S2048, .f32⟩
  | .hbm, ⟨8, _⟩ => ⟨S2048x4, .f32⟩
  | .hbm, ⟨9, _⟩ => ⟨S2048x32, .f32⟩
  | .hbm, ⟨10, _⟩ => ⟨S16896x512, .f32⟩
  | .hbm, ⟨11, _⟩ => ⟨S16896x512, .f32⟩
  | .hbm, ⟨12, _⟩ => ⟨S16896x512, .f32⟩
  | .hbm, ⟨13, _⟩ => ⟨S16896x512, .f32⟩
  | .hbm, ⟨14, _⟩ => ⟨S16896x2048, .f32⟩
  | .hbm, ⟨15, _⟩ => ⟨S2x1x2048, .f32⟩
  | .hbm, ⟨16, _⟩ => ⟨S2x2048, .f32⟩
  | .hbm, ⟨17, _⟩ => ⟨S2x1x2048, .f32⟩
  | .hbm, ⟨18, _⟩ => ⟨S2x8192x2048, .f32⟩
  | .hbm, ⟨19, _⟩ => ⟨S16384x2048, .f32⟩
  | .hbm, ⟨20, _⟩ => ⟨S1x1x2048, .f32⟩
  | .hbm, ⟨21, _⟩ => ⟨S2048, .f32⟩
  | .hbm, ⟨22, _⟩ => ⟨S512x2048, .f32⟩
  | .hbm, ⟨23, _⟩ => ⟨S16896x2048, .f32⟩
  | .hbm, ⟨24, _⟩ => ⟨S16896x2048, .f32⟩
  | .hbm, ⟨25, _⟩ => ⟨S16896x2048, .f32⟩
  | .hbm, ⟨26, _⟩ => ⟨S16896x2048, .f32⟩
  | .hbm, ⟨27, _⟩ => ⟨S16896x2048, .f32⟩
  | .hbm, ⟨28, _⟩ => ⟨S_, .f32⟩
  | .hbm, ⟨29, _⟩ => ⟨S16896, .f32⟩
  | .hbm, ⟨30, _⟩ => ⟨S16896x1, .f32⟩
  | .hbm, ⟨31, _⟩ => ⟨S_, .f32⟩
  | .hbm, ⟨32, _⟩ => ⟨S16896x1, .f32⟩
  | .hbm, ⟨33, _⟩ => ⟨S16896x1, .f32⟩
  | .hbm, ⟨34, _⟩ => ⟨S_, .f32⟩
  | .hbm, ⟨35, _⟩ => ⟨S16896x1, .f32⟩
  | .hbm, ⟨36, _⟩ => ⟨S16896x1, .f32⟩
  | .hbm, ⟨37, _⟩ => ⟨S16896x1, .f32⟩
  | .hbm, ⟨38, _⟩ => ⟨S16896x2048, .f32⟩
  | .hbm, ⟨39, _⟩ => ⟨S16896x2048, .f32⟩
  | .hbm, ⟨40, _⟩ => ⟨S1x2048, .f32⟩
  | .hbm, ⟨41, _⟩ => ⟨S16896x2048, .f32⟩
  | .hbm, ⟨42, _⟩ => ⟨S16896x2048, .f32⟩
  | .hbm, ⟨43, _⟩ => ⟨S2x1x2048, .f32⟩
  | .hbm, ⟨44, _⟩ => ⟨S2x2048, .f32⟩
  | .hbm, ⟨45, _⟩ => ⟨S2x1x2048, .f32⟩
  | .hbm, ⟨46, _⟩ => ⟨S2x8192x2048, .f32⟩
  | .hbm, ⟨47, _⟩ => ⟨S16384x2048, .f32⟩
  | .hbm, ⟨48, _⟩ => ⟨S1x1x2048, .f32⟩
  | .hbm, ⟨49, _⟩ => ⟨S2048, .f32⟩
  | .hbm, ⟨50, _⟩ => ⟨S512x2048, .f32⟩
  | .hbm, ⟨51, _⟩ => ⟨S16896x2048, .f32⟩
  | .hbm, ⟨52, _⟩ => ⟨S_, .f32⟩
  | .hbm, ⟨53, _⟩ => ⟨S16896x2048, .f32⟩
  | .hbm, ⟨54, _⟩ => ⟨S16896x2048, .f32⟩
  | .hbm, ⟨55, _⟩ => ⟨S16896x2048, .f32⟩
  | .hbm, ⟨56, _⟩ => ⟨S2x1x2048, .f32⟩
  | .hbm, ⟨57, _⟩ => ⟨S2x2048, .f32⟩
  | .hbm, ⟨58, _⟩ => ⟨S2x1x2048, .f32⟩
  | .hbm, ⟨59, _⟩ => ⟨S2x8192x2048, .f32⟩
  | .hbm, ⟨60, _⟩ => ⟨S16384x2048, .f32⟩
  | .hbm, ⟨61, _⟩ => ⟨S1x1x2048, .f32⟩
  | .hbm, ⟨62, _⟩ => ⟨S2048, .f32⟩
  | .hbm, ⟨63, _⟩ => ⟨S512x2048, .f32⟩
  | .hbm, ⟨64, _⟩ => ⟨S16896x2048, .f32⟩
  | .hbm, ⟨65, _⟩ => ⟨S16896x2048, .f32⟩
  | .hbm, ⟨66, _⟩ => ⟨S16896x4, .f32⟩
  | .hbm, ⟨67, _⟩ => ⟨S16896x32, .f32⟩
  | .hbm, ⟨68, _⟩ => ⟨S_, .f32⟩
  | .hbm, ⟨69, _⟩ => ⟨S16896x92, .f32⟩
  | .hbm, ⟨70, _⟩ => ⟨S16896x128, .f32⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_3 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Kernel4.lean ====
abbrev S16896x2048 : Shape := ⟨2, ![16896, 2048]⟩
abbrev S33792x2048 : Shape := ⟨2, ![33792, 2048]⟩
abbrev S16896x2 : Shape := ⟨2, ![16896, 2]⟩
abbrev S8x6x2048 : Shape := ⟨3, ![8, 6, 2048]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S512x2 : Shape := ⟨2, ![512, 2]⟩
abbrev S1x6x2048 : Shape := ⟨3, ![1, 6, 2048]⟩
abbrev S512x1 : Shape := ⟨2, ![512, 1]⟩
abbrev S1x1x2048 : Shape := ⟨3, ![1, 1, 2048]⟩
abbrev S512 : Shape := ⟨1, ![512]⟩

abbrev nBuf : Space → Nat
  | .hbm => 7
  | .vmem => 13
  | .smem => 0
  | _ => 0

abbrev bufTy : (tb : Table) → Fin (tcTables nBuf tb) → BufTy
  | .hbm, ⟨0, _⟩ => ⟨S16896x2048, .f32⟩
  | .hbm, ⟨1, _⟩ => ⟨S33792x2048, .bf16⟩
  | .hbm, ⟨2, _⟩ => ⟨S16896x2, .f32⟩
  | .hbm, ⟨3, _⟩ => ⟨S8x6x2048, .f32⟩
  | .hbm, ⟨4, _⟩ => ⟨S2048, .f32⟩
  | .hbm, ⟨5, _⟩ => ⟨S1x2048, .f32⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2, .f32⟩
  | .local _ .vmem, ⟨7, _⟩ => ⟨S512x2, .f32⟩
  | .local _ .vmem, ⟨8, _⟩ => ⟨S1x6x2048, .f32⟩
  | .local _ .vmem, ⟨9, _⟩ => ⟨S1x6x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c33_i32 : BitVec 32 := 33#32
  let v0 : BitVec 32 := Scalar.addi arg0 c33_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c512_i32_0 : BitVec 32 := 512#32
  let v2 : BitVec 32 := Scalar.muli arg0 c512_i32_0
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8192_i32 c0_i32_2
  let v10 : BitVec 32 := Scalar.extui v9
  let c0_i32_3 : BitVec 32 := 0#32
  let v11 : BitVec 1 := Scalar.cmpi .slt c8192_i32 c0_i32_3
  let v12 : BitVec 32 := Scalar.extui v11
  let v13 : BitVec 32 := Scalar.subi v10 v12
  let v14 : BitVec 1 := Scalar.cmpi .ne v8 v13
  let v15 : BitVec 32 := Scalar.remsi v2 c8192_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c2_i32 : BitVec 32 := 2#32
  let v20 : BitVec 32 := Scalar.select v1 v19 c2_i32
  let c0_i32_5 : BitVec 32 := 0#32
  let c0_i32_6 : BitVec 32 := 0#32
  let c0_i32_7 : BitVec 32 := 0#32
  ![v20.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16896x2048 : Shape := ⟨2, ![16896, 2048]⟩
abbrev S33792x2048 : Shape := ⟨2, ![33792, 2048]⟩
abbrev S16896x2 : Shape := ⟨2, ![16896, 2]⟩
abbrev S8x6x2048 : Shape := ⟨3, ![8, 6, 2048]⟩
abbrev S2048 : Shape := ⟨1, ![2048]⟩
abbrev S2x16896x2048 : Shape := ⟨3, ![2, 16896, 2048]⟩
abbrev S2x16896 : Shape := ⟨2, ![2, 16896]⟩
abbrev S2x16896x1 : Shape := ⟨3, ![2, 16896, 1]⟩
abbrev S_ : Shape := ⟨0, ![]⟩
abbrev S16384x2048 : Shape := ⟨2, ![16384, 2048]⟩
abbrev S2x8192x2048 : Shape := ⟨3, ![2, 8192, 2048]⟩
abbrev S2x1x2048 : Shape := ⟨3, ![2, 1, 2048]⟩
abbrev S2x2048 : Shape := ⟨2, ![2, 2048]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S33792x2048, .bf16⟩
  | .hbm, ⟨2, _⟩ => ⟨S16896x2, .f32⟩
  | .hbm, ⟨3, _⟩ => ⟨S8x6x2048, .f32⟩
  | .hbm, ⟨4, _⟩ => ⟨S2048, .f32⟩
  | .hbm, ⟨5, _⟩ => ⟨S33792x2048, .f32⟩
  | .hbm, ⟨6, _⟩ => ⟨S2x16896x2048, .f32⟩
  | .hbm, ⟨7, _⟩ => ⟨S2x16896, .f32⟩
  | .hbm, ⟨8, _⟩ => ⟨S2x16896x1, .f32⟩
  | .hbm, ⟨9, _⟩ => ⟨S2x16896x2048, .f32⟩
  | .hbm, ⟨10, _⟩ => ⟨S2x16896x2048, .f32⟩
  | .hbm, ⟨11, _⟩ => ⟨S_, .f32⟩
  | .hbm, ⟨12, _⟩ => ⟨S16896x2048, .f32⟩
  | .hbm, ⟨13, _⟩ => ⟨S16384x2048, .f32⟩
  | .hbm, ⟨14, _⟩ => ⟨S2x8192x2048, .f32⟩
  | .hbm, ⟨15, _⟩ => ⟨S2x1x2048, .f32⟩
  | .hbm, ⟨16, _⟩ => ⟨S2x2048, .f32⟩
  | .hbm, ⟨17, _⟩ => ⟨S2x1x2048, .f32⟩
  | .hbm, ⟨18, _⟩ => ⟨S16384x2048, .f32⟩
  | .hbm, ⟨19, _⟩ => ⟨S2x8192x2048, .f32⟩
  | .hbm, ⟨20, _⟩ => ⟨S2x8192x2048, .f32⟩
  | .hbm, ⟨21, _⟩ => ⟨S2x8192x2048, .f32⟩
  | .hbm, ⟨22, _⟩ => ⟨S2x8192x2048, .f32⟩
  | .hbm, ⟨23, _⟩ => ⟨S2x8192x2048, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x2048, .f32⟩
  | .hbm, ⟨35, _⟩ => ⟨S2x8192x2048, .f32⟩
  | .hbm, ⟨36, _⟩ => ⟨S1x1x2048, .f32⟩
  | .hbm, ⟨37, _⟩ => ⟨S2x8192x2048, .f32⟩
  | .hbm, ⟨38, _⟩ => ⟨S2x8192x2048, .f32⟩
  | .hbm, ⟨39, _⟩ => ⟨S16384x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel5.lean ====
abbrev S16896x2048 : Shape := ⟨2, ![16896, 2048]⟩
abbrev S33792x2048 : Shape := ⟨2, ![33792, 2048]⟩
abbrev S16896x2 : Shape := ⟨2, ![16896, 2]⟩
abbrev S8x6x2048 : Shape := ⟨3, ![8, 6, 2048]⟩
abbrev S2048 : Shape := ⟨1, ![2048]⟩
abbrev S1x2048 : Shape := ⟨2, ![1, 2048]⟩
abbrev S512x2048 : Shape := ⟨2, ![512, 2048]⟩
abbrev S512x2 : Shape := ⟨2, ![512, 2]⟩
abbrev S1x6x2048 : Shape := ⟨3, ![1, 6, 2048]⟩
abbrev S512x1 : Shape := ⟨2, ![512, 1]⟩
abbrev S1x1x2048 : Shape := ⟨3, ![1, 1, 2048]⟩
abbrev S512 : Shape := ⟨1, ![512]⟩

abbrev nBuf : Space → Nat
  | .hbm => 9
  | .vmem => 17
  | .smem => 0
  | _ => 0

abbrev bufTy : (tb : Table) → Fin (tcTables nBuf tb) → BufTy
  | .hbm, ⟨0, _⟩ => ⟨S16896x2048, .f32⟩
  | .hbm, ⟨1, _⟩ => ⟨S33792x2048, .bf16⟩
  | .hbm, ⟨2, _⟩ => ⟨S16896x2, .f32⟩
  | .hbm, ⟨3, _⟩ => ⟨S8x6x2048, .f32⟩
  | .hbm, ⟨4, _⟩ => ⟨S2048, .f32⟩
  | .hbm, ⟨5, _⟩ => ⟨S8x6x2048, .f32⟩
  | .hbm, ⟨6, _⟩ => ⟨S1x2048, .f32⟩
  | .hbm, ⟨7, _⟩ => ⟨S16896x2048, .f32⟩
  | .hbm, ⟨8, _⟩ => ⟨S16896x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2, .f32⟩
  | .local _ .vmem, ⟨7, _⟩ => ⟨S512x2, .f32⟩
  | .local _ .vmem, ⟨8, _⟩ => ⟨S1x6x2048, .f32⟩
  | .local _ .vmem, ⟨9, _⟩ => ⟨S1x6x2048, .f32⟩
  | .local _ .vmem, ⟨10, _⟩ => ⟨S1x2048, .f32⟩
  | .local _ .vmem, ⟨11, _⟩ => ⟨S1x6x2048, .f32⟩
  | .local _ .vmem, ⟨12, _⟩ => ⟨S1x6x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c33_i32 : BitVec 32 := 33#32
  let v0 : BitVec 32 := Scalar.addi arg0 c33_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c512_i32_0 : BitVec 32 := 512#32
  let v2 : BitVec 32 := Scalar.muli arg0 c512_i32_0
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8192_i32 c0_i32_2
  let v10 : BitVec 32 := Scalar.extui v9
  let c0_i32_3 : BitVec 32 := 0#32
  let v11 : BitVec 1 := Scalar.cmpi .slt c8192_i32 c0_i32_3
  let v12 : BitVec 32 := Scalar.extui v11
  let v13 : BitVec 32 := Scalar.subi v10 v12
  let v14 : BitVec 1 := Scalar.cmpi .ne v8 v13
  let v15 : BitVec 32 := Scalar.remsi v2 c8192_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c2_i32 : BitVec 32 := 2#32
  let v20 : BitVec 32 := Scalar.select v1 v19 c2_i32
  let c0_i32_5 : BitVec 32 := 0#32
  let c0_i32_6 : BitVec 32 := 0#32
  let c0_i32_7 : BitVec 32 := 0#32
  ![v20.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c512_i32_0 : BitVec 32 := 512#32
  let v2 : BitVec 32 := Scalar.muli arg0 c512_i32_0
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8192_i32 c0_i32_2
  let v10 : BitVec 32 := Scalar.extui v9
  let c0_i32_3 : BitVec 32 := 0#32
  let v11 : BitVec 1 := Scalar.cmpi .slt c8192_i32 c0_i32_3
  let v12 : BitVec 32 := Scalar.extui v11
  let v13 : BitVec 32 := Scalar.subi v10 v12
  let v14 : BitVec 1 := Scalar.cmpi .ne v8 v13
  let v15 : BitVec 32 := Scalar.remsi v2 c8192_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c2_i32 : BitVec 32 := 2#32
  let v20 : BitVec 32 := Scalar.select v1 v19 c2_i32
  let c0_i32_5 : BitVec 32 := 0#32
  let c0_i32_6 : BitVec 32 := 0#32
  let c0_i32_7 : BitVec 32 := 0#32
  ![v20.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x6x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16896x2048 : Shape := ⟨2, ![16896, 2048]⟩
abbrev S33792x2048 : Shape := ⟨2, ![33792, 2048]⟩
abbrev S16896x2 : Shape := ⟨2, ![16896, 2]⟩
abbrev S8x6x2048 : Shape := ⟨3, ![8, 6, 2048]⟩
abbrev S2048 : Shape := ⟨1, ![2048]⟩
abbrev S2x16896x2048 : Shape := ⟨3, ![2, 16896, 2048]⟩
abbrev S2x16896 : Shape := ⟨2, ![2, 16896]⟩
abbrev S2x16896x1 : Shape := ⟨3, ![2, 16896, 1]⟩
abbrev S_ : Shape := ⟨0, ![]⟩
abbrev S2x1x2048 : Shape := ⟨3, ![2, 1, 2048]⟩
abbrev S2x2048 : Shape := ⟨2, ![2, 2048]⟩
abbrev S2x8192x2048 : Shape := ⟨3, ![2, 8192, 2048]⟩
abbrev S16384x2048 : Shape := ⟨2, ![16384, 2048]⟩
abbrev S1x1x2048 : Shape := ⟨3, ![1, 1, 2048]⟩
abbrev S512x2048 : Shape := ⟨2, ![512, 2048]⟩
abbrev S16896 : Shape := ⟨1, ![16896]⟩
abbrev S16896x1 : Shape := ⟨2, ![16896, 1]⟩
abbrev S1x2048 : Shape := ⟨2, ![1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S33792x2048, .bf16⟩
  | .hbm, ⟨2, _⟩ => ⟨S16896x2, .f32⟩
  | .hbm, ⟨3, _⟩ => ⟨S8x6x2048, .f32⟩
  | .hbm, ⟨4, _⟩ => ⟨S2048, .f32⟩
  | .hbm, ⟨5, _⟩ => ⟨S8x6x2048, .f32⟩
  | .hbm, ⟨6, _⟩ => ⟨S33792x2048, .f32⟩
  | .hbm, ⟨7, _⟩ => ⟨S2x16896x2048, .f32⟩
  | .hbm, ⟨8, _⟩ => ⟨S2x16896, .f32⟩
  | .hbm, ⟨9, _⟩ => ⟨S2x16896x1, .f32⟩
  | .hbm, ⟨10, _⟩ => ⟨S2x16896x2048, .f32⟩
  | .hbm, ⟨11, _⟩ => ⟨S2x16896x2048, .f32⟩
  | .hbm, ⟨12, _⟩ => ⟨S_, .f32⟩
  | .hbm, ⟨13, _⟩ => ⟨S16896x2048, .f32⟩
  | .hbm, ⟨14, _⟩ => ⟨S2x1x2048, .f32⟩
  | .hbm, ⟨15, _⟩ => ⟨S2x2048, .f32⟩
  | .hbm, ⟨16, _⟩ => ⟨S2x1x2048, .f32⟩
  | .hbm, ⟨17, _⟩ => ⟨S2x8192x2048, .f32⟩
  | .hbm, ⟨18, _⟩ => ⟨S16384x2048, .f32⟩
  | .hbm, ⟨19, _⟩ => ⟨S1x1x2048, .f32⟩
  | .hbm, ⟨20, _⟩ => ⟨S2048, .f32⟩
  | .hbm, ⟨21, _⟩ => ⟨S512x2048, .f32⟩
  | .hbm, ⟨22, _⟩ => ⟨S16896x2048, .f32⟩
  | .hbm, ⟨23, _⟩ => ⟨S16896x2048, .f32⟩
  | .hbm, ⟨24, _⟩ => ⟨S16896x2048, .f32⟩
  | .hbm, ⟨25, _⟩ => ⟨S16896x2048, .f32⟩
  | .hbm, ⟨26, _⟩ => ⟨S_, .f32⟩
  | .hbm, ⟨27, _⟩ => ⟨S16896, .f32⟩
  | .hbm, ⟨28, _⟩ => ⟨S16896x1, .f32⟩
  | .hbm, ⟨29, _⟩ => ⟨S_, .f32⟩
  | .hbm, ⟨30, _⟩ => ⟨S16896x1, .f32⟩
  | .hbm, ⟨31, _⟩ => ⟨S16896x1, .f32⟩
  | .hbm, ⟨32, _⟩ => ⟨S_, .f32⟩
  | .hbm, ⟨33, _⟩ => ⟨S16896x1, .f32⟩
  | .hbm, ⟨34, _⟩ => ⟨S16896x1, .f32⟩
  | .hbm, ⟨35, _⟩ => ⟨S16896x1, .f32⟩
  | .hbm, ⟨36, _⟩ => ⟨S16896x2048, .f32⟩
  | .hbm, ⟨37, _⟩ => ⟨S16896x2048, .f32⟩
  | .hbm, ⟨38, _⟩ => ⟨S1x2048, .f32⟩
  | .hbm, ⟨39, _⟩ => ⟨S16896x2048, .f32⟩
  | .hbm, ⟨40, _⟩ => ⟨S16896x2048, .f32⟩
  | .hbm, ⟨41, _⟩ => ⟨S2x1x2048, .f32⟩
  | .hbm, ⟨42, _⟩ => ⟨S2x2048, .f32⟩
  | .hbm, ⟨43, _⟩ => ⟨S2x1x2048, .f32⟩
  | .hbm, ⟨44, _⟩ => ⟨S2x8192x2048, .f32⟩
  | .hbm, ⟨45, _⟩ => ⟨S16384x2048, .f32⟩
  | .hbm, ⟨46, _⟩ => ⟨S1x1x2048, .f32⟩
  | .hbm, ⟨47, _⟩ => ⟨S2048, .f32⟩
  | .hbm, ⟨48, _⟩ => ⟨S512x2048, .f32⟩
  | .hbm, ⟨49, _⟩ => ⟨S16896x2048, .f32⟩
  | .hbm, ⟨50, _⟩ => ⟨S_, .f32⟩
  | .hbm, ⟨51, _⟩ => ⟨S16896x2048, .f32⟩
  | .hbm, ⟨52, _⟩ => ⟨S16896x2048, .f32⟩
  | .hbm, ⟨53, _⟩ => ⟨S16896x2048, .f32⟩
  | .hbm, ⟨54, _⟩ => ⟨S2x1x2048, .f32⟩
  | .hbm, ⟨55, _⟩ => ⟨S2x2048, .f32⟩
  | .hbm, ⟨56, _⟩ => ⟨S2x1x2048, .f32⟩
  | .hbm, ⟨57, _⟩ => ⟨S2x8192x2048, .f32⟩
  | .hbm, ⟨58, _⟩ => ⟨S16384x2048, .f32⟩
  | .hbm, ⟨59, _⟩ => ⟨S1x1x2048, .f32⟩
  | .hbm, ⟨60, _⟩ => ⟨S2048, .f32⟩
  | .hbm, ⟨61, _⟩ => ⟨S512x2048, .f32⟩
  | .hbm, ⟨62, _⟩ => ⟨S16896x2048, .f32⟩
  | .hbm, ⟨63, _⟩ => ⟨S16896x2048, .f32⟩
  | .hbm, ⟨64, _⟩ => ⟨S16896x2048, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Proof.Chunk.lean ====
module

public import proofs.«01_k».proof.Proof.Gen.KernelIdeal.Skeleton
public import Idealize.ShloMosaic.Lib.Pointwise
public import Idealize.ShloMosaic.Lib.Pipeline.ValueKit

/-!
# One chunk of the kernel, for any head

The kernel writes the same chunk eight times: two chunks of 128 rows at a grid point, four heads each. Here it is once, with the
head's first lane `o` a variable: the attention matrix, the output block and the new state.
-/

@[expose] public section

set_option maxRecDepth 16384

noncomputable section

namespace Cert.KernelIdeal.Chunk

open Cert.KernelIdeal Cert.KernelIdeal.Gen Idealize.ShloMosaic Idealize.ShloMosaic.TcCoe Idealize.SL.Sem

variable {F : FTy → Type} [FloatOps F]

/-- The row numbers of a chunk. -/
def rowNo : IVec S128x512 32 := iota .tc S128x512 32 [0] iota_S128x512_d0_w32

/-- The row numbers inside a group of eight. -/
def rowIn8 : IVec S16x8x512 32 := iota .tc S16x8x512 32 [1] iota_S16x8x512_d1_w32

/-- The running sums of the log-gates. -/
def csum (lb : Vec F S1x1x512 .f32) (z : Vec F S128x512 .f32) : FVec F S128x512 .f32 := k0_pay10 k0_pay5 (k0_pay8 lb z)

/-- The operand of level `0`: queries times gate at odd rows, keys at even ones. -/
def lev0 (lb : Vec F S1x1x512 .f32) (z q : Vec F S128x512 .f32) : FVec F S128x512 .bf16 :=
  k0_pay15 rowNo (k0_pay7 lb z) (k0_pay9 lb z) q

/-- The operand of level `1`. -/
def lev1 (lb : Vec F S1x1x512 .f32) (z q : Vec F S128x512 .f32) : FVec F S128x512 .bf16 :=
  k0_pay16 k0_pay5 rowNo rowIn8 (k0_pay8 lb z) (k0_pay9 lb z) q

/-- The operand of level `2`. -/
def lev2 (lb : Vec F S1x1x512 .f32) (z q : Vec F S128x512 .f32) : FVec F S128x512 .bf16 :=
  k0_pay17 rowNo (k0_pay9 lb z) q (csum lb z) (k0_pay12 k0_pay5 (k0_pay8 lb z))

/-- The operand of level `3`. -/
def lev3 (lb : Vec F S1x1x512 .f32) (z q : Vec F S128x512 .f32) : FVec F S128x512 .bf16 :=
  k0_pay18 rowNo (k0_pay9 lb z) q (csum lb z)

/-- The operand of level `4`. -/
def lev4 (lb : Vec F S1x1x512 .f32) (z q : Vec F S128x512 .f32) : FVec F S128x512 .bf16 :=
  k0_pay19 rowNo (k0_pay9 lb z) q (csum lb z)

/-- The operand of level `5`. -/
def lev5 (lb : Vec F S1x1x512 .f32) (z q : Vec F S128x512 .f32) : FVec F S128x512 .bf16 :=
  k0_pay20 rowNo (k0_pay9 lb z) q (csum lb z) 32#32

/-- The operand of level `6`. -/
def lev6 (lb : Vec F S1x1x512 .f32) (z q : Vec F S128x512 .f32) : FVec F S128x512 .bf16 :=
  k0_pay21 rowNo (k0_pay9 lb z) q (csum lb z)

/-- The products of one head's lanes of two operands, rows against rows. -/
def gram (o : ℕ) (hs : S128x512.Slices ![0, o] S128x128) (a b : FVec F S128x512 .bf16) : FVec F S128x128 .f32 :=
  matmul dot_S128x128_S128x128_S128x128_1_1_0_0_n_n none (extractStridedSlice S128x128 ![0, o] a hs)
    (extractStridedSlice S128x128 ![0, o] b hs) (constant S128x128 .f32 0x00000000#32)

/-- Where the level of a pair of rows is `j`. -/
def atLevel (j : BitVec 32) : IVec S128x128 1 := cmpi .eq k0_pay4 (broadcast S128x128 j)

/-- The attention matrix of one head. -/
def att (o : ℕ) (hs : S128x512.Slices ![0, o] S128x128) (lb : Vec F S1x1x512 .f32) (z q : Vec F S128x512 .f32) : FVec F S128x128 .f32 :=
  select (atLevel 6#32) (gram o hs (lev6 lb z q) (lev6 lb z q))
    (select (atLevel 5#32) (gram o hs (lev5 lb z q) (lev5 lb z q))
      (select (atLevel 4#32) (gram o hs (lev4 lb z q) (lev4 lb z q))
        (select (atLevel 3#32) (gram o hs (lev3 lb z q) (lev3 lb z q))
          (select (atLevel 2#32) (gram o hs (lev2 lb z q) (lev2 lb z q))
            (select (atLevel 1#32) (gram o hs (lev1 lb z q) (lev1 lb z q))
              (select (atLevel 0#32) (gram o hs (lev0 lb z q) (lev0 lb z q))
                (select (atLevel 4294967295#32) (gram o hs (k0_pay13 q) (k0_pay14 (k0_pay9 lb z)))
                  (broadcast S128x128 (Scalar.ofBits .f32 0x00000000#32 : F .f32)))))))))

/-- The output block of one head. -/
def headOut (o : ℕ) (hs : S128x512.Slices ![0, o] S128x128) (lb : Vec F S1x1x512 .f32) (z q v : Vec F S128x512 .f32)
    (st : Vec F S1x128x128 .f32) : FVec F S128x128 .f32 :=
  addf (matmul dot_S128x128_S128x128_S128x128_1_0_0_1_n_n none (truncf .bf16 (att o hs lb z q) bitsLt_bf16_f32)
      (extractStridedSlice S128x128 ![0, o] (k0_pay24 v) hs) (constant S128x128 .f32 0x00000000#32))
    (matmul dot_S128x128_S128x128_S128x128_1_1_0_0_n_n none (extractStridedSlice S128x128 ![0, o] (k0_pay22 q (csum lb z)) hs)
      (truncf .bf16 (k0_pay36 st) bitsLt_bf16_f32) (constant S128x128 .f32 0x00000000#32))

/-- The state of one head after the chunk. -/
def headSt (o : ℕ) (hs : S128x512.Slices ![0, o] S128x128) (h1 : S1x512.Slices ![0, o] S1x128) (lb : Vec F S1x1x512 .f32)
    (z v : Vec F S128x512 .f32) (st : Vec F S1x128x128 .f32) : FVec F S1x128x128 .f32 :=
  shapeCast S1x128x128 (addf (mulf (k0_pay36 st) (broadcastTo S128x128
      (extractStridedSlice S1x128 ![0, o] (k0_pay25 (k0_pay11 (k0_pay8 lb z))) h1) broadcasts_S1x128_S128x128))
    (matmul dot_S128x128_S128x128_S128x128_0_0_1_1_n_n none (extractStridedSlice S128x128 ![0, o] (k0_pay24 v) hs)
      (extractStridedSlice S128x128 ![0, o] (k0_pay23 (k0_pay9 lb z) (csum lb z) (k0_pay11 (k0_pay8 lb z))) hs)
      (constant S128x128 .f32 0x00000000#32))) shapeCasts_S128x128_S1x128x128

end Cert.KernelIdeal.Chunk

end
-- ==== Proof.Recurrence.lean ====
module

public import Mathlib.Analysis.SpecialFunctions.Log.Basic
public import Mathlib.Analysis.SpecialFunctions.Trigonometric.DerivHyp

/-!
# The gated linear recurrence over the reals

`gateState g k v n l w` is the entry (key lane `l`, value lane `w`) of the state after `n` rows: a row decays the key lane by
`exp (g n l)` and adds `k n l * v n w`. `gateOut` contracts the state after row `n` with the row's query over the 128 lanes of the
head that the value lane belongs to. The lemmas run both over a chunk of rows at once, which is how the kernel (128 rows) and the
reference (64 rows) compute them.
-/

@[expose] public section

noncomputable section

namespace Hgrn

open Finset

/-- The state's entry after `n` rows. -/
def gateState (g k v : ℕ → ℕ → ℝ) : ℕ → ℕ → ℕ → ℝ
  | 0, _, _ => 0
  | n + 1, l, w => Real.exp (g n l) * gateState g k v n l w + k n l * v n w

/-- The output row: the query against the state that already holds the row. -/
def gateOut (g q k v : ℕ → ℕ → ℝ) (n w : ℕ) : ℝ :=
  ∑ c ∈ range 128, q n (128 * (w / 128) + c) * gateState g k v (n + 1) (128 * (w / 128) + c) w

/-- The sum of the first `t` log-decays of a chunk that starts at row `n`. -/
def decay (g : ℕ → ℕ → ℝ) (n t l : ℕ) : ℝ := ∑ i ∈ range t, g (n + i) l

theorem decay_zero (g : ℕ → ℕ → ℝ) (n l : ℕ) : decay g n 0 l = 0 := by simp [decay]

theorem decay_succ (g : ℕ → ℕ → ℝ) (n t l : ℕ) : decay g n (t + 1) l = decay g n t l + g (n + t) l := by
  simp [decay, sum_range_succ]

/-- The state after `t` rows of a chunk, from the state the chunk starts with. -/
theorem gateState_chunk (g k v : ℕ → ℕ → ℝ) (n l w t : ℕ) :
    gateState g k v (n + t) l w = gateState g k v n l w * Real.exp (decay g n t l)
      + ∑ s ∈ range t, v (n + s) w * (k (n + s) l * Real.exp (decay g n t l - decay g n (s + 1) l)) := by
  induction t with
  | zero => simp [decay_zero]
  | succ t ih =>
    rw [← Nat.add_assoc, gateState, ih, sum_range_succ, sub_self, Real.exp_zero, mul_add, mul_sum, decay_succ, Real.exp_add]
    have h : ∀ s ∈ range t, Real.exp (g (n + t) l) * (v (n + s) w * (k (n + s) l * Real.exp (decay g n t l - decay g n (s + 1) l)))
        = v (n + s) w * (k (n + s) l * Real.exp (decay g n t l + g (n + t) l - decay g n (s + 1) l)) := by
      intro s _
      rw [show decay g n t l + g (n + t) l - decay g n (s + 1) l = g (n + t) l + (decay g n t l - decay g n (s + 1) l) by ring,
        Real.exp_add]
      ring
    rw [sum_congr rfl h]
    ring

/-- The output of row `t` of a chunk of `T` rows: the attention of the chunk's earlier rows and the state the chunk starts with. -/
theorem gateOut_chunk (g q k v : ℕ → ℕ → ℝ) (n w t T : ℕ) (ht : t < T) :
    gateOut g q k v (n + t) w
      = (∑ s ∈ range T, (if s ≤ t then ∑ c ∈ range 128, q (n + t) (128 * (w / 128) + c) * k (n + s) (128 * (w / 128) + c)
            * Real.exp (decay g n (t + 1) (128 * (w / 128) + c) - decay g n (s + 1) (128 * (w / 128) + c)) else 0) * v (n + s) w)
        + ∑ c ∈ range 128, q (n + t) (128 * (w / 128) + c) * Real.exp (decay g n (t + 1) (128 * (w / 128) + c))
            * gateState g k v n (128 * (w / 128) + c) w := by
  have hs : ∀ f : ℕ → ℝ, ∑ s ∈ range T, (if s ≤ t then f s else 0) * v (n + s) w = ∑ s ∈ range (t + 1), f s * v (n + s) w := by
    intro f
    rw [← sum_subset (range_subset_range.2 (Nat.succ_le_of_lt ht) : range (t + 1) ⊆ range T)]
    · exact sum_congr rfl fun s hs => by rw [if_pos (Nat.lt_succ_iff.1 (mem_range.1 hs))]
    · intro s _ hs
      rw [if_neg (fun h => hs (mem_range.2 (Nat.lt_succ_of_le h))), zero_mul]
  rw [hs]
  unfold gateOut
  simp only [Nat.add_assoc, gateState_chunk, mul_add, mul_sum, sum_mul]
  rw [sum_add_distrib, add_comm]
  congr 1
  · rw [sum_comm]
    exact sum_congr rfl fun s _ => sum_congr rfl fun c _ => by ring
  · exact sum_congr rfl fun c _ => by ring

/-- A half angle's hyperbolic tangent writes the sigmoid. -/
theorem half_tanh (x : ℝ) : 1 / 2 * Real.tanh (1 / 2 * x) + 1 / 2 = (1 + Real.exp (-x))⁻¹ := by
  have h0 : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have p := Real.exp_pos (1 / 2 * x)
  have p' := Real.exp_pos (-(1 / 2 * x))
  rw [Real.tanh_eq_sinh_div_cosh, Real.sinh_eq, Real.cosh_eq, h0]
  have e : Real.exp (-(1 / 2 * x)) = (Real.exp (1 / 2 * x))⁻¹ := by rw [Real.exp_neg]
  rw [e]
  field_simp
  ring

/-- One minus the sigmoid is the sigmoid of the opposite. -/
theorem one_sub_sigmoid (x : ℝ) : 1 - (1 + Real.exp (-x))⁻¹ = (1 + Real.exp x)⁻¹ := by
  have p := Real.exp_pos x
  rw [Real.exp_neg]
  field_simp
  ring

/-- The gate: `lb + (1 - lb) * sigmoid z`. -/
def gate (lb z : ℝ) : ℝ := lb + (1 - lb) * (1 + Real.exp (-z))⁻¹

/-- The key: `(1 - lb) * sigmoid (-z)`. -/
def key (lb z : ℝ) : ℝ := (1 - lb) * (1 + Real.exp z)⁻¹

theorem gate_pos {lb : ℝ} (h0 : 0 ≤ lb) (h1 : lb < 1) (z : ℝ) : 0 < gate lb z := by
  unfold gate
  have p := Real.exp_pos (-z)
  have : 0 < (1 + Real.exp (-z))⁻¹ := by positivity
  nlinarith [mul_pos (sub_pos.2 h1) this]

theorem gate_le_one {lb : ℝ} (h1 : lb < 1) (z : ℝ) : gate lb z ≤ 1 := by
  unfold gate
  have p := Real.exp_pos (-z)
  have : (1 + Real.exp (-z))⁻¹ ≤ 1 := inv_le_one_of_one_le₀ (by linarith)
  nlinarith [sub_pos.2 h1]

theorem log_gate_nonpos {lb : ℝ} (h0 : 0 ≤ lb) (h1 : lb < 1) (z : ℝ) : Real.log (gate lb z) ≤ 0 :=
  Real.log_nonpos (gate_pos h0 h1 z).le (gate_le_one h1 z)

/-- With no positive log-decay the running sums fall. -/
theorem decay_anti {g : ℕ → ℕ → ℝ} {n l : ℕ} (hg : ∀ i, g (n + i) l ≤ 0) {s t : ℕ} (h : s ≤ t) : decay g n t l ≤ decay g n s l := by
  induction t, h using Nat.le_induction with
  | base => exact le_rfl
  | succ t _ ih => rw [decay_succ]; linarith [hg t]

/-- Two factors that decay to a row between `s` and `t` make the decay from `s` to `t`. -/
theorem split_decay {g : ℕ → ℕ → ℝ} {n l : ℕ} (hg : ∀ i, g (n + i) l ≤ 0) {s r t : ℕ} (hs : s ≤ r) (ht : r ≤ t) (q k : ℝ) :
    q * Real.exp (0 - |decay g n t l - decay g n r l|) * (k * Real.exp (0 - |decay g n s l - decay g n r l|))
      = q * k * Real.exp (decay g n t l - decay g n s l) := by
  have h1 := decay_anti hg hs
  have h2 := decay_anti hg ht
  rw [abs_of_nonpos (by linarith), abs_of_nonneg (by linarith),
    show decay g n t l - decay g n s l = (0 - -(decay g n t l - decay g n r l)) + (0 - (decay g n s l - decay g n r l)) by ring,
    Real.exp_add]
  ring

end Hgrn

end
-- ==== Proof.LevelWord.lean ====
module

public import Idealize.ShloMosaic.Lib.Pointwise

/-!
# The words the kernel compares

The level of a pair of rows `t`, `s` of a chunk is the place of the highest bit in which they differ, written `31 - clz (t ^ s)`; it
is `-1` on the diagonal and `-2` above it. Everything here is decided over the 128 by 128 pairs.
-/

@[expose] public section

set_option maxRecDepth 16384

noncomputable section

namespace Hgrn

open Idealize.ShloMosaic

/-- The word of the level of the rows `t` and `s`. -/
def levelWord (t s : Fin 128) : BitVec 32 :=
  Scalar.select (IntOp.cmpi CmpIPredicate.sle (BitVec.ofNat 32 s) (BitVec.ofNat 32 t))
    (IntOp.subi 31#32 (IntOp.ctlz (IntOp.xori (BitVec.ofNat 32 t) (BitVec.ofNat 32 s)))) 4294967294#32

/-- Rows `t` and `s` part at the bit of weight `m`: they lie in one group of `2 m` rows, `t` in its upper half, `s` in its lower. -/
def PartAt (m t s : ℕ) : Prop := t / m % 2 = 1 ∧ s / m % 2 = 0 ∧ t / (2 * m) = s / (2 * m)

instance (m t s : ℕ) : Decidable (PartAt m t s) := inferInstanceAs (Decidable (_ ∧ _))

/-- What the level says of a pair of rows. -/
theorem levelWord_cases : ∀ t s : Fin 128,
    (t.val < s.val ∧ levelWord t s = 4294967294#32) ∨ (s.val = t.val ∧ levelWord t s = 4294967295#32)
    ∨ (PartAt 1 t s ∧ levelWord t s = 0#32) ∨ (PartAt 2 t s ∧ levelWord t s = 1#32) ∨ (PartAt 4 t s ∧ levelWord t s = 2#32)
    ∨ (PartAt 8 t s ∧ levelWord t s = 3#32) ∨ (PartAt 16 t s ∧ levelWord t s = 4#32) ∨ (PartAt 32 t s ∧ levelWord t s = 5#32)
    ∨ (PartAt 64 t s ∧ levelWord t s = 6#32) := by
  decide +kernel

end Hgrn

end
-- ==== Proof.Levels.lean ====
module

public import proofs.«01_k».proof.Proof.LevelWord

/-!
# Bits, masks and sums read as reals
-/

@[expose] public section

set_option maxRecDepth 16384

noncomputable section

namespace Hgrn

open Idealize.ShloMosaic

/-- The test of a row number's bit. -/
theorem bit_word : ∀ t : Fin 128,
    (IntOp.cmpi CmpIPredicate.ne (IntOp.andi (BitVec.ofNat 32 t) 1#32) 0#32 = if t.val / 1 % 2 = 1 then 1#1 else 0#1)
    ∧ (IntOp.cmpi CmpIPredicate.ne (IntOp.andi (BitVec.ofNat 32 t) 2#32) 0#32 = if t.val / 2 % 2 = 1 then 1#1 else 0#1)
    ∧ (IntOp.cmpi CmpIPredicate.ne (IntOp.andi (BitVec.ofNat 32 t) 4#32) 0#32 = if t.val / 4 % 2 = 1 then 1#1 else 0#1)
    ∧ (IntOp.cmpi CmpIPredicate.ne (IntOp.andi (BitVec.ofNat 32 t) 8#32) 0#32 = if t.val / 8 % 2 = 1 then 1#1 else 0#1)
    ∧ (IntOp.cmpi CmpIPredicate.ne (IntOp.andi (BitVec.ofNat 32 t) 16#32) 0#32 = if t.val / 16 % 2 = 1 then 1#1 else 0#1)
    ∧ (IntOp.cmpi CmpIPredicate.ne (IntOp.andi (BitVec.ofNat 32 t) 32#32) 0#32 = if t.val / 32 % 2 = 1 then 1#1 else 0#1)
    ∧ (IntOp.cmpi CmpIPredicate.ne (IntOp.andi (BitVec.ofNat 32 t) 64#32) 0#32 = if t.val / 64 % 2 = 1 then 1#1 else 0#1)
    ∧ (IntOp.cmpi CmpIPredicate.sge (BitVec.ofNat 32 (t.val % 8)) 4#32 = if 4 ≤ t.val % 8 then 1#1 else 0#1) := by
  decide +kernel

/-- The mask of the running sums, as a word. -/
theorem le_word : ∀ t s : Fin 128,
    (BitVec.setWidth 32 (IntOp.cmpi CmpIPredicate.sle (BitVec.ofNat 32 s) (BitVec.ofNat 32 t))).toInt = if s.val ≤ t.val then 1 else 0 := by
  decide +kernel

/-- A choice by a decided bit. -/
theorem select_ite {α : Type} (p : Prop) [Decidable p] (a b : α) : Scalar.select (if p then 1#1 else 0#1) a b = if p then a else b := by
  by_cases h : p <;> simp [h, Scalar.select]

/-- A choice by equality with a word. -/
theorem select_eq {α : Type} (x y : BitVec 32) (a b : α) : Scalar.select (IntOp.cmpi CmpIPredicate.eq x y) a b = if x = y then a else b := by
  show (if BitVec.ofBool (x == y) = 1#1 then a else b) = _
  by_cases h : x = y
  · subst h
    rw [if_pos rfl, beq_self_eq_true]
    rfl
  · rw [if_neg h, beq_eq_false_iff_ne.2 h]
    rfl

/-- A sum of real entries over the coordinates of an axis. -/
theorem sum_real (n : ℕ) (f : Fin n → EReal) (g : ℕ → ℝ) (h : ∀ x, f x = ((g x : ℝ) : EReal)) :
    ∑ x, f x = ((∑ x ∈ Finset.range n, g x : ℝ) : EReal) := by
  rw [Finset.sum_congr rfl fun x _ => h x, Finset.sum_range]
  exact (map_sum (⟨⟨((↑) : ℝ → EReal), EReal.coe_zero⟩, EReal.coe_add⟩ : ℝ →+ EReal) (fun x : Fin n => g x) Finset.univ).symm

/-- The constant one half. -/
theorem ofBits_half : Ideal.ofBits .f32 0x3F000000#32 = ((1 / 2 : ℝ) : EReal) := by
  simp [Ideal.ofBits, Ideal.ieee, -EReal.coe_mul]; norm_num

/-- The absolute value of a real entry. -/
theorem absf_real (x : ℝ) : FloatOps.absf (F := Ideal) (φ := .f32) ((x : ℝ) : EReal) = ((|x| : ℝ) : EReal) := by
  show max (x : EReal) (-(x : EReal)) = _
  rw [← EReal.coe_neg, abs_eq_max_neg]
  exact (EReal.coe_strictMono.monotone.map_max).symm

end Hgrn

end
-- ==== Proof.ChunkReal.lean ====
module

public import proofs.«01_k».proof.Proof.Chunk
public import proofs.«01_k».proof.Proof.Recurrence
public import proofs.«01_k».proof.Proof.Levels

/-!
# A chunk of the kernel on real entries

With real entries the running sums are exact, the seven levels of the attention matrix cover every pair of rows once, and a chunk of one
head is a chunk of the recurrence of `Recurrence.lean`.
-/

@[expose] public section

set_option maxRecDepth 16384

noncomputable section

namespace Cert.KernelIdeal.Chunk

open Cert.KernelIdeal Cert.KernelIdeal.Gen Idealize.ShloMosaic Idealize.ShloMosaic.TcCoe Idealize.SL.Sem
open Hgrn

/-- The log-gates of real gate arguments. -/
def logGate (L : ℕ → ℝ) (Z : ℕ → ℕ → ℝ) (t l : ℕ) : ℝ := Real.log (gate (L l) (Z t l))

/-- The keys of real gate arguments. -/
def keyOf (L : ℕ → ℝ) (Z : ℕ → ℕ → ℝ) (t l : ℕ) : ℝ := key (L l) (Z t l)

variable {lb : Vec Ideal S1x1x512 .f32} {z q v : Vec Ideal S128x512 .f32} {st : Vec Ideal S1x128x128 .f32}
variable {n : ℕ} {L : ℕ → ℝ} {Z Q V : ℕ → ℕ → ℝ}

theorem gate_read (hL : ∀ l : Fin 512, lb (ix3 0 0 l) = ((L l : ℝ) : EReal))
    (hZ : ∀ (r : Fin 128) (l : Fin 512), z (ix2 r l) = ((Z (n + r) l : ℝ) : EReal)) (r : Fin 128) (l : Fin 512) :
    k0_pay7 (F := Ideal) lb z (ix2 r l) = ((gate (L l) (Z (n + r) l) : ℝ) : EReal) := by
  pointwise [k0_pay7, k0_pay6, k0_pay2]
  rw [hL, hZ, ofBits_half, show (1 : EReal) = ((1 : ℝ) : EReal) from rfl]
  simp only [← EReal.coe_mul, ← EReal.coe_add, ← EReal.coe_sub, Ideal.tanh_coe]
  rw [half_tanh]
  rfl

theorem key_read (hL : ∀ l : Fin 512, lb (ix3 0 0 l) = ((L l : ℝ) : EReal))
    (hZ : ∀ (r : Fin 128) (l : Fin 512), z (ix2 r l) = ((Z (n + r) l : ℝ) : EReal)) (r : Fin 128) (l : Fin 512) :
    k0_pay9 (F := Ideal) lb z (ix2 r l) = ((keyOf L Z (n + r) l : ℝ) : EReal) := by
  pointwise [k0_pay9, k0_pay6, k0_pay2]
  rw [hL, hZ, ofBits_half, show (1 : EReal) = ((1 : ℝ) : EReal) from rfl]
  simp only [← EReal.coe_mul, ← EReal.coe_add, ← EReal.coe_sub, Ideal.tanh_coe]
  rw [half_tanh, one_sub_sigmoid]
  rfl

theorem log_read (hL : ∀ l : Fin 512, lb (ix3 0 0 l) = ((L l : ℝ) : EReal)) (h0 : ∀ l, 0 ≤ L l) (h1 : ∀ l, L l < 1)
    (hZ : ∀ (r : Fin 128) (l : Fin 512), z (ix2 r l) = ((Z (n + r) l : ℝ) : EReal)) (r : Fin 128) (l : Fin 512) :
    k0_pay8 (F := Ideal) lb z (ix2 r l) = ((logGate L Z (n + r) l : ℝ) : EReal) := by
  pointwise [k0_pay8]
  rw [gate_read hL hZ, Ideal.log_coe, if_neg (not_le.2 (gate_pos (h0 l) (h1 l) _))]
  rfl

/-- The running sums through three narrowed pieces: the second and the third piece are nothing. -/
theorem split_read {g : FVec Ideal S128x512 .f32} {G : ℕ → ℕ → ℝ} (hg : ∀ (r : Fin 128) (l : Fin 512), g (ix2 r l) = ((G r l : ℝ) : EReal))
    (r : Fin 128) (l : Fin 512) :
    k0_pay10 (F := Ideal) k0_pay5 g (ix2 r l) = ((∑ s ∈ Finset.range (r + 1), G s l : ℝ) : EReal) := by
  have hc : ∀ b : BitVec 32, FloatOps.sitofp (F := Ideal) FTy.f32 b = ((b.toInt : ℝ) : EReal) := fun _ => rfl
  have h1 : ¬ (1024 + (l : ℕ) < 512) := by omega
  have h2 : ¬ (1024 + (l : ℕ) - 512 < 512) := by omega
  pointwise [k0_pay10, k0_pay5, k0_pay3]
  simp only [h1, h2, dif_neg, not_false_eq_true, hg, hc, le_word, ← EReal.coe_mul, ← EReal.coe_sub, sub_self, mul_zero, EReal.coe_zero]
  simp only [sub_zero, mul_zero, Finset.sum_const_zero, add_zero]
  rw [sum_real 128 _ (fun x => if x ≤ r then G x l else 0) (fun x => by split_ifs <;> simp)]
  congr 1
  rw [← Finset.sum_filter]
  refine Finset.sum_congr ?_ fun _ _ => rfl
  ext x
  simp only [Finset.mem_filter, Finset.mem_range]
  omega

theorem csum_read (hL : ∀ l : Fin 512, lb (ix3 0 0 l) = ((L l : ℝ) : EReal)) (h0 : ∀ l, 0 ≤ L l) (h1 : ∀ l, L l < 1)
    (hZ : ∀ (r : Fin 128) (l : Fin 512), z (ix2 r l) = ((Z (n + r) l : ℝ) : EReal)) (r : Fin 128) (l : Fin 512) :
    csum (F := Ideal) lb z (ix2 r l) = ((decay (logGate L Z) n (r + 1) l : ℝ) : EReal) :=
  split_read (G := fun s l => logGate L Z (n + s) l) (log_read hL h0 h1 hZ) r l

theorem total_read (hL : ∀ l : Fin 512, lb (ix3 0 0 l) = ((L l : ℝ) : EReal)) (h0 : ∀ l, 0 ≤ L l) (h1 : ∀ l, L l < 1)
    (hZ : ∀ (r : Fin 128) (l : Fin 512), z (ix2 r l) = ((Z (n + r) l : ℝ) : EReal)) (l : Fin 512) :
    k0_pay11 (F := Ideal) (k0_pay8 lb z) (ix2 0 l) = ((decay (logGate L Z) n 128 l : ℝ) : EReal) := by
  pointwise [k0_pay11]
  exact sum_real 128 _ (fun x => logGate L Z (n + x) l) fun x => log_read hL h0 h1 hZ x l

/-- The operand of the level of weight `m` on real entries. -/
def levelOf (m : ℕ) (L : ℕ → ℝ) (Z Q : ℕ → ℕ → ℝ) (n r l : ℕ) : ℝ :=
  (if r / m % 2 = 1 then Q (n + r) l else keyOf L Z (n + r) l)
    * Real.exp (0 - |decay (logGate L Z) n (r + 1) l - decay (logGate L Z) n (r / (2 * m) * (2 * m) + m) l|)

/-- A level's operand from its parts. -/
theorem level_real {a b x y : EReal} {A B X Y : ℝ} {w : BitVec 1} {p : Prop} [Decidable p] (hw : w = if p then 1#1 else 0#1)
    (ha : a = (A : EReal)) (hb : b = (B : EReal)) (hx : x = (X : EReal)) (hy : y = (Y : EReal)) :
    Scalar.select w a b * Ideal.exp (0 - FloatOps.absf (F := Ideal) (φ := .f32) (x - y))
      = (((if p then A else B) * Real.exp (0 - |X - Y|) : ℝ) : EReal) := by
  subst ha hb hx hy
  rw [hw, select_ite, ← EReal.coe_sub, absf_real, ← EReal.coe_zero, ← EReal.coe_sub, Ideal.exp_coe, EReal.coe_mul]
  split_ifs <;> rfl

section Levels

variable (hL : ∀ l : Fin 512, lb (ix3 0 0 l) = ((L l : ℝ) : EReal)) (h0 : ∀ l, 0 ≤ L l) (h1 : ∀ l, L l < 1)
  (hZ : ∀ (r : Fin 128) (l : Fin 512), z (ix2 r l) = ((Z (n + r) l : ℝ) : EReal))
  (hQ : ∀ (r : Fin 128) (l : Fin 512), q (ix2 r l) = ((Q (n + r) l : ℝ) : EReal))
include hL h0 h1 hZ hQ

theorem lev0_read (r : Fin 128) (l : Fin 512) : lev0 (F := Ideal) lb z q (ix2 r l) = ((levelOf 1 L Z Q n r l : ℝ) : EReal) := by
  pointwise [lev0, k0_pay15, rowNo]
  rw [(bit_word r).1, select_ite, hQ, gate_read hL hZ, key_read hL hZ, levelOf]
  by_cases h : (r : ℕ) / 1 % 2 = 1
  · have e : (r : ℕ) / (2 * 1) * (2 * 1) + 1 = r := by omega
    rw [if_pos h, if_pos h, e, decay_succ, add_sub_cancel_left, logGate, abs_of_nonpos (log_gate_nonpos (h0 l) (h1 l) _), sub_neg_eq_add, zero_add]
    rw [ Real.exp_log (gate_pos (h0 l) (h1 l) _), EReal.coe_mul]
  · have e : (r : ℕ) / (2 * 1) * (2 * 1) + 1 = r + 1 := by omega
    rw [if_neg h, if_neg h, e, sub_self, abs_zero, sub_zero, Real.exp_zero, mul_one]

theorem lev1_read (r : Fin 128) (l : Fin 512) : lev1 (F := Ideal) lb z q (ix2 r l) = ((levelOf 2 L Z Q n r l : ℝ) : EReal) := by
  pointwise [lev1, k0_pay16, k0_pay12, rowNo, rowIn8]
  refine level_real (bit_word r).2.1 (hQ r l) (key_read hL hZ r l) (csum_read hL h0 h1 hZ r l) ?_
  rw [(bit_word r).2.2.2.2.2.2.2, select_ite]
  split_ifs with h
  · refine (csum_read hL h0 h1 hZ _ l).trans ?_
    rw [show (r : ℕ) / 8 * 8 + 5 + 1 = r / (2 * 2) * (2 * 2) + 2 by omega]
  · refine (csum_read hL h0 h1 hZ _ l).trans ?_
    rw [show (r : ℕ) / 8 * 8 + 1 + 1 = r / (2 * 2) * (2 * 2) + 2 by omega]

theorem lev2_read (r : Fin 128) (l : Fin 512) : lev2 (F := Ideal) lb z q (ix2 r l) = ((levelOf 4 L Z Q n r l : ℝ) : EReal) := by
  pointwise [lev2, k0_pay17, k0_pay12, rowNo]
  exact level_real (bit_word r).2.2.1 (hQ r l) (key_read hL hZ r l) (csum_read hL h0 h1 hZ r l) (csum_read hL h0 h1 hZ _ l)

theorem lev3_read (r : Fin 128) (l : Fin 512) : lev3 (F := Ideal) lb z q (ix2 r l) = ((levelOf 8 L Z Q n r l : ℝ) : EReal) := by
  pointwise [lev3, k0_pay18, rowNo]
  exact level_real (bit_word r).2.2.2.1 (hQ r l) (key_read hL hZ r l) (csum_read hL h0 h1 hZ r l) (csum_read hL h0 h1 hZ _ l)

theorem lev4_read (r : Fin 128) (l : Fin 512) : lev4 (F := Ideal) lb z q (ix2 r l) = ((levelOf 16 L Z Q n r l : ℝ) : EReal) := by
  pointwise [lev4, k0_pay19, rowNo]
  exact level_real (bit_word r).2.2.2.2.1 (hQ r l) (key_read hL hZ r l) (csum_read hL h0 h1 hZ r l) (csum_read hL h0 h1 hZ _ l)

theorem lev5_read (r : Fin 128) (l : Fin 512) : lev5 (F := Ideal) lb z q (ix2 r l) = ((levelOf 32 L Z Q n r l : ℝ) : EReal) := by
  pointwise [lev5, k0_pay20, rowNo]
  exact level_real (bit_word r).2.2.2.2.2.1 (hQ r l) (key_read hL hZ r l) (csum_read hL h0 h1 hZ r l) (csum_read hL h0 h1 hZ _ l)

theorem lev6_read (r : Fin 128) (l : Fin 512) : lev6 (F := Ideal) lb z q (ix2 r l) = ((levelOf 64 L Z Q n r l : ℝ) : EReal) := by
  pointwise [lev6, k0_pay21, rowNo]
  refine level_real (bit_word r).2.2.2.2.2.2.1 (hQ r l) (key_read hL hZ r l) (csum_read hL h0 h1 hZ r l) ?_
  refine (csum_read hL h0 h1 hZ _ l).trans ?_
  rw [show (r : ℕ) / (2 * 64) * (2 * 64) + 64 = 63 + 1 by omega]
  rfl

end Levels

/-- One head's products of two operands. -/
theorem gram_read {a b : FVec Ideal S128x512 .bf16} {A B : ℕ → ℕ → ℝ} (ha : ∀ (r : Fin 128) (l : Fin 512), a (ix2 r l) = ((A r l : ℝ) : EReal))
    (hb : ∀ (r : Fin 128) (l : Fin 512), b (ix2 r l) = ((B r l : ℝ) : EReal)) (o : ℕ) (ho : o + 128 ≤ 512)
    (hs : S128x512.Slices ![0, o] S128x128) (t s : Fin 128) :
    gram (F := Ideal) o hs a b (ix2 t s) = ((∑ c ∈ Finset.range 128, A t (o + c) * B s (o + c) : ℝ) : EReal) := by
  pointwise [gram]
  refine sum_real 128 _ (fun c => A t (o + c) * B s (o + c)) fun c => ?_
  rw [ha, hb, EReal.coe_mul]

/-- The products of two rows that part at the bit of weight `m`. -/
theorem level_pair (h0 : ∀ l, 0 ≤ L l) (h1 : ∀ l, L l < 1) {m : ℕ} (hm : 0 < m) {t s l : ℕ} (h : PartAt m t s) :
    levelOf m L Z Q n t l * levelOf m L Z Q n s l
      = Q (n + t) l * keyOf L Z (n + s) l * Real.exp (decay (logGate L Z) n (t + 1) l - decay (logGate L Z) n (s + 1) l) := by
  obtain ⟨ht, hs, e⟩ := h
  unfold levelOf
  rw [if_pos ht, if_neg (by omega), ← e]
  have d1 := Nat.div_div_eq_div_mul t m 2
  have d2 := Nat.div_div_eq_div_mul s m 2
  rw [Nat.mul_comm m 2] at d1 d2
  have t1 : t / m = 2 * (t / (2 * m)) + 1 := by omega
  have s1 : s / m = 2 * (t / (2 * m)) := by omega
  refine split_decay (fun i => log_gate_nonpos (h0 l) (h1 l) _) ?_ ?_ _ _
  · have := (Nat.div_lt_iff_lt_mul hm).1 (show s / m < 2 * (t / (2 * m)) + 1 by omega)
    calc s + 1 ≤ (2 * (t / (2 * m)) + 1) * m := this
      _ = t / (2 * m) * (2 * m) + m := by ring
  · have := (Nat.le_div_iff_mul_le hm).1 (show 2 * (t / (2 * m)) + 1 ≤ t / m by omega)
    calc t / (2 * m) * (2 * m) + m = (2 * (t / (2 * m)) + 1) * m := by ring
      _ ≤ t + 1 := by omega

theorem PartAt.le {m t s : ℕ} (hm : 0 < m) (h : PartAt m t s) : s ≤ t := by
  obtain ⟨ht, hs, e⟩ := h
  by_contra hlt
  have : t / m ≤ s / m := Nat.div_le_div_right (by omega)
  have d1 := Nat.div_div_eq_div_mul t m 2
  have d2 := Nat.div_div_eq_div_mul s m 2
  rw [Nat.mul_comm m 2] at d1 d2
  omega

section Head

variable (hL : ∀ l : Fin 512, lb (ix3 0 0 l) = ((L l : ℝ) : EReal)) (h0 : ∀ l, 0 ≤ L l) (h1 : ∀ l, L l < 1)
  (hZ : ∀ (r : Fin 128) (l : Fin 512), z (ix2 r l) = ((Z (n + r) l : ℝ) : EReal))
  (hQ : ∀ (r : Fin 128) (l : Fin 512), q (ix2 r l) = ((Q (n + r) l : ℝ) : EReal))
include hL h0 h1 hZ hQ

/-- The attention matrix: every pair of rows is in exactly one level. -/
theorem att_read (o : ℕ) (ho : o + 128 ≤ 512) (hs : S128x512.Slices ![0, o] S128x128) (t s : Fin 128) :
    att (F := Ideal) o hs lb z q (ix2 t s) = ((if s.val ≤ t.val then ∑ c ∈ Finset.range 128, Q (n + t) (o + c) * keyOf L Z (n + s) (o + c)
      * Real.exp (decay (logGate L Z) n (t + 1) (o + c) - decay (logGate L Z) n (s + 1) (o + c)) else 0 : ℝ) : EReal) := by
  have hw : k0_pay4 (ix2 t s) = levelWord t s := by pointwise [k0_pay4, k0_pay3, levelWord]
  have hp : ∀ m, 0 < m → PartAt m t s → ((∑ c ∈ Finset.range 128, levelOf m L Z Q n t (o + c) * levelOf m L Z Q n s (o + c) : ℝ) : EReal)
      = ((if s.val ≤ t.val then ∑ c ∈ Finset.range 128, Q (n + t) (o + c) * keyOf L Z (n + s) (o + c)
      * Real.exp (decay (logGate L Z) n (t + 1) (o + c) - decay (logGate L Z) n (s + 1) (o + c)) else 0 : ℝ) : EReal) := by
    intro m hm h
    rw [if_pos (PartAt.le hm h), Finset.sum_congr rfl fun c _ => level_pair h0 h1 hm h]
  pointwise [att, atLevel]
  simp only [select_eq, hw]
  rcases levelWord_cases t s with ⟨h, e⟩ | ⟨h, e⟩ | ⟨h, e⟩ | ⟨h, e⟩ | ⟨h, e⟩ | ⟨h, e⟩ | ⟨h, e⟩ | ⟨h, e⟩ | ⟨h, e⟩ <;>
    simp only [e, reduceIte, BitVec.reduceEq]
  · rw [if_neg (by omega)]
    rfl
  · rw [gram_read (A := fun r l => Q (n + r) l) (B := fun r l => keyOf L Z (n + r) l) (fun r l => by pointwise [k0_pay13]; exact hQ r l)
      (fun r l => by pointwise [k0_pay14]; exact key_read hL hZ r l) o ho hs, if_pos h.le]
    simp only [h, sub_self, Real.exp_zero, mul_one]
  · rw [gram_read (lev0_read hL h0 h1 hZ hQ) (lev0_read hL h0 h1 hZ hQ) o ho hs]; exact hp 1 (by decide) h
  · rw [gram_read (lev1_read hL h0 h1 hZ hQ) (lev1_read hL h0 h1 hZ hQ) o ho hs]; exact hp 2 (by decide) h
  · rw [gram_read (lev2_read hL h0 h1 hZ hQ) (lev2_read hL h0 h1 hZ hQ) o ho hs]; exact hp 4 (by decide) h
  · rw [gram_read (lev3_read hL h0 h1 hZ hQ) (lev3_read hL h0 h1 hZ hQ) o ho hs]; exact hp 8 (by decide) h
  · rw [gram_read (lev4_read hL h0 h1 hZ hQ) (lev4_read hL h0 h1 hZ hQ) o ho hs]; exact hp 16 (by decide) h
  · rw [gram_read (lev5_read hL h0 h1 hZ hQ) (lev5_read hL h0 h1 hZ hQ) o ho hs]; exact hp 32 (by decide) h
  · rw [gram_read (lev6_read hL h0 h1 hZ hQ) (lev6_read hL h0 h1 hZ hQ) o ho hs]; exact hp 64 (by decide) h

variable (hV : ∀ (r : Fin 128) (l : Fin 512), v (ix2 r l) = ((V (n + r) l : ℝ) : EReal))
include hV

/-- A head's output block is a chunk of the recurrence's output. -/
theorem headOut_read (o : ℕ) (ho : o + 128 ≤ 512) (hd : o % 128 = 0) (hs : S128x512.Slices ![0, o] S128x128)
    (hst : ∀ w c : Fin 128, st (ix3 0 w c) = ((gateState (logGate L Z) (keyOf L Z) V n (o + c) (o + w) : ℝ) : EReal)) (t w : Fin 128) :
    headOut (F := Ideal) o hs lb z q v st (ix2 t w)
      = ((gateOut (logGate L Z) Q (keyOf L Z) V (n + t) (o + w) : ℝ) : EReal) := by
  have ew : 128 * ((o + w) / 128) = o := by omega
  rw [gateOut_chunk (logGate L Z) Q (keyOf L Z) V n (o + w) t 128 t.isLt, ew, EReal.coe_add]
  pointwise [headOut, k0_pay24, k0_pay22, k0_pay36]
  congr 1
  · refine sum_real 128 _ (fun s => (if s ≤ t.val then ∑ c ∈ Finset.range 128, Q (n + t) (o + c) * keyOf L Z (n + s) (o + c)
      * Real.exp (decay (logGate L Z) n (t + 1) (o + c) - decay (logGate L Z) n (s + 1) (o + c)) else 0) * V (n + s) (o + w)) fun s => ?_
    rw [att_read hL h0 h1 hZ hQ o ho hs, hV, EReal.coe_mul]
  · refine sum_real 128 _ (fun c => Q (n + t) (o + c) * Real.exp (decay (logGate L Z) n (t + 1) (o + c))
      * gateState (logGate L Z) (keyOf L Z) V n (o + c) (o + w)) fun c => ?_
    rw [hst, hQ, csum_read hL h0 h1 hZ, Ideal.exp_coe, EReal.coe_mul, EReal.coe_mul]

omit hQ in
/-- A head's new state is the recurrence's state 128 rows later. -/
theorem headSt_read (o : ℕ) (ho : o + 128 ≤ 512) (hs : S128x512.Slices ![0, o] S128x128) (hs1 : S1x512.Slices ![0, o] S1x128)
    (hst : ∀ w c : Fin 128, st (ix3 0 w c) = ((gateState (logGate L Z) (keyOf L Z) V n (o + c) (o + w) : ℝ) : EReal)) (w c : Fin 128) :
    headSt (F := Ideal) o hs hs1 lb z v st (ix3 0 w c)
      = ((gateState (logGate L Z) (keyOf L Z) V (n + 128) (o + c) (o + w) : ℝ) : EReal) := by
  rw [gateState_chunk, EReal.coe_add]
  pointwise [headSt, k0_pay24, k0_pay23, k0_pay36, k0_pay25]
  rw [hst, total_read hL h0 h1 hZ, Ideal.exp_coe, EReal.coe_mul]
  congr 1
  refine sum_real 128 _ (fun s => V (n + s) (o + w) * (keyOf L Z (n + s) (o + c)
    * Real.exp (decay (logGate L Z) n 128 (o + c) - decay (logGate L Z) n (s + 1) (o + c)))) fun s => ?_
  rw [hV, key_read hL hZ, csum_read hL h0 h1 hZ, total_read hL h0 h1 hZ, ← EReal.coe_sub, Ideal.exp_coe, EReal.coe_mul, EReal.coe_mul]

end Head

end Cert.KernelIdeal.Chunk

end
-- ==== Proof.Pieces.lean ====
module

public import proofs.«01_k».proof.Proof.Gen.KernelIdeal.Value
public import proofs.«01_k».proof.Proof.Chunk
public import Idealize.ShloMosaic.Lib.Pipeline.ValueKit
public import Idealize.ShloMosaic.Lib.Pipeline.ReadBack

/-!
# What the body leaves in the scratch and in the output block

Both are lists of eight stores, read back at an index: the store that holds it is a chunk of one head (`headSt`, `headOut`).
-/

@[expose] public section

set_option maxRecDepth 16384

noncomputable section

namespace Cert.KernelIdeal.Chunk

open Cert.KernelIdeal Cert.KernelIdeal.Gen Idealize.ShloMosaic Idealize.ShloMosaic.TcCoe Idealize.SL.Sem
open Idealize.ShloMosaic.Pipeline (Dat)

/-- The first 128 rows of a block. -/
def top (x : Vec Ideal S256x512 .f32) : Vec Ideal S128x512 .f32 :=
  View.ld x (Rect.unit (s := S256x512) ![0, 0] ![128, 512] inb_S256x512_S128x512_0_0)

/-- The last 128 rows of a block. -/
def bot (x : Vec Ideal S256x512 .f32) : Vec Ideal S128x512 .f32 :=
  View.ld x (Rect.unit (s := S256x512) ![128, 0] ![128, 512] inb_S256x512_S128x512_128_0)

/-- The state of head `h`. -/
def slab (h : ℕ) (inb : ∀ a, (![h, 0, 0] : Fin 3 → ℕ) a + (![1, 128, 128] : Fin 3 → ℕ) a ≤ S4x128x128.size a)
    (st : Vec Ideal S4x128x128 .f32) : Vec Ideal S1x128x128 .f32 :=
  View.ld st (Rect.unit (s := S4x128x128) ![h, 0, 0] ![1, 128, 128] inb)

/-- Of a list of stores that starts with four which hold the index, the rest does not matter. -/
theorem canon_take4 {S : Shape} {e : EltTy} (p q r s : View.Piece (Elt Ideal) S e) (L : List (View.Piece (Elt Ideal) S e)) (y : S.Idx)
    (h : ∃ t ∈ [p, q, r, s], y ∈ t.1.set) : View.canon (p :: q :: r :: s :: L) y = View.canon [p, q, r, s] y := by
  by_cases hp : y ∈ p.1.set
  · obtain ⟨x, rfl⟩ := p.1.exists_idx_of_mem hp
    exact (View.canon_cons_emb _ _ _ _).trans (View.canon_cons_emb _ _ _ _).symm
  rw [View.canon_cons_of_not_mem _ _ hp, View.canon_cons_of_not_mem _ _ hp]
  by_cases hq : y ∈ q.1.set
  · obtain ⟨x, rfl⟩ := q.1.exists_idx_of_mem hq
    exact (View.canon_cons_emb _ _ _ _).trans (View.canon_cons_emb _ _ _ _).symm
  rw [View.canon_cons_of_not_mem _ _ hq, View.canon_cons_of_not_mem _ _ hq]
  by_cases hr : y ∈ r.1.set
  · obtain ⟨x, rfl⟩ := r.1.exists_idx_of_mem hr
    exact (View.canon_cons_emb _ _ _ _).trans (View.canon_cons_emb _ _ _ _).symm
  rw [View.canon_cons_of_not_mem _ _ hr, View.canon_cons_of_not_mem _ _ hr]
  by_cases hs : y ∈ s.1.set
  · obtain ⟨x, rfl⟩ := s.1.exists_idx_of_mem hs
    exact (View.canon_cons_emb _ _ _ _).trans (View.canon_cons_emb _ _ _ _).symm
  obtain ⟨t, ht, hy⟩ := h
  simp only [List.mem_cons, List.not_mem_nil, or_false] at ht
  rcases ht with rfl | rfl | rfl | rfl <;> contradiction

/-- The state after both chunks, from the state a head starts with. -/
def twice (o : ℕ) (hs : S128x512.Slices ![0, o] S128x128) (h1 : S1x512.Slices ![0, o] S1x128) (x1 x2 : Vec Ideal S256x512 .f32)
    (x3 : Vec Ideal S1x1x512 .f32) (st : Vec Ideal S1x128x128 .f32) : Vec Ideal S1x128x128 .f32 :=
  headSt o hs h1 x3 (bot x2) (bot x1) (headSt o hs h1 x3 (top x2) (top x1) st)

/-- The scratch after a later point of a run. -/
theorem sout_B (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x1x512 .f32) (harg5 : arg5.IsWhole) (arg6 : Memref sig .tc .vmem S256x512 .f32) (harg6 : arg6.IsWhole) (arg7 : Memref sig .tc .vmem S4x128x128 .f32) (harg7 : arg7.IsWhole)
    (hc0 : ¬ cond0_0 i) (x0 x1 x2 : Vec Ideal S256x512 .f32) (x3 : Vec Ideal S1x1x512 .f32) (st : Vec Ideal S4x128x128 .f32)
    (T : Vec Ideal S4x128x128 .f32)
    (e : ∀ (h o : ℕ), h < 4 → o = 128 * h → ∀ hs h1 inb, ∀ x : S1x128x128.Idx, ∀ y : S4x128x128.Idx, (y 0 : ℕ) = h + (x 0 : ℕ) →
      (y 1 : ℕ) = (x 1 : ℕ) → (y 2 : ℕ) = (x 2 : ℕ) → twice o hs h1 x1 x2 x3 (slab h inb st) x = T y)
    (y : S4x128x128.Idx) :
    sout0_B_0 c i arg2 harg2 arg3 harg3 arg4 harg4 arg5 harg5 arg6 harg6 arg7 harg7 hc0 x0 x1 x2 x3 st y = T y := by
  frame_out
  rw [canon_take4 _ _ _ _ _ _ (View.cover_of_tiled_head _ _ _ rfl y)]
  simp (disch := decide) only [↓View.readCov_cons_toLoadRect, ↓View.readCov_skip]
  canon_tiles x h
  · exact e 3 384 (by decide) rfl _ _ _ x y h0 h1 h2
  · exact e 2 256 (by decide) rfl _ _ _ x y h0 h1 h2
  · exact e 1 128 (by decide) rfl _ _ _ x y h0 h1 h2
  · exact e 0 0 (by decide) rfl _ _ _ x y (by omega) h1 h2

/-- The output block after a later point of a run. -/
theorem out_B (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x1x512 .f32) (harg5 : arg5.IsWhole) (arg6 : Memref sig .tc .vmem S256x512 .f32) (harg6 : arg6.IsWhole) (arg7 : Memref sig .tc .vmem S4x128x128 .f32) (harg7 : arg7.IsWhole)
    (hc0 : ¬ cond0_0 i) (x0 x1 x2 : Vec Ideal S256x512 .f32) (x3 : Vec Ideal S1x1x512 .f32) (st : Vec Ideal S4x128x128 .f32)
    (T : Vec Ideal S256x512 .f32)
    (e : ∀ (h o : ℕ), h < 4 → o = 128 * h → ∀ hs inb, ∀ x : S128x128.Idx, ∀ y : S256x512.Idx, (y 0 : ℕ) = (x 0 : ℕ) →
      (y 1 : ℕ) = o + (x 1 : ℕ) → headOut o hs x3 (top x2) (top x0) (top x1) (slab h inb st) x = T y)
    (e' : ∀ (h o : ℕ), h < 4 → o = 128 * h → ∀ hs h1 inb, ∀ x : S128x128.Idx, ∀ y : S256x512.Idx, (y 0 : ℕ) = 128 + (x 0 : ℕ) →
      (y 1 : ℕ) = o + (x 1 : ℕ) → headOut o hs x3 (bot x2) (bot x0) (bot x1)
        (headSt o hs h1 x3 (top x2) (top x1) (slab h inb st)) x = T y)
    (y : S256x512.Idx) :
    out0_B_4 c i arg2 harg2 arg3 harg3 arg4 harg4 arg5 harg5 arg6 harg6 arg7 harg7 hc0 x0 x1 x2 x3 st y = T y := by
  frame_out
  simp (disch := decide) only [↓View.readCov_cons_toLoadRect, ↓View.readCov_skip]
  canon_tiles x h
  · exact e' 3 384 (by decide) rfl slices_S128x512_o0_384_S128x128 slices_S1x512_o0_384_S1x128 inb_S4x128x128_S1x128x128_3_0_0 x y h0 h1
  · exact e' 2 256 (by decide) rfl slices_S128x512_o0_256_S128x128 slices_S1x512_o0_256_S1x128 inb_S4x128x128_S1x128x128_2_0_0 x y h0 h1
  · exact e' 1 128 (by decide) rfl slices_S128x512_o0_128_S128x128 slices_S1x512_o0_128_S1x128 inb_S4x128x128_S1x128x128_1_0_0 x y h0 h1
  · exact e' 0 0 (by decide) rfl slices_S128x512_o0_0_S128x128 slices_S1x512_o0_0_S1x128 inb_S4x128x128_S1x128x128_0_0_0 x y h0 (by omega)
  · exact e 3 384 (by decide) rfl slices_S128x512_o0_384_S128x128 inb_S4x128x128_S1x128x128_3_0_0 x y (by omega) h1
  · exact e 2 256 (by decide) rfl slices_S128x512_o0_256_S128x128 inb_S4x128x128_S1x128x128_2_0_0 x y (by omega) h1
  · exact e 1 128 (by decide) rfl slices_S128x512_o0_128_S128x128 inb_S4x128x128_S1x128x128_1_0_0 x y (by omega) h1
  · exact e 0 0 (by decide) rfl slices_S128x512_o0_0_S128x128 inb_S4x128x128_S1x128x128_0_0_0 x y (by omega) (by omega)

/-- The scratch after a run's first point. -/
theorem sout_A (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x1x512 .f32) (harg5 : arg5.IsWhole) (arg6 : Memref sig .tc .vmem S256x512 .f32) (harg6 : arg6.IsWhole) (arg7 : Memref sig .tc .vmem S4x128x128 .f32) (harg7 : arg7.IsWhole)
    (hc0 : cond0_0 i) (x0 x1 x2 : Vec Ideal S256x512 .f32) (x3 : Vec Ideal S1x1x512 .f32)
    (T : Vec Ideal S4x128x128 .f32)
    (e : ∀ (h o : ℕ), h < 4 → o = 128 * h → ∀ hs h1 inb, ∀ x : S1x128x128.Idx, ∀ y : S4x128x128.Idx, (y 0 : ℕ) = h + (x 0 : ℕ) →
      (y 1 : ℕ) = (x 1 : ℕ) → (y 2 : ℕ) = (x 2 : ℕ) → twice o hs h1 x1 x2 x3 (slab h inb (k0_pay1 (F := Ideal))) x = T y)
    (y : S4x128x128.Idx) :
    sout0_A_0 c i arg2 harg2 arg3 harg3 arg4 harg4 arg5 harg5 arg6 harg6 arg7 harg7 hc0 x0 x1 x2 x3  y = T y := by
  frame_out
  rw [canon_take4 _ _ _ _ _ _ (View.cover_of_tiled_head _ _ _ rfl y)]
  simp (disch := decide) only [↓View.readCov_cons_toLoadRect, ↓View.readCov_skip, ↓View.readCov_fill]
  canon_tiles x h
  · exact e 3 384 (by decide) rfl _ _ _ x y h0 h1 h2
  · exact e 2 256 (by decide) rfl _ _ _ x y h0 h1 h2
  · exact e 1 128 (by decide) rfl _ _ _ x y h0 h1 h2
  · exact e 0 0 (by decide) rfl _ _ _ x y (by omega) h1 h2

/-- The output block after a run's first point. -/
theorem out_A (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x1x512 .f32) (harg5 : arg5.IsWhole) (arg6 : Memref sig .tc .vmem S256x512 .f32) (harg6 : arg6.IsWhole) (arg7 : Memref sig .tc .vmem S4x128x128 .f32) (harg7 : arg7.IsWhole)
    (hc0 : cond0_0 i) (x0 x1 x2 : Vec Ideal S256x512 .f32) (x3 : Vec Ideal S1x1x512 .f32)
    (T : Vec Ideal S256x512 .f32)
    (e : ∀ (h o : ℕ), h < 4 → o = 128 * h → ∀ hs inb, ∀ x : S128x128.Idx, ∀ y : S256x512.Idx, (y 0 : ℕ) = (x 0 : ℕ) →
      (y 1 : ℕ) = o + (x 1 : ℕ) → headOut o hs x3 (top x2) (top x0) (top x1) (slab h inb (k0_pay1 (F := Ideal))) x = T y)
    (e' : ∀ (h o : ℕ), h < 4 → o = 128 * h → ∀ hs h1 inb, ∀ x : S128x128.Idx, ∀ y : S256x512.Idx, (y 0 : ℕ) = 128 + (x 0 : ℕ) →
      (y 1 : ℕ) = o + (x 1 : ℕ) → headOut o hs x3 (bot x2) (bot x0) (bot x1)
        (headSt o hs h1 x3 (top x2) (top x1) (slab h inb (k0_pay1 (F := Ideal)))) x = T y)
    (y : S256x512.Idx) :
    out0_A_4 c i arg2 harg2 arg3 harg3 arg4 harg4 arg5 harg5 arg6 harg6 arg7 harg7 hc0 x0 x1 x2 x3  y = T y := by
  frame_out
  simp (disch := decide) only [↓View.readCov_cons_toLoadRect, ↓View.readCov_skip, ↓View.readCov_fill]
  canon_tiles x h
  · exact e' 3 384 (by decide) rfl slices_S128x512_o0_384_S128x128 slices_S1x512_o0_384_S1x128 inb_S4x128x128_S1x128x128_3_0_0 x y h0 h1
  · exact e' 2 256 (by decide) rfl slices_S128x512_o0_256_S128x128 slices_S1x512_o0_256_S1x128 inb_S4x128x128_S1x128x128_2_0_0 x y h0 h1
  · exact e' 1 128 (by decide) rfl slices_S128x512_o0_128_S128x128 slices_S1x512_o0_128_S1x128 inb_S4x128x128_S1x128x128_1_0_0 x y h0 h1
  · exact e' 0 0 (by decide) rfl slices_S128x512_o0_0_S128x128 slices_S1x512_o0_0_S1x128 inb_S4x128x128_S1x128x128_0_0_0 x y h0 (by omega)
  · exact e 3 384 (by decide) rfl slices_S128x512_o0_384_S128x128 inb_S4x128x128_S1x128x128_3_0_0 x y (by omega) h1
  · exact e 2 256 (by decide) rfl slices_S128x512_o0_256_S128x128 inb_S4x128x128_S1x128x128_2_0_0 x y (by omega) h1
  · exact e 1 128 (by decide) rfl slices_S128x512_o0_128_S128x128 inb_S4x128x128_S1x128x128_1_0_0 x y (by omega) h1
  · exact e 0 0 (by decide) rfl slices_S128x512_o0_0_S128x128 inb_S4x128x128_S1x128x128_0_0_0 x y (by omega) (by omega)

end Cert.KernelIdeal.Chunk

end
-- ==== Proof.Cumulative.lean ====
module

public import Idealize.ShloMosaic.Lib.Tactic
public import Idealize.ShloMosaic.Lib.ValueIdxCore
public import Idealize.ShloMosaic.PureOps.Ideal

/-!
# Running sums on the host

A window of an axis' whole length, padded below, is a running sum along the axis.
-/

@[expose] public section

set_option maxRecDepth 16384

noncomputable section

namespace Hgrn

open Idealize.ShloMosaic Idealize.ShloMosaic.ValueIdx

/-- Adding up along a list. -/
theorem foldl_add {α : Type} (l : List α) (g : α → EReal) (v : EReal) :
    l.foldl (fun r n => r + g n) v = v + (l.map g).sum := by
  induction l generalizing v with
  | nil => simp
  | cons a l ih => rw [List.foldl_cons, ih, List.map_cons, List.sum_cons, add_assoc]

/-- A host window sum as a sum over the window. -/
theorem window_sum {s t u : Shape} {φ : FTy} (window strides lo hi : Fin s.rank → ℕ) (x : FVec Ideal s φ) (init : u.Idx → Ideal φ)
    (h : s.ReduceWindows window strides lo hi t) (hu : 0 < u.numel) (h0 : init (Shape.Idx.first hu) = (0 : EReal)) (j : t.Idx) :
    Host.reduceWindowAdd window strides lo hi x init h hu j
      = ∑ i : (⟨s.rank, window⟩ : Shape).Idx,
          if hin : ∀ a, lo a ≤ (j (a.cast h.1.symm)).val * strides a + (i a).val ∧ (j (a.cast h.1.symm)).val * strides a + (i a).val - lo a < s.size a
            then (x (fun a => ⟨(j (a.cast h.1.symm)).val * strides a + (i a).val - lo a, (hin a).2⟩) : EReal) else 0 := by
  unfold Host.reduceWindowAdd
  rw [Ideal.hostReduceWindowAdd_def, h0]
  unfold Ideal.hostReduceWindowAdd Host.reduceWindow
  dsimp only
  rw [foldl_add, zero_add, ← Fin.sum_univ_def]
  exact Fintype.sum_equiv (Shape.rowMajor _).symm _ _ fun _ => dite_congr rfl (fun _ => rfl) fun _ => rfl

/-- The sum over a window that ends at `j`, by position. -/
theorem window_range (N j : ℕ) (hj : j < N) (f : ℕ → ℝ) :
    ∑ i ∈ Finset.range N, (if N - 1 ≤ j + i then f (j + i - (N - 1)) else 0) = ∑ k ∈ Finset.range (j + 1), f k := by
  obtain ⟨d, rfl⟩ : ∃ d, N = d + (j + 1) := ⟨N - (j + 1), by omega⟩
  rw [Finset.sum_range_add, Finset.sum_eq_zero, zero_add]
  · refine Finset.sum_congr rfl fun k hk => ?_
    rw [if_pos (by omega), show j + (d + k) - (d + (j + 1) - 1) = k by omega]
  · intro k hk
    rw [Finset.mem_range] at hk
    rw [if_neg (by omega)]

/-- A sum of real entries over an axis. -/
theorem sum_axis (n : ℕ) (f : Fin n → EReal) (g : ℕ → ℝ) (h : ∀ x, f x = ((g x : ℝ) : EReal)) :
    ∑ x, f x = ((∑ x ∈ Finset.range n, g x : ℝ) : EReal) := by
  rw [Finset.sum_congr rfl fun x _ => h x, Finset.sum_range]
  exact (map_sum (⟨⟨((↑) : ℝ → EReal), EReal.coe_zero⟩, EReal.coe_add⟩ : ℝ →+ EReal) (fun x : Fin n => g x) Finset.univ).symm

/-- The places of a window along axis 2. -/
def win64 : (⟨4, ![1, 1, 64, 1]⟩ : Shape).Idx ≃ Fin 64 where
  toFun i := i 2
  invFun k := ix4 0 0 k 0
  left_inv i := by
    funext a
    fin_cases a
    · exact Subsingleton.elim (α := Fin 1) _ _
    · exact Subsingleton.elim (α := Fin 1) _ _
    · rfl
    · exact Subsingleton.elim (α := Fin 1) _ _
  right_inv k := rfl

/-- The places of a window along axis 0. -/
def win4 : (⟨3, ![4, 1, 1]⟩ : Shape).Idx ≃ Fin 4 where
  toFun i := i 0
  invFun k := ix3 k 0 0
  left_inv i := by
    funext a
    fin_cases a
    · rfl
    · exact Subsingleton.elim (α := Fin 1) _ _
    · exact Subsingleton.elim (α := Fin 1) _ _
  right_inv k := rfl

/-- A running sum along axis 2 of an array of 2 × 4 × 64 × 128 real entries. -/
theorem cumsum64 {u : Shape} (x : FVec Ideal (⟨4, ![2, 4, 64, 128]⟩ : Shape) .f32) (init : u.Idx → Ideal .f32) (h) (hu : 0 < u.numel)
    (h0 : init (Shape.Idx.first hu) = (0 : EReal)) (a : Fin 2) (b : Fin 4) (j : Fin 64) (c : Fin 128) (f : ℕ → ℝ)
    (hf : ∀ k : Fin 64, x (ix4 a b k c) = ((f k : ℝ) : EReal)) :
    Host.reduceWindowAdd (s := ⟨4, ![2, 4, 64, 128]⟩) (t := ⟨4, ![2, 4, 64, 128]⟩) ![1, 1, 64, 1] ![1, 1, 1, 1] ![0, 0, 63, 0] ![0, 0, 0, 0]
      x init h hu (ix4 a b j c) = ((∑ k ∈ Finset.range (j + 1), f k : ℝ) : EReal) := by
  rw [window_sum _ _ _ _ _ _ _ _ h0, ← window_range 64 j j.isLt f, ← sum_axis 64 _ _ fun _ => rfl]
  refine Fintype.sum_equiv win64 _ _ fun i => ?_
  obtain ⟨k, rfl⟩ : ∃ k, i = win64.symm k := ⟨win64 i, (win64.symm_apply_apply i).symm⟩
  rw [Equiv.apply_symm_apply]
  by_cases hk : 63 ≤ j.val + k.val
  · rw [if_pos hk, dif_pos, ← show x (ix4 a b ⟨j.val + k.val - 63, by omega⟩ c) = _ from hf _]
    · congr 1
      funext e
      fin_cases e
      · exact Fin.ext (by show a.val * 1 + 0 - 0 = a.val; omega)
      · exact Fin.ext (by show b.val * 1 + 0 - 0 = b.val; omega)
      · exact Fin.ext (by show j.val * 1 + k.val - 63 = j.val + k.val - 63; omega)
      · exact Fin.ext (by show c.val * 1 + 0 - 0 = c.val; omega)
    · intro e
      fin_cases e
      · exact ⟨Nat.zero_le _, by show a.val * 1 + 0 - 0 < 2; omega⟩
      · exact ⟨Nat.zero_le _, by show b.val * 1 + 0 - 0 < 4; omega⟩
      · exact ⟨by show 63 ≤ j.val * 1 + k.val; omega, by show j.val * 1 + k.val - 63 < 64; omega⟩
      · exact ⟨Nat.zero_le _, by show c.val * 1 + 0 - 0 < 128; omega⟩
  · rw [if_neg hk, dif_neg, EReal.coe_zero]
    intro hin
    have := (hin 2).1
    change 63 ≤ j.val * 1 + k.val at this
    omega

/-- A running sum along axis 0 of an array of 4 × 2 × 512 real entries. -/
theorem cumsum4 {u : Shape} (x : FVec Ideal (⟨3, ![4, 2, 512]⟩ : Shape) .f32) (init : u.Idx → Ideal .f32) (h) (hu : 0 < u.numel)
    (h0 : init (Shape.Idx.first hu) = (0 : EReal)) (j : Fin 4) (b : Fin 2) (c : Fin 512) (f : ℕ → ℝ)
    (hf : ∀ k : Fin 4, x (ix3 k b c) = ((f k : ℝ) : EReal)) :
    Host.reduceWindowAdd (s := ⟨3, ![4, 2, 512]⟩) (t := ⟨3, ![4, 2, 512]⟩) ![4, 1, 1] ![1, 1, 1] ![3, 0, 0] ![0, 0, 0]
      x init h hu (ix3 j b c) = ((∑ k ∈ Finset.range (j + 1), f k : ℝ) : EReal) := by
  rw [window_sum _ _ _ _ _ _ _ _ h0, ← window_range 4 j j.isLt f, ← sum_axis 4 _ _ fun _ => rfl]
  refine Fintype.sum_equiv win4 _ _ fun i => ?_
  obtain ⟨k, rfl⟩ : ∃ k, i = win4.symm k := ⟨win4 i, (win4.symm_apply_apply i).symm⟩
  rw [Equiv.apply_symm_apply]
  by_cases hk : 3 ≤ j.val + k.val
  · rw [if_pos hk, dif_pos, ← show x (ix3 ⟨j.val + k.val - 3, by omega⟩ b c) = _ from hf _]
    · congr 1
      funext e
      fin_cases e
      · exact Fin.ext (by show j.val * 1 + k.val - 3 = j.val + k.val - 3; omega)
      · exact Fin.ext (by show b.val * 1 + 0 - 0 = b.val; omega)
      · exact Fin.ext (by show c.val * 1 + 0 - 0 = c.val; omega)
    · intro e
      fin_cases e
      · exact ⟨by show 3 ≤ j.val * 1 + k.val; omega, by show j.val * 1 + k.val - 3 < 4; omega⟩
      · exact ⟨Nat.zero_le _, by show b.val * 1 + 0 - 0 < 2; omega⟩
      · exact ⟨Nat.zero_le _, by show c.val * 1 + 0 - 0 < 512; omega⟩
  · rw [if_neg hk, dif_neg, EReal.coe_zero]
    intro hin
    have := (hin 0).1
    change 3 ≤ j.val * 1 + k.val at this
    omega

end Hgrn

end
-- ==== Proof.Inputs.lean ====
module

public import Idealize.ShloMosaic.Lib.Tactic
public import Idealize.ShloMosaic.Lib.ValueIdxCore
public import Idealize.ShloMosaic.PureOps.Ideal

/-!
# The layer's arguments as real functions

Which row of the fused projections holds a time of a sequence, and the lower bound of the gates: a softmax over the layers.
-/

@[expose] public section

set_option maxRecDepth 16384

noncomputable section

namespace Hgrn

open Idealize.ShloMosaic

/-- The row of time `t` of sequence `b`: 256 times of context, stored last, and then 8192 of latent. -/
def row (b t : ℕ) : ℕ := if t < 256 then 16384 + 256 * b + t else 8192 * b + t - 256

/-- The sequence of a row. -/
def seqOf (r : ℕ) : ℕ := if r < 16384 then r / 8192 else (r - 16384) / 256

/-- The time of a row. -/
def timeOf (r : ℕ) : ℕ := if r < 16384 then 256 + r % 8192 else (r - 16384) % 256

theorem seqOf_row {b t : ℕ} (hb : b < 2) (ht : t < 8448) : seqOf (row b t) = b := by
  unfold seqOf row
  split_ifs <;> omega

theorem timeOf_row {b t : ℕ} (hb : b < 2) (ht : t < 8448) : timeOf (row b t) = t := by
  unfold timeOf row
  split_ifs <;> omega

/-- One group of 512 columns of the projections of a sequence. -/
def group (U : ℕ → ℕ → ℝ) (o b t l : ℕ) : ℝ := U (row b t) (o + l)

/-- A softmax over four layers. -/
def soft (x : Fin 4 → ℝ) (i : Fin 4) : ℝ := Real.exp (x i) / ∑ j, Real.exp (x j)

theorem soft_nonneg (x : Fin 4 → ℝ) (i : Fin 4) : 0 ≤ soft x i :=
  div_nonneg (Real.exp_pos _).le (Finset.sum_nonneg fun _ _ => (Real.exp_pos _).le)

theorem soft_lt_one (x : Fin 4 → ℝ) (i : Fin 4) : soft x i < 1 := by
  have hp : 0 < ∑ j, Real.exp (x j) := Finset.sum_pos (fun _ _ => Real.exp_pos _) ⟨0, Finset.mem_univ _⟩
  rw [soft, div_lt_one hp]
  obtain ⟨k, hk⟩ : ∃ k : Fin 4, k ≠ i := exists_ne i
  exact Finset.single_lt_sum hk (Finset.mem_univ _) (Finset.mem_univ _) (Real.exp_pos _) fun _ _ _ => (Real.exp_pos _).le

/-- The lower bound of the gates of direction `d`: layer 1's share. -/
def lower (X : ℕ → ℕ → ℕ → ℝ) (d l : ℕ) : ℝ := soft (fun i => X i d l) 1

theorem lower_nonneg (X : ℕ → ℕ → ℕ → ℝ) (d l : ℕ) : 0 ≤ lower X d l := soft_nonneg _ _

theorem lower_lt_one (X : ℕ → ℕ → ℕ → ℝ) (d l : ℕ) : lower X d l < 1 := soft_lt_one _ _

/-- The least float is below everything. -/
theorem ofBits_bot : Ideal.ofBits .f32 0xFF800000#32 = ⊥ := by
  simp [Ideal.ofBits, Ideal.ieee]

theorem coe_max (a b : ℝ) : max (a : EReal) (b : EReal) = ((max a b : ℝ) : EReal) := (EReal.coe_strictMono.monotone.map_max).symm

/-- The greatest of four real entries is real. -/
theorem max_real (x : Fin 4 → ℝ) : ∃ M : ℝ, max (Ideal.ofBits .f32 0xFF800000#32)
    (Finset.fold max (Ideal.ofBits .f32 0xFF800000#32) (fun i => ((x i : ℝ) : EReal)) Finset.univ) = ((M : ℝ) : EReal) := by
  refine ⟨max (x 0) (max (x 1) (max (x 2) (x 3))), ?_⟩
  rw [ofBits_bot, show (Finset.univ : Finset (Fin 4)) = {0, 1, 2, 3} from rfl, Finset.fold_insert (by decide), Finset.fold_insert (by decide),
    Finset.fold_insert (by decide), Finset.fold_singleton, max_eq_left (bot_le : (⊥ : EReal) ≤ ((x 3 : ℝ) : EReal)), max_eq_right bot_le, coe_max, coe_max, coe_max]

/-- The host's softmax of real logits. -/
theorem softmax_real (f : Fin 4 → EReal) (x : Fin 4 → ℝ) (hf : ∀ i, f i = ((x i : ℝ) : EReal)) (i : Fin 4) :
    Ideal.div (Ideal.exp (f i - max (Ideal.ofBits .f32 0xFF800000#32) (Finset.fold max (Ideal.ofBits .f32 0xFF800000#32) (fun j => f j) Finset.univ)))
      (∑ k, Ideal.exp (f k - max (Ideal.ofBits .f32 0xFF800000#32) (Finset.fold max (Ideal.ofBits .f32 0xFF800000#32) (fun j => f j) Finset.univ)))
      = ((soft x i : ℝ) : EReal) := by
  obtain rfl : f = fun i => ((x i : ℝ) : EReal) := funext hf
  obtain ⟨M, hM⟩ := max_real x
  rw [hM]
  simp only [← EReal.coe_sub, Ideal.exp_coe]
  rw [show (∑ k, ((Real.exp (x k - M) : ℝ) : EReal)) = ((∑ k, Real.exp (x k - M) : ℝ) : EReal) from
    (map_sum (⟨⟨((↑) : ℝ → EReal), EReal.coe_zero⟩, EReal.coe_add⟩ : ℝ →+ EReal) (fun k => Real.exp (x k - M)) Finset.univ).symm]
  have hp : 0 < ∑ k, Real.exp (x k - M) := Finset.sum_pos (fun _ _ => Real.exp_pos _) ⟨0, Finset.mem_univ _⟩
  rw [Ideal.div_coe hp.ne', ← EReal.coe_mul, mul_one_div]
  simp only [Real.exp_sub, ← Finset.sum_div]
  rw [div_div_div_cancel_right₀ (Real.exp_pos M).ne']
  rfl

end Hgrn

end
-- ==== Proof.KernelBound.lean ====
module

public import proofs.«01_k».proof.Proof.Gen.KernelIdeal.Value
public import proofs.«01_k».proof.Proof.Cumulative
public import proofs.«01_k».proof.Proof.Inputs
public import Idealize.ShloMosaic.Lib.Claim
public import Idealize.ShloMosaic.Lib.Pointwise
public import Idealize.ShloMosaic.Lib.StableHlo.RunLoop
public import Idealize.ShloMosaic.Lib.StableHlo.RunRead

/-!
# The lower bound that the kernel is given

The host operations before the call, read at the operand that holds the lower bounds of the gates.
-/

@[expose] public section

set_option maxRecDepth 16384

noncomputable section

namespace Cert.KernelIdeal.Chunk

open Cert.KernelIdeal Cert.KernelIdeal.Gen Idealize.ShloMosaic Idealize.ShloMosaic.TcCoe Idealize.SL.Sem
open Idealize.ShloMosaic.StableHlo

theorem after_diff (X : Valuation τ sig (Elt Ideal)) (l : Fin 512) (a b : ℝ)
    (ha : X (Proc.devRef .tc main_v11) (ix3 1 0 l) = ((a : ℝ) : EReal)) (hb : X (Proc.devRef .tc main_v10) (ix3 0 0 l) = ((b : ℝ) : EReal)) :
    after hostOps0_2 X (Proc.devRef .tc main_v17) (ix3 0 0 l) = ((a - b : ℝ) : EReal) := by
  entry_read
  pointwise
  rw [ha, hb, EReal.coe_sub]

theorem after_cumsum (X : Valuation τ sig (Elt Ideal)) (l : Fin 512) (p : ℕ → ℝ)
    (hp : ∀ k : Fin 4, X (Proc.devRef .tc main_v10) (ix3 k 0 l) = ((p k : ℝ) : EReal)) :
    after hostOps0_1 X (Proc.devRef .tc main_v11) (ix3 1 0 l) = ((p 0 + p 1 : ℝ) : EReal) := by
  have h : after hostOps0_1 X (Proc.devRef .tc main_v11) = (Host.reduceWindowAdd ![4, 1, 1] ![1, 1, 1] ![3, 0, 0] ![0, 0, 0]
      (X (Proc.devRef .tc main_v10)) (broadcastInDim S_ ![] bcast_S_S_ (constant S_ .f32 0x00000000#32))
      reduceWindows_S4x2x512_S4x2x512_w4s1p3_0_w1s1p0_0_w1s1p0_0 h_S_ : FVec Ideal S4x2x512 .f32) := by
    simp only [hostOps0_1]
    after_results_entrywise [cast_eq]
  rw [h]
  refine (Hgrn.cumsum4 _ _ _ _ ?_ 1 0 l p hp).trans ?_
  · pointwise
  · rw [show ((1 : Fin 4) : ℕ) + 1 = 2 from rfl, Finset.sum_range_succ, Finset.sum_range_one]

theorem after_soft (X : Valuation τ sig (Elt Ideal)) (x : Fin 4 → ℝ) (i : Fin 4) (l : Fin 512)
    (hx : ∀ i, X (Proc.devRef .tc main_arg1) (ix3 i 0 l) = ((x i : ℝ) : EReal)) :
    after hostOps0 X (Proc.devRef .tc main_v10) (ix3 i 0 l) = ((Hgrn.soft x i : ℝ) : EReal) := by
  entry_read
  pointwise
  exact Hgrn.softmax_real (fun i => X (Proc.devRef .tc main_arg1) (ix3 i 0 l)) x hx i

theorem after_keep (X : Valuation τ sig (Elt Ideal)) : after hostOps0_1 X (Proc.devRef .tc main_v10) = X (Proc.devRef .tc main_v10) := by
  simp only [hostOps0_1]
  after_results_entrywise [cast_eq]

/-- The lower bounds that the call stages. -/
theorem bound_read (m : (ℓ : Loc nD τ sig) → Buf (Elt Ideal) ℓ) (c : Dev nD) (X : ℕ → ℕ → ℕ → ℝ)
    (hx : ∀ (i : Fin 4) (d : Fin 2) (l : Fin 512), m ((c : Thread nD τ).loc main_arg1) (ix3 i d l) = ((X i d l : ℝ) : EReal)) (l : Fin 512) :
    V m c main_v17 (ix3 0 0 l) = ((Hgrn.lower X 0 l : ℝ) : EReal) := by
  show after (List.flatten [hostOps0, hostOps0_1, hostOps0_2]) (fun b => m (c, b)) (Proc.devRef .tc main_v17) (ix3 0 0 l) = _
  rw [← afterL_eq_after_flatten]
  simp only [afterL_cons, afterL_nil]
  have h0 : ∀ k : Fin 4, after hostOps0 (fun b => m (c, b)) (Proc.devRef .tc main_v10) (ix3 k 0 l)
      = ((Hgrn.soft (fun i => X i 0 l) k : ℝ) : EReal) := fun k => after_soft _ (fun i => X i 0 l) k l fun i => hx i 0 l
  refine (after_diff _ l _ (Hgrn.soft (fun i => X i 0 l) 0) (after_cumsum _ l (fun k => if h : k < 4 then Hgrn.soft (fun i => X i 0 l) ⟨k, h⟩ else 0) fun k => ?_) ?_).trans ?_
  · rw [h0, dif_pos k.isLt]
  · exact (congrFun (after_keep _) _).trans (h0 0)
  · rw [dif_pos (by decide), dif_pos (by decide)]
    show _ = ((Hgrn.soft (fun i => X i 0 l) 1 : ℝ) : EReal)
    congr 1
    exact add_sub_cancel_left _ _

end Cert.KernelIdeal.Chunk

end
-- ==== Proof.KernelValue.lean ====
module

public import proofs.«01_k».proof.Proof.ChunkReal
public import proofs.«01_k».proof.Proof.Pieces
public import proofs.«01_k».proof.Proof.KernelBound

/-!
# What the kernel computes

The scratch after a point is the state of the recurrence after the point's times, and the block that the point writes is the
recurrence's output at them.
-/

@[expose] public section

set_option maxRecDepth 16384

noncomputable section

namespace Cert.KernelIdeal.Chunk

open Cert.KernelIdeal Cert.KernelIdeal.Gen Idealize.ShloMosaic Idealize.ShloMosaic.TcCoe Idealize.SL.Sem
open Idealize.ShloMosaic.Pipeline (Dat)
open Hgrn

/-- The block row of a point: the context's blocks come last in the array and first in time. -/
def blockOf (n : ℕ) : ℕ := if n % 33 = 0 then 64 + n / 33 else 32 * (n / 33) + (n % 33 - 1)

theorem row_block {n : ℕ} (r : ℕ) (hr : r < 256) : row (n / 33) (256 * (n % 33) + r) = 256 * blockOf n + r := by
  unfold row blockOf
  split_ifs <;> omega

theorem blockOf_lt {n : ℕ} (h : n < 66) : blockOf n < 66 := by
  unfold blockOf
  split_ifs <;> omega

theorem windows : ∀ t : Fin cfg0.N, win0_0.index t = ![blockOf t.val, 0] ∧ win0_1.index t = ![blockOf t.val, 1] ∧
    win0_2.index t = ![blockOf t.val, 3] ∧ win0_3.index t = ![0, 0, 0] ∧ win0_4.index t = ![blockOf t.val, 0] := by
  decide +kernel

variable (m : (ℓ : Loc nD τ sig) → Buf (Elt Ideal) ℓ)

theorem block0 (c : Dev nD) (t : Fin cfg0.N) (r : Fin 256) (l : Fin 512) (rr : Fin 16896) (hr : rr.val = 256 * blockOf t.val + r) :
    iblk m c 0 t (ix2 r l) = m ((c : Thread nD τ).loc main_arg0) (ix2 rr ⟨0 + l, by omega⟩) := by
  blk_ext [iblk, V, windows t]

theorem block1 (c : Dev nD) (t : Fin cfg0.N) (r : Fin 256) (l : Fin 512) (rr : Fin 16896) (hr : rr.val = 256 * blockOf t.val + r) :
    iblk m c 1 t (ix2 r l) = m ((c : Thread nD τ).loc main_arg0) (ix2 rr ⟨512 + l, by omega⟩) := by
  blk_ext [iblk, V, windows t]

theorem block2 (c : Dev nD) (t : Fin cfg0.N) (r : Fin 256) (l : Fin 512) (rr : Fin 16896) (hr : rr.val = 256 * blockOf t.val + r) :
    iblk m c 2 t (ix2 r l) = m ((c : Thread nD τ).loc main_arg0) (ix2 rr ⟨1536 + l, by omega⟩) := by
  blk_ext [iblk, V, windows t]

theorem block3 (c : Dev nD) (t : Fin cfg0.N) (l : Fin 512) : iblk m c 3 t (ix3 0 0 l) = V m c main_v17 (ix3 0 0 l) := by
  blk_ext [iblk, V, windows t]

theorem top_read (x : Vec Ideal S256x512 .f32) (w : Fin 128) (l : Fin 512) : top x (ix2 w l) = x (ix2 ⟨w, by omega⟩ l) := by
  pointwise [top]

theorem bot_read (x : Vec Ideal S256x512 .f32) (w : Fin 128) (l : Fin 512) : bot x (ix2 w l) = x (ix2 ⟨128 + w, by omega⟩ l) := by
  pointwise [bot]

theorem slab_read (h : ℕ) (hh : h < 4) (inb) (st : Vec Ideal S4x128x128 .f32) (w c : Fin 128) :
    slab h inb st (ix3 0 w c) = st (ix3 ⟨h, hh⟩ w c) := by
  pointwise [slab]

theorem top_rows {x : Vec Ideal S256x512 .f32} {Y : ℕ → ℕ → ℝ} {n : ℕ} (hx : ∀ (r : Fin 256) (l : Fin 512), x (ix2 r l) = ((Y (n + r) l : ℝ) : EReal))
    (r : Fin 128) (l : Fin 512) : top x (ix2 r l) = ((Y (n + r) l : ℝ) : EReal) := (top_read x r l).trans (hx _ l)

theorem bot_rows {x : Vec Ideal S256x512 .f32} {Y : ℕ → ℕ → ℝ} {n : ℕ} (hx : ∀ (r : Fin 256) (l : Fin 512), x (ix2 r l) = ((Y (n + r) l : ℝ) : EReal))
    (r : Fin 128) (l : Fin 512) : bot x (ix2 r l) = ((Y (n + 128 + r) l : ℝ) : EReal) := by
  rw [bot_read, hx, add_assoc]

section Point

variable {L : ℕ → ℝ} {Z Q W : ℕ → ℕ → ℝ} {n : ℕ} {lb : Vec Ideal S1x1x512 .f32} {q v z : Vec Ideal S256x512 .f32} {st : Vec Ideal S4x128x128 .f32}
  (hL : ∀ l : Fin 512, lb (ix3 0 0 l) = ((L l : ℝ) : EReal)) (h0 : ∀ l, 0 ≤ L l) (h1 : ∀ l, L l < 1)
  (hZ : ∀ (r : Fin 256) (l : Fin 512), z (ix2 r l) = ((Z (n + r) l : ℝ) : EReal))
  (hQ : ∀ (r : Fin 256) (l : Fin 512), q (ix2 r l) = ((Q (n + r) l : ℝ) : EReal))
  (hV : ∀ (r : Fin 256) (l : Fin 512), v (ix2 r l) = ((W (n + r) l : ℝ) : EReal))
  (hst : ∀ (h : Fin 4) (w c : Fin 128), st (ix3 h w c) = ((gateState (logGate L Z) (keyOf L Z) W n (128 * h + c) (128 * h + w) : ℝ) : EReal))

include hst in
theorem slab_state (h o : ℕ) (hh : h < 4) (ho : o = 128 * h) (inb) (w c : Fin 128) :
    slab h inb st (ix3 0 w c) = ((gateState (logGate L Z) (keyOf L Z) W n (o + c) (o + w) : ℝ) : EReal) := by
  subst ho
  exact (slab_read h hh inb st w c).trans (hst ⟨h, hh⟩ w c)

include hL h0 h1 hZ hV hst in
/-- The state of a head after both chunks of a point. -/
theorem twice_point (h o : ℕ) (hh : h < 4) (ho : o = 128 * h) (hs hs1 inb) (x : S1x128x128.Idx) (y : S4x128x128.Idx)
    (y0 : (y 0 : ℕ) = h + (x 0 : ℕ)) (y1 : (y 1 : ℕ) = (x 1 : ℕ)) (y2 : (y 2 : ℕ) = (x 2 : ℕ)) :
    twice o hs hs1 v z lb (slab h inb st) x
      = ((gateState (logGate L Z) (keyOf L Z) W (n + 256) (128 * (y 0 : ℕ) + (y 2 : ℕ)) (128 * (y 0 : ℕ) + (y 1 : ℕ)) : ℝ) : EReal) := by
  idx_vars x
  have e0 : (y 0 : ℕ) = h := by have := x0.isLt; simp at y0; omega
  obtain rfl : x0 = 0 := by ext; have := x0.isLt; simp
  have := headSt_read hL h0 h1 (bot_rows hZ) (bot_rows hV) o (by omega) hs hs1
    (headSt_read hL h0 h1 (top_rows hZ) (top_rows hV) o (by omega) hs hs1 (slab_state hst h o hh ho inb)) x1 x2
  refine (this : twice o hs hs1 v z lb (slab h inb st) (ix3 0 x1 x2) = _).trans ?_
  rw [e0, y1, y2, ho, add_assoc n 128 128]

include hL h0 h1 hZ hQ hV hst in
/-- A head's outputs in the first chunk of a point. -/
theorem first_point (h o : ℕ) (hh : h < 4) (ho : o = 128 * h) (hs inb) (x : S128x128.Idx) (y : S256x512.Idx)
    (y0 : (y 0 : ℕ) = (x 0 : ℕ)) (y1 : (y 1 : ℕ) = o + (x 1 : ℕ)) :
    headOut o hs lb (top z) (top q) (top v) (slab h inb st) x
      = ((gateOut (logGate L Z) Q (keyOf L Z) W (n + (y 0 : ℕ)) (y 1 : ℕ) : ℝ) : EReal) := by
  idx_vars x
  have := headOut_read hL h0 h1 (top_rows hZ) (top_rows hQ) (top_rows hV) o (by omega) (by omega) hs (slab_state hst h o hh ho inb) x0 x1
  refine this.trans ?_
  rw [y0, y1]

include hL h0 h1 hZ hQ hV hst in
/-- A head's outputs in the second chunk of a point. -/
theorem second_point (h o : ℕ) (hh : h < 4) (ho : o = 128 * h) (hs hs1 inb) (x : S128x128.Idx) (y : S256x512.Idx)
    (y0 : (y 0 : ℕ) = 128 + (x 0 : ℕ)) (y1 : (y 1 : ℕ) = o + (x 1 : ℕ)) :
    headOut o hs lb (bot z) (bot q) (bot v) (headSt o hs hs1 lb (top z) (top v) (slab h inb st)) x
      = ((gateOut (logGate L Z) Q (keyOf L Z) W (n + (y 0 : ℕ)) (y 1 : ℕ) : ℝ) : EReal) := by
  idx_vars x
  have := headOut_read hL h0 h1 (bot_rows hZ) (bot_rows hQ) (bot_rows hV) o (by omega) (by omega) hs
    (headSt_read hL h0 h1 (top_rows hZ) (top_rows hV) o (by omega) hs hs1 (slab_state hst h o hh ho inb)) x0 x1
  refine this.trans ?_
  rw [y0, y1, ← add_assoc n 128]

end Point

section Run

variable (c : Dev nD) {U : ℕ → ℕ → ℝ} {X : ℕ → ℕ → ℕ → ℝ}
  (hu : ∀ (r : Fin 16896) (l : Fin 7680), m ((c : Thread nD τ).loc main_arg0) (ix2 r l) = ((U r l : ℝ) : EReal))
  (hx : ∀ (i : Fin 4) (d : Fin 2) (l : Fin 512), m ((c : Thread nD τ).loc main_arg1) (ix3 i d l) = ((X i d l : ℝ) : EReal))

include hu in
theorem read0 (t : Fin cfg0.N) (r : Fin 256) (l : Fin 512) :
    iblk m c 0 t (ix2 r l) = ((group U 0 (t.val / 33) (256 * (t.val % 33) + r) l : ℝ) : EReal) := by
  have ht : t.val < 66 := lt_of_lt_of_eq t.isLt N_0
  rw [block0 m c t r l ⟨256 * blockOf t.val + r, by have := blockOf_lt ht; omega⟩ rfl, hu, group, row_block _ r.isLt]

include hu in
theorem read1 (t : Fin cfg0.N) (r : Fin 256) (l : Fin 512) :
    iblk m c 1 t (ix2 r l) = ((group U 512 (t.val / 33) (256 * (t.val % 33) + r) l : ℝ) : EReal) := by
  have ht : t.val < 66 := lt_of_lt_of_eq t.isLt N_0
  rw [block1 m c t r l ⟨256 * blockOf t.val + r, by have := blockOf_lt ht; omega⟩ rfl, hu, group, row_block _ r.isLt]

include hu in
theorem read2 (t : Fin cfg0.N) (r : Fin 256) (l : Fin 512) :
    iblk m c 2 t (ix2 r l) = ((group U 1536 (t.val / 33) (256 * (t.val % 33) + r) l : ℝ) : EReal) := by
  have ht : t.val < 66 := lt_of_lt_of_eq t.isLt N_0
  rw [block2 m c t r l ⟨256 * blockOf t.val + r, by have := blockOf_lt ht; omega⟩ rfl, hu, group, row_block _ r.isLt]

include hx in
theorem read3 (t : Fin cfg0.N) (l : Fin 512) : iblk m c 3 t (ix3 0 0 l) = ((lower X 0 l : ℝ) : EReal) :=
  (block3 m c t l).trans (bound_read m c X hx l)

/-- The state of sequence `b` before time `t`. -/
def seqState (U : ℕ → ℕ → ℝ) (X : ℕ → ℕ → ℕ → ℝ) (b t l w : ℕ) : ℝ :=
  gateState (logGate (lower X 0) (group U 1536 b)) (keyOf (lower X 0) (group U 1536 b)) (group U 512 b) t l w

/-- The output of sequence `b` at time `t`. -/
def seqOut (U : ℕ → ℕ → ℝ) (X : ℕ → ℕ → ℕ → ℝ) (b t w : ℕ) : ℝ :=
  gateOut (logGate (lower X 0) (group U 1536 b)) (group U 0 b) (keyOf (lower X 0) (group U 1536 b)) (group U 512 b) t w

theorem reset_read (h : Fin 4) (w k : Fin 128) (g : ℕ → ℕ → ℝ) (kk v : ℕ → ℕ → ℝ) :
    (k0_pay1 (F := Ideal)) (ix3 h w k) = ((gateState g kk v 0 (128 * h + k) (128 * h + w) : ℝ) : EReal) := by
  pointwise [k0_pay1]
  simp [gateState]

/-- The scratch after a run's first point. -/
theorem scratch_A (t : Fin cfg0.N) (h : t.val % 33 = 0) (T : Vec Ideal S4x128x128 .f32)
    (e : ∀ (h o : ℕ), h < 4 → o = 128 * h → ∀ hs h1 inb, ∀ x : S1x128x128.Idx, ∀ y : S4x128x128.Idx, (y 0 : ℕ) = h + (x 0 : ℕ) →
      (y 1 : ℕ) = (x 1 : ℕ) → (y 2 : ℕ) = (x 2 : ℕ) → twice o hs h1 (iblk m c 1 t) (iblk m c 2 t) (iblk m c 3 t) (slab h inb (k0_pay1 (F := Ideal))) x = T y)
    (y : S4x128x128.Idx) :
    (outsAt0 m c t.val t.isLt).2 y = T y := by
  rw [outsAt0_A m c t h]
  dsimp only
  refine sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h) (iblk m c 0 t) (iblk m c 1 t) (iblk m c 2 t) (iblk m c 3 t) T ?_ y
  exact e

/-- The scratch after a later point. -/
theorem scratch_B (t : Fin cfg0.N) (h : ¬ t.val % 33 = 0) (T : Vec Ideal S4x128x128 .f32)
    (e : ∀ (h o : ℕ), h < 4 → o = 128 * h → ∀ hs h1 inb, ∀ x : S1x128x128.Idx, ∀ y : S4x128x128.Idx, (y 0 : ℕ) = h + (x 0 : ℕ) →
      (y 1 : ℕ) = (x 1 : ℕ) → (y 2 : ℕ) = (x 2 : ℕ) → twice o hs h1 (iblk m c 1 t) (iblk m c 2 t) (iblk m c 3 t) (slab h inb (outsAt0 m c (t.val - 1) (Nat.lt_of_le_of_lt (Nat.sub_le _ _) t.isLt)).2) x = T y)
    (y : S4x128x128.Idx) :
    (outsAt0 m c t.val t.isLt).2 y = T y := by
  rw [outsAt0_B m c t h]
  dsimp only
  refine sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun e => h ((hcond0_0 t).mp e)) (iblk m c 0 t) (iblk m c 1 t) (iblk m c 2 t) (iblk m c 3 t) (outsAt0 m c (t.val - 1) (Nat.lt_of_le_of_lt (Nat.sub_le _ _) t.isLt)).2 T ?_ y
  exact e

/-- The output block of a run's first point. -/
theorem block_A (t : Fin cfg0.N) (h : t.val % 33 = 0) (T : Vec Ideal S256x512 .f32)
    (e : ∀ (h o : ℕ), h < 4 → o = 128 * h → ∀ hs inb, ∀ x : S128x128.Idx, ∀ y : S256x512.Idx, (y 0 : ℕ) = (x 0 : ℕ) →
      (y 1 : ℕ) = o + (x 1 : ℕ) → headOut o hs (iblk m c 3 t) (top (iblk m c 2 t)) (top (iblk m c 0 t)) (top (iblk m c 1 t)) (slab h inb (k0_pay1 (F := Ideal))) x = T y)
    (e' : ∀ (h o : ℕ), h < 4 → o = 128 * h → ∀ hs h1 inb, ∀ x : S128x128.Idx, ∀ y : S256x512.Idx, (y 0 : ℕ) = 128 + (x 0 : ℕ) →
      (y 1 : ℕ) = o + (x 1 : ℕ) → headOut o hs (iblk m c 3 t) (bot (iblk m c 2 t)) (bot (iblk m c 0 t)) (bot (iblk m c 1 t))
        (headSt o hs h1 (iblk m c 3 t) (top (iblk m c 2 t)) (top (iblk m c 1 t)) (slab h inb (k0_pay1 (F := Ideal)))) x = T y)
    (y : S256x512.Idx) :
    (outsAt0 m c t.val t.isLt).1 y = T y := by
  rw [outsAt0_A m c t h]
  exact out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h) (iblk m c 0 t) (iblk m c 1 t) (iblk m c 2 t) (iblk m c 3 t) T e e' y

/-- The output block of a later point. -/
theorem block_B (t : Fin cfg0.N) (h : ¬ t.val % 33 = 0) (T : Vec Ideal S256x512 .f32)
    (e : ∀ (h o : ℕ), h < 4 → o = 128 * h → ∀ hs inb, ∀ x : S128x128.Idx, ∀ y : S256x512.Idx, (y 0 : ℕ) = (x 0 : ℕ) →
      (y 1 : ℕ) = o + (x 1 : ℕ) → headOut o hs (iblk m c 3 t) (top (iblk m c 2 t)) (top (iblk m c 0 t)) (top (iblk m c 1 t)) (slab h inb (outsAt0 m c (t.val - 1) (Nat.lt_of_le_of_lt (Nat.sub_le _ _) t.isLt)).2) x = T y)
    (e' : ∀ (h o : ℕ), h < 4 → o = 128 * h → ∀ hs h1 inb, ∀ x : S128x128.Idx, ∀ y : S256x512.Idx, (y 0 : ℕ) = 128 + (x 0 : ℕ) →
      (y 1 : ℕ) = o + (x 1 : ℕ) → headOut o hs (iblk m c 3 t) (bot (iblk m c 2 t)) (bot (iblk m c 0 t)) (bot (iblk m c 1 t))
        (headSt o hs h1 (iblk m c 3 t) (top (iblk m c 2 t)) (top (iblk m c 1 t)) (slab h inb (outsAt0 m c (t.val - 1) (Nat.lt_of_le_of_lt (Nat.sub_le _ _) t.isLt)).2)) x = T y)
    (y : S256x512.Idx) :
    (outsAt0 m c t.val t.isLt).1 y = T y := by
  rw [outsAt0_B m c t h]
  exact out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun e => h ((hcond0_0 t).mp e)) (iblk m c 0 t) (iblk m c 1 t) (iblk m c 2 t) (iblk m c 3 t) (outsAt0 m c (t.val - 1) (Nat.lt_of_le_of_lt (Nat.sub_le _ _) t.isLt)).2 T e e' y

include hu hx in
/-- The scratch after a point holds the states after the point's times. -/
theorem scratch_read (n : ℕ) (hn : n < cfg0.N) (y : S4x128x128.Idx) :
    (outsAt0 m c n hn).2 y = ((seqState U X (n / 33) (256 * (n % 33) + 256) (128 * (y 0 : ℕ) + (y 2 : ℕ)) (128 * (y 0 : ℕ) + (y 1 : ℕ)) : ℝ) : EReal) := by
  induction n using Nat.strong_induction_on generalizing y with
  | _ n ih =>
    by_cases h : n % 33 = 0
    · exact scratch_A m c ⟨n, hn⟩ h (fun y => ((seqState U X (n / 33) (256 * (n % 33) + 256) (128 * (y 0 : ℕ) + (y 2 : ℕ)) (128 * (y 0 : ℕ) + (y 1 : ℕ)) : ℝ) : EReal))
        (twice_point (read3 m c hx ⟨n, hn⟩) (lower_nonneg X 0) (lower_lt_one X 0) (read2 m c hu ⟨n, hn⟩) (read1 m c hu ⟨n, hn⟩)
          (fun a w k => by rw [h]; exact reset_read a w k _ _ _)) y
    · have hp : n - 1 < n := by omega
      exact scratch_B m c ⟨n, hn⟩ h (fun y => ((seqState U X (n / 33) (256 * (n % 33) + 256) (128 * (y 0 : ℕ) + (y 2 : ℕ)) (128 * (y 0 : ℕ) + (y 1 : ℕ)) : ℝ) : EReal))
        (twice_point (read3 m c hx ⟨n, hn⟩) (lower_nonneg X 0) (lower_lt_one X 0) (read2 m c hu ⟨n, hn⟩) (read1 m c hu ⟨n, hn⟩)
          (fun a w k => by
            rw [ih (n - 1) hp _ (ix3 a w k), seqState, show (n - 1) / 33 = n / 33 by omega, show 256 * ((n - 1) % 33) + 256 = 256 * (n % 33) by omega]
            rfl)) y

include hu hx in
/-- A point's output block holds the outputs at its times. -/
theorem output_read (n : ℕ) (hn : n < cfg0.N) (y : S256x512.Idx) :
    (outsAt0 m c n hn).1 y = ((seqOut U X (n / 33) (256 * (n % 33) + (y 0 : ℕ)) (y 1 : ℕ) : ℝ) : EReal) := by
  by_cases h : n % 33 = 0
  · have hst : ∀ (a : Fin 4) (w k : Fin 128), (k0_pay1 (F := Ideal)) (ix3 a w k) = ((seqState U X (n / 33) (256 * (n % 33)) (128 * a + k) (128 * a + w) : ℝ) : EReal) :=
      fun a w k => by rw [h]; exact reset_read a w k _ _ _
    exact block_A m c ⟨n, hn⟩ h (fun y => ((seqOut U X (n / 33) (256 * (n % 33) + (y 0 : ℕ)) (y 1 : ℕ) : ℝ) : EReal))
      (first_point (read3 m c hx ⟨n, hn⟩) (lower_nonneg X 0) (lower_lt_one X 0) (read2 m c hu ⟨n, hn⟩) (read0 m c hu ⟨n, hn⟩) (read1 m c hu ⟨n, hn⟩) hst)
      (second_point (read3 m c hx ⟨n, hn⟩) (lower_nonneg X 0) (lower_lt_one X 0) (read2 m c hu ⟨n, hn⟩) (read0 m c hu ⟨n, hn⟩) (read1 m c hu ⟨n, hn⟩) hst) y
  · have hst : ∀ (a : Fin 4) (w k : Fin 128), (outsAt0 m c (n - 1) (Nat.lt_of_le_of_lt (Nat.sub_le _ _) hn)).2 (ix3 a w k)
        = ((seqState U X (n / 33) (256 * (n % 33)) (128 * a + k) (128 * a + w) : ℝ) : EReal) :=
      fun a w k => by
        rw [scratch_read m c hu hx (n - 1) _ (ix3 a w k), show (n - 1) / 33 = n / 33 by omega, show 256 * ((n - 1) % 33) + 256 = 256 * (n % 33) by omega]
        rfl
    exact block_B m c ⟨n, hn⟩ h (fun y => ((seqOut U X (n / 33) (256 * (n % 33) + (y 0 : ℕ)) (y 1 : ℕ) : ℝ) : EReal))
      (first_point (read3 m c hx ⟨n, hn⟩) (lower_nonneg X 0) (lower_lt_one X 0) (read2 m c hu ⟨n, hn⟩) (read0 m c hu ⟨n, hn⟩) (read1 m c hu ⟨n, hn⟩) hst)
      (second_point (read3 m c hx ⟨n, hn⟩) (lower_nonneg X 0) (lower_lt_one X 0) (read2 m c hu ⟨n, hn⟩) (read0 m c hu ⟨n, hn⟩) (read1 m c hu ⟨n, hn⟩) hst) y

/-- The array of outputs: row by row of the projections. -/
def outArray (U : ℕ → ℕ → ℝ) (X : ℕ → ℕ → ℕ → ℝ) : Vec Ideal S16896x512 .f32 :=
  fun y => ((seqOut U X (seqOf (y 0 : ℕ)) (timeOf (y 0 : ℕ)) (y 1 : ℕ) : ℝ) : EReal)

include hu hx in
theorem arr_read : (dats m 0 c).arrAt 4 cfg0.N = outArray U X := by
  refine (dats m 0 c).arrAt_eq_of_covers 4 (outArray U X) (by decide +kernel) fun t hf y => ?_
  blk_simp
  rw [after0_4]
  refine (output_read m c hu hx t.val t.isLt y).trans ?_
  have ht : t.val < 66 := lt_of_lt_of_eq t.isLt N_0
  have e0 : (((win0_4.blk t).view.emb y) 0 : ℕ) = 256 * blockOf t.val + (y 0 : ℕ) := by blk_simp [windows t]; omega
  have e1 : (((win0_4.blk t).view.emb y) 1 : ℕ) = (y 1 : ℕ) := by blk_simp [windows t]
  have hr : (y 0 : ℕ) < 256 := (y 0).isLt
  rw [outArray, e0, e1, ← row_block _ hr, seqOf_row (by omega) (by omega), timeOf_row (by omega) (by omega)]

end Run

end Cert.KernelIdeal.Chunk

end
-- ==== Proof.RefReads.lean ====
module

public import proofs.«01_k».proof.Proof.Gen.ReferenceIdeal.Run
public import proofs.«01_k».proof.Proof.ChunkReal
public import proofs.«01_k».proof.Proof.Inputs
public import Idealize.ShloMosaic.Lib.Claim
public import Idealize.ShloMosaic.Lib.Pointwise
public import Idealize.ShloMosaic.Lib.StableHlo.RunLoop
public import Idealize.ShloMosaic.Lib.StableHlo.RunRead

/-!
# What the reference scans

The four arrays of the scan over both parts of a sequence, read off the projections: the context's part and the latents' part, joined.
-/

@[expose] public section

set_option maxRecDepth 16384

noncomputable section

namespace Cert.ReferenceIdeal.Entry

open Cert.ReferenceIdeal Cert.ReferenceIdeal.Gen Cert.ReferenceIdeal.Value Idealize.ShloMosaic Idealize.ShloMosaic.TcCoe Idealize.SL.Sem
open Idealize.ShloMosaic.StableHlo Hgrn

/-- The gate of a real argument, as the reference divides it out. -/
theorem gate_word (L z : ℝ) :
    (L : EReal) + (1 - (L : EReal)) * Ideal.div 1 (1 + Ideal.exp (-(z : EReal))) = ((gate L z : ℝ) : EReal) := by
  have hp : (1 + Real.exp (-z)) ≠ 0 := by positivity
  rw [show (1 : EReal) = ((1 : ℝ) : EReal) from rfl, ← EReal.coe_neg, Ideal.exp_coe, ← EReal.coe_add, Ideal.div_coe hp, ← EReal.coe_sub,
    ← EReal.coe_mul, ← EReal.coe_mul, ← EReal.coe_add, one_mul, one_div]
  rfl

/-- The key of a real argument, as the reference divides it out. -/
theorem key_word (L z : ℝ) :
    (1 - (L : EReal)) * Ideal.div 1 (1 + Ideal.exp (- -(z : EReal))) = ((key L z : ℝ) : EReal) := by
  have hp : (1 + Real.exp z) ≠ 0 := by positivity
  rw [neg_neg, show (1 : EReal) = ((1 : ℝ) : EReal) from rfl, Ideal.exp_coe, ← EReal.coe_add, Ideal.div_coe hp, ← EReal.coe_sub,
    ← EReal.coe_mul, ← EReal.coe_mul, one_mul, one_div]
  rfl

/-- The logarithm of a gate with a bound from 0 below 1. -/
theorem log_word {L : ℝ} (h0 : 0 ≤ L) (h1 : L < 1) (z : ℝ) :
    Ideal.log ((gate L z : ℝ) : EReal) = ((Real.log (gate L z) : ℝ) : EReal) := by
  rw [Ideal.log_coe, if_neg (not_le.2 (gate_pos h0 h1 _))]

theorem log_words {a b z : EReal} {A B Z : ℝ} (ha : a = ((A : ℝ) : EReal)) (hb : b = ((B : ℝ) : EReal)) (hz : z = ((Z : ℝ) : EReal))
    (h0 : 0 ≤ A - B) (h1 : A - B < 1) :
    Ideal.log (a - b + (1 - (a - b)) * Ideal.div 1 (1 + Ideal.exp (-z))) = ((Real.log (gate (A - B) Z) : ℝ) : EReal) := by
  rw [ha, hb, hz, ← EReal.coe_sub, gate_word, log_word h0 h1]

theorem key_words {a b z : EReal} {A B Z : ℝ} (ha : a = ((A : ℝ) : EReal)) (hb : b = ((B : ℝ) : EReal)) (hz : z = ((Z : ℝ) : EReal)) :
    (1 - (a - b)) * Ideal.div 1 (1 + Ideal.exp (- -z)) = ((key (A - B) Z : ℝ) : EReal) := by
  rw [ha, hb, hz, ← EReal.coe_sub, key_word]

/-- Both parts of a sequence, joined along its times. -/
theorem joined (x : Vec Ideal S2x4x256x128 .f32) (y : Vec Ideal S2x4x8192x128 .f32) (b : Fin 2) (h : Fin 4) (t : Fin 8448) (c : Fin 128) :
    (concatenate S2x4x8448x128 2 [⟨S2x4x256x128, x⟩, ⟨S2x4x8192x128, y⟩] concatenates_S2x4x256x128_S2x4x8192x128_S2x4x8448x128_d2) (ix4 b h t c)
      = if e : t.val < 256 then x (ix4 b h ⟨t, e⟩ c) else y (ix4 b h ⟨t - 256, by omega⟩ c) := by
  pointwise

/-- The heads of the latents' part, apart. -/
theorem heads (x : Vec Ideal S2x8192x512 .f32) (b : Fin 2) (h : Fin 4) (t : Fin 8192) (c : Fin 128) :
    (transpose S2x4x8192x128 [0, 2, 1, 3] (shapeCast S2x8192x4x128 x shapeCasts_S2x8192x512_S2x8192x4x128 : Vec Ideal S2x8192x4x128 .f32)
      transposes_S2x8192x4x128_S2x4x8192x128_0_2_1_3) (ix4 b h t c) = x (ix3 b t ⟨h * 128 + c, by omega⟩) := by
  pointwise

set_option maxHeartbeats 8000000 in
theorem query_joined (X : Valuation τ sig (Elt Ideal)) :
    (after hostOps0_2 X (Proc.devRef .tc main_v102) : Vec Ideal S2x4x8448x128 .f32)
      = concatenate S2x4x8448x128 2 [⟨S2x4x256x128, (after hostOps0_2 X (Proc.devRef .tc main_v54) : Vec Ideal S2x4x256x128 .f32)⟩,
          ⟨S2x4x8192x128, (after hostOps0_2 X (Proc.devRef .tc main_v94) : Vec Ideal S2x4x8192x128 .f32)⟩]
          concatenates_S2x4x256x128_S2x4x8192x128_S2x4x8448x128_d2 := by
  entry_read
  rfl

set_option maxHeartbeats 8000000 in
theorem key_joined (X : Valuation τ sig (Elt Ideal)) :
    (after hostOps0_2 X (Proc.devRef .tc main_v103) : Vec Ideal S2x4x8448x128 .f32)
      = concatenate S2x4x8448x128 2 [⟨S2x4x256x128, (after hostOps0_2 X (Proc.devRef .tc main_v56) : Vec Ideal S2x4x256x128 .f32)⟩,
          ⟨S2x4x8192x128, (after hostOps0_2 X (Proc.devRef .tc main_v96) : Vec Ideal S2x4x8192x128 .f32)⟩]
          concatenates_S2x4x256x128_S2x4x8192x128_S2x4x8448x128_d2 := by
  entry_read
  rfl

set_option maxHeartbeats 8000000 in
theorem value_joined (X : Valuation τ sig (Elt Ideal)) :
    (after hostOps0_2 X (Proc.devRef .tc main_v104) : Vec Ideal S2x4x8448x128 .f32)
      = concatenate S2x4x8448x128 2 [⟨S2x4x256x128, (after hostOps0_2 X (Proc.devRef .tc main_v58) : Vec Ideal S2x4x256x128 .f32)⟩,
          ⟨S2x4x8192x128, (after hostOps0_2 X (Proc.devRef .tc main_v98) : Vec Ideal S2x4x8192x128 .f32)⟩]
          concatenates_S2x4x256x128_S2x4x8192x128_S2x4x8448x128_d2 := by
  entry_read
  rfl

set_option maxHeartbeats 8000000 in
theorem log_joined (X : Valuation τ sig (Elt Ideal)) :
    (after hostOps0_2 X (Proc.devRef .tc main_v105) : Vec Ideal S2x4x8448x128 .f32)
      = concatenate S2x4x8448x128 2 [⟨S2x4x256x128, (after hostOps0_2 X (Proc.devRef .tc main_v61) : Vec Ideal S2x4x256x128 .f32)⟩,
          ⟨S2x4x8192x128, (after hostOps0_2 X (Proc.devRef .tc main_v101) : Vec Ideal S2x4x8192x128 .f32)⟩]
          concatenates_S2x4x256x128_S2x4x8192x128_S2x4x8448x128_d2 := by
  entry_read
  rfl

/-- The gates of the latents' part. -/
def gates (y : FVec Ideal S512 .f32) (x : FVec Ideal S2x8192x512 .f32) : FVec Ideal S2x8192x512 .f32 :=
  addf (broadcastInDim S2x8192x512 ![0, 1, 2] bcast_S1x1x512_S2x8192x512_0_1_2 (broadcastInDim S1x1x512 ![2] bcast_S512_S1x1x512_2 y : FVec Ideal S1x1x512 .f32) : FVec Ideal S2x8192x512 .f32)
    (mulf (broadcastInDim S2x8192x512 ![0, 1, 2] bcast_S1x1x512_S2x8192x512_0_1_2 (broadcastInDim S1x1x512 ![2] bcast_S512_S1x1x512_2 (subf (broadcastInDim S512 ![] bcast_S_S512 (constant S_ .f32 0x3F800000#32)) y) : FVec Ideal S1x1x512 .f32) : FVec Ideal S2x8192x512 .f32)
      (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf x)))))

/-- The keys of the latents' part. -/
def keys (y : FVec Ideal S512 .f32) (x : FVec Ideal S2x8192x512 .f32) : FVec Ideal S2x8192x512 .f32 :=
  mulf (broadcastInDim S2x8192x512 ![0, 1, 2] bcast_S1x1x512_S2x8192x512_0_1_2 (broadcastInDim S1x1x512 ![2] bcast_S512_S1x1x512_2 (subf (broadcastInDim S512 ![] bcast_S_S512 (constant S_ .f32 0x3F800000#32)) y) : FVec Ideal S1x1x512 .f32) : FVec Ideal S2x8192x512 .f32)
    (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (Host.negf x)))))

theorem gates_read (y : FVec Ideal S512 .f32) (x : FVec Ideal S2x8192x512 .f32) (b : Fin 2) (t : Fin 8192) (l : Fin 512) (L z : ℝ)
    (hy : y (ix1 l) = ((L : ℝ) : EReal)) (hx : x (ix3 b t l) = ((z : ℝ) : EReal)) : gates y x (ix3 b t l) = ((gate L z : ℝ) : EReal) := by
  pointwise [gates]
  rw [hy, hx, gate_word]

theorem keys_read (y : FVec Ideal S512 .f32) (x : FVec Ideal S2x8192x512 .f32) (b : Fin 2) (t : Fin 8192) (l : Fin 512) (L z : ℝ)
    (hy : y (ix1 l) = ((L : ℝ) : EReal)) (hx : x (ix3 b t l) = ((z : ℝ) : EReal)) : keys y x (ix3 b t l) = ((key L z : ℝ) : EReal) := by
  pointwise [keys]
  rw [hy, hx, key_word]

set_option maxHeartbeats 8000000 in
theorem gates_entry (X : Valuation τ sig (Elt Ideal)) : (after hostOps0_2 X (Proc.devRef .tc main_v80) : FVec Ideal S2x8192x512 .f32)
    = gates (after hostOps0_2 X (Proc.devRef .tc main_v16)) (after hostOps0_2 X (Proc.devRef .tc main_v65)) := by
  entry_read
  rfl

set_option maxHeartbeats 8000000 in
theorem keys_entry (X : Valuation τ sig (Elt Ideal)) : (after hostOps0_2 X (Proc.devRef .tc main_v92) : FVec Ideal S2x8192x512 .f32)
    = keys (after hostOps0_2 X (Proc.devRef .tc main_v16)) (after hostOps0_2 X (Proc.devRef .tc main_v65)) := by
  entry_read
  rfl

set_option maxHeartbeats 8000000 in
theorem query_heads (X : Valuation τ sig (Elt Ideal)) :
    (after hostOps0_2 X (Proc.devRef .tc main_v94) : Vec Ideal S2x4x8192x128 .f32)
      = transpose S2x4x8192x128 [0, 2, 1, 3] (shapeCast S2x8192x4x128 (after hostOps0_2 X (Proc.devRef .tc main_v62) : Vec Ideal S2x8192x512 .f32)
          shapeCasts_S2x8192x512_S2x8192x4x128 : Vec Ideal S2x8192x4x128 .f32) transposes_S2x8192x4x128_S2x4x8192x128_0_2_1_3 := by
  entry_read
  rfl

set_option maxHeartbeats 8000000 in
theorem key_heads (X : Valuation τ sig (Elt Ideal)) :
    (after hostOps0_2 X (Proc.devRef .tc main_v96) : Vec Ideal S2x4x8192x128 .f32)
      = transpose S2x4x8192x128 [0, 2, 1, 3] (shapeCast S2x8192x4x128 (after hostOps0_2 X (Proc.devRef .tc main_v92) : Vec Ideal S2x8192x512 .f32)
          shapeCasts_S2x8192x512_S2x8192x4x128 : Vec Ideal S2x8192x4x128 .f32) transposes_S2x8192x4x128_S2x4x8192x128_0_2_1_3 := by
  entry_read
  rfl

set_option maxHeartbeats 8000000 in
theorem value_heads (X : Valuation τ sig (Elt Ideal)) :
    (after hostOps0_2 X (Proc.devRef .tc main_v98) : Vec Ideal S2x4x8192x128 .f32)
      = transpose S2x4x8192x128 [0, 2, 1, 3] (shapeCast S2x8192x4x128 (after hostOps0_2 X (Proc.devRef .tc main_v63) : Vec Ideal S2x8192x512 .f32)
          shapeCasts_S2x8192x512_S2x8192x4x128 : Vec Ideal S2x8192x4x128 .f32) transposes_S2x8192x4x128_S2x4x8192x128_0_2_1_3 := by
  entry_read
  rfl

set_option maxHeartbeats 8000000 in
theorem log_heads (X : Valuation τ sig (Elt Ideal)) :
    (after hostOps0_2 X (Proc.devRef .tc main_v101) : Vec Ideal S2x4x8192x128 .f32)
      = transpose S2x4x8192x128 [0, 2, 1, 3] (shapeCast S2x8192x4x128 (Host.log (after hostOps0_2 X (Proc.devRef .tc main_v80) : FVec Ideal S2x8192x512 .f32) : FVec Ideal S2x8192x512 .f32)
          shapeCasts_S2x8192x512_S2x8192x4x128 : Vec Ideal S2x8192x4x128 .f32) transposes_S2x8192x4x128_S2x4x8192x128_0_2_1_3 := by
  entry_read
  rfl

end Cert.ReferenceIdeal.Entry

end
-- ==== Proof.RefLatent.lean ====
module

public import proofs.«01_k».proof.Proof.Gen.ReferenceIdeal.Run
public import proofs.«01_k».proof.Proof.RefReads
public import Idealize.ShloMosaic.Lib.Claim
public import Idealize.ShloMosaic.Lib.Pointwise
public import Idealize.ShloMosaic.Lib.StableHlo.RunLoop
public import Idealize.ShloMosaic.Lib.StableHlo.RunRead

/-!
# The latents' columns, read off the projections

The query, value and gate-argument columns of the latents' rows.
-/

@[expose] public section

set_option maxRecDepth 200000

noncomputable section

namespace Cert.ReferenceIdeal.Entry

open Cert.ReferenceIdeal Cert.ReferenceIdeal.Gen Cert.ReferenceIdeal.Value Idealize.ShloMosaic Idealize.ShloMosaic.TcCoe Idealize.SL.Sem
open Idealize.ShloMosaic.StableHlo Hgrn

set_option maxHeartbeats 8000000 in
theorem latent_query (X : Valuation τ sig (Elt Ideal)) (b : Fin 2) (t : Fin 8192) (l : Fin 512) :
    after hostOps0_2 X (Proc.devRef .tc main_v62) (ix3 b t l) = X (Proc.devRef .tc main_arg0) (ix2 ⟨b * 8192 + t, by omega⟩ ⟨l, by omega⟩) := by
  entry_read
  pointwise

set_option maxHeartbeats 8000000 in
theorem latent_value (X : Valuation τ sig (Elt Ideal)) (b : Fin 2) (t : Fin 8192) (l : Fin 512) :
    after hostOps0_2 X (Proc.devRef .tc main_v63) (ix3 b t l) = X (Proc.devRef .tc main_arg0) (ix2 ⟨b * 8192 + t, by omega⟩ ⟨512 + l, by omega⟩) := by
  entry_read
  pointwise

set_option maxHeartbeats 8000000 in
theorem latent_arg (X : Valuation τ sig (Elt Ideal)) (b : Fin 2) (t : Fin 8192) (l : Fin 512) :
    after hostOps0_2 X (Proc.devRef .tc main_v65) (ix3 b t l) = X (Proc.devRef .tc main_arg0) (ix2 ⟨b * 8192 + t, by omega⟩ ⟨1536 + l, by omega⟩) := by
  entry_read
  pointwise

end Cert.ReferenceIdeal.Entry

end
-- ==== Proof.RefContext.lean ====
module

public import proofs.«01_k».proof.Proof.Gen.ReferenceIdeal.Run
public import proofs.«01_k».proof.Proof.RefReads
public import Idealize.ShloMosaic.Lib.Claim
public import Idealize.ShloMosaic.Lib.Pointwise
public import Idealize.ShloMosaic.Lib.StableHlo.RunLoop
public import Idealize.ShloMosaic.Lib.StableHlo.RunRead

/-!
# The context's part of the scan's arrays

The queries, keys, values and logarithms of gates of the context's rows, and the gates' bounds.
-/

@[expose] public section

set_option maxRecDepth 16384

noncomputable section

namespace Cert.ReferenceIdeal.Entry

open Cert.ReferenceIdeal Cert.ReferenceIdeal.Gen Cert.ReferenceIdeal.Value Idealize.ShloMosaic Idealize.ShloMosaic.TcCoe Idealize.SL.Sem
open Idealize.ShloMosaic.StableHlo Hgrn

variable (X : Valuation τ sig (Elt Ideal)) (U : ℕ → ℕ → ℝ) (A B L : ℕ → ℝ)

theorem bound_entry (ha : ∀ l : Fin 512, X (Proc.devRef .tc main_v11) (ix3 1 0 l) = ((A l : ℝ) : EReal))
    (hb : ∀ l : Fin 512, X (Proc.devRef .tc main_v10) (ix3 0 0 l) = ((B l : ℝ) : EReal)) (l : Fin 512) :
    after hostOps0_2 X (Proc.devRef .tc main_v16) (ix1 l) = ((A l - B l : ℝ) : EReal) := by
  entry_read
  pointwise
  rw [ha, hb, EReal.coe_sub]

theorem context_query (hu : ∀ (r : Fin 16896) (l : Fin 7680), X (Proc.devRef .tc main_arg0) (ix2 r l) = ((U r l : ℝ) : EReal))
    (b : Fin 2) (h : Fin 4) (t : Fin 256) (c : Fin 128) :
    after hostOps0_2 X (Proc.devRef .tc main_v54) (ix4 b h t c) = ((U (16384 + (b * 256 + t)) (h * 128 + c) : ℝ) : EReal) := by
  entry_read
  pointwise
  exact hu _ _

theorem context_value (hu : ∀ (r : Fin 16896) (l : Fin 7680), X (Proc.devRef .tc main_arg0) (ix2 r l) = ((U r l : ℝ) : EReal))
    (b : Fin 2) (h : Fin 4) (t : Fin 256) (c : Fin 128) :
    after hostOps0_2 X (Proc.devRef .tc main_v58) (ix4 b h t c) = ((U (16384 + (b * 256 + t)) (512 + (h * 128 + c)) : ℝ) : EReal) := by
  entry_read
  pointwise
  exact hu _ _

theorem context_key (hu : ∀ (r : Fin 16896) (l : Fin 7680), X (Proc.devRef .tc main_arg0) (ix2 r l) = ((U r l : ℝ) : EReal))
    (ha : ∀ l : Fin 512, X (Proc.devRef .tc main_v11) (ix3 1 0 l) = ((A l : ℝ) : EReal))
    (hb : ∀ l : Fin 512, X (Proc.devRef .tc main_v10) (ix3 0 0 l) = ((B l : ℝ) : EReal))
    (b : Fin 2) (h : Fin 4) (t : Fin 256) (c : Fin 128) :
    after hostOps0_2 X (Proc.devRef .tc main_v56) (ix4 b h t c) = ((key (A (h * 128 + c) - B (h * 128 + c)) (U (16384 + (b * 256 + t)) (1536 + (h * 128 + c))) : ℝ) : EReal) := by
  entry_read
  pointwise
  exact key_words (ha _) (hb _) (hu _ _)

theorem context_log (hu : ∀ (r : Fin 16896) (l : Fin 7680), X (Proc.devRef .tc main_arg0) (ix2 r l) = ((U r l : ℝ) : EReal))
    (ha : ∀ l : Fin 512, X (Proc.devRef .tc main_v11) (ix3 1 0 l) = ((A l : ℝ) : EReal))
    (hb : ∀ l : Fin 512, X (Proc.devRef .tc main_v10) (ix3 0 0 l) = ((B l : ℝ) : EReal)) (h0 : ∀ l, 0 ≤ A l - B l) (h1 : ∀ l, A l - B l < 1)
    (b : Fin 2) (h : Fin 4) (t : Fin 256) (c : Fin 128) :
    after hostOps0_2 X (Proc.devRef .tc main_v61) (ix4 b h t c) = ((Real.log (gate (A (h * 128 + c) - B (h * 128 + c)) (U (16384 + (b * 256 + t)) (1536 + (h * 128 + c)))) : ℝ) : EReal) := by
  entry_read
  pointwise
  exact log_words (ha _) (hb _) (hu _ _) (h0 _) (h1 _)

end Cert.ReferenceIdeal.Entry

end
-- ==== Proof.RefEntry.lean ====
module

public import proofs.«01_k».proof.Proof.Gen.ReferenceIdeal.Run
public import proofs.«01_k».proof.Proof.RefLatent
public import proofs.«01_k».proof.Proof.RefContext
public import proofs.«01_k».proof.Proof.KernelBound
public import Idealize.ShloMosaic.Lib.Claim
public import Idealize.ShloMosaic.Lib.Pointwise
public import Idealize.ShloMosaic.Lib.StableHlo.RunLoop
public import Idealize.ShloMosaic.Lib.StableHlo.RunRead

/-!
# The scan's entry

The contents of the reference's buffers when its scan over the chunks begins.
-/

@[expose] public section

set_option maxRecDepth 16384

noncomputable section

namespace Cert.ReferenceIdeal.Entry

open Cert.ReferenceIdeal Cert.ReferenceIdeal.Gen Cert.ReferenceIdeal.Value Idealize.ShloMosaic Idealize.ShloMosaic.TcCoe Idealize.SL.Sem
open Idealize.ShloMosaic.StableHlo Hgrn
open Cert.KernelIdeal.Chunk (logGate keyOf)

theorem row_context {b t : ℕ} (e : t < 256) : row b t = 16384 + (b * 256 + t) := by
  rw [row, if_pos e]
  omega

theorem row_latent {b t : ℕ} (e : ¬ t < 256) : row b t = b * 8192 + (t - 256) := by
  rw [row, if_neg e]
  omega

section

variable (X : Valuation τ sig (Elt Ideal)) (U : ℕ → ℕ → ℝ) (A B L : ℕ → ℝ)
  (hu : ∀ (r : Fin 16896) (l : Fin 7680), X (Proc.devRef .tc main_arg0) (ix2 r l) = ((U r l : ℝ) : EReal))
  (ha : ∀ l : Fin 512, X (Proc.devRef .tc main_v11) (ix3 1 0 l) = ((A l : ℝ) : EReal))
  (hb : ∀ l : Fin 512, X (Proc.devRef .tc main_v10) (ix3 0 0 l) = ((B l : ℝ) : EReal))
  (hL : ∀ l, A l - B l = L l)
include hu

theorem query_scan (b : Fin 2) (h : Fin 4) (t : Fin 8448) (c : Fin 128) :
    after hostOps0_2 X (Proc.devRef .tc main_v102) (ix4 b h t c) = ((group U 0 b t (128 * h + c) : ℝ) : EReal) := by
  refine (congrFun (query_joined X) (ix4 b h t c)).trans ((joined _ _ b h t c).trans ?_)
  unfold group
  split_ifs with e
  · refine (context_query X U hu b h ⟨t, e⟩ c).trans ?_
    rw [row_context e, Nat.mul_comm 128, Nat.zero_add]
  · refine (congrFun (query_heads X) _).trans ((heads _ b h _ c).trans ((latent_query X b _ _).trans ((hu _ _).trans ?_)))
    rw [row_latent e, Nat.mul_comm 128, Nat.zero_add]

theorem value_scan (b : Fin 2) (h : Fin 4) (t : Fin 8448) (c : Fin 128) :
    after hostOps0_2 X (Proc.devRef .tc main_v104) (ix4 b h t c) = ((group U 512 b t (128 * h + c) : ℝ) : EReal) := by
  refine (congrFun (value_joined X) (ix4 b h t c)).trans ((joined _ _ b h t c).trans ?_)
  unfold group
  split_ifs with e
  · refine (context_value X U hu b h ⟨t, e⟩ c).trans ?_
    rw [row_context e, Nat.mul_comm 128]
  · refine (congrFun (value_heads X) _).trans ((heads _ b h _ c).trans ((latent_value X b _ _).trans ((hu _ _).trans ?_)))
    rw [row_latent e, Nat.mul_comm 128]

include ha hb hL

theorem key_scan (b : Fin 2) (h : Fin 4) (t : Fin 8448) (c : Fin 128) :
    after hostOps0_2 X (Proc.devRef .tc main_v103) (ix4 b h t c) = ((keyOf L (group U 1536 b) t (128 * h + c) : ℝ) : EReal) := by
  refine (congrFun (key_joined X) (ix4 b h t c)).trans ((joined _ _ b h t c).trans ?_)
  unfold keyOf group
  split_ifs with e
  · refine (context_key X U A B hu ha hb b h ⟨t, e⟩ c).trans ?_
    rw [row_context e, Nat.mul_comm 128, hL]
  · refine (congrFun (key_heads X) _).trans ((heads _ b h _ c).trans ((congrFun (keys_entry X) _).trans ?_))
    refine (keys_read _ _ b _ _ _ _ (bound_entry X A B ha hb _) ((latent_arg X b _ _).trans (hu _ _))).trans ?_
    rw [row_latent e, Nat.mul_comm 128, hL]

theorem log_scan (h0 : ∀ l, 0 ≤ L l) (h1 : ∀ l, L l < 1) (b : Fin 2) (h : Fin 4) (t : Fin 8448) (c : Fin 128) :
    after hostOps0_2 X (Proc.devRef .tc main_v105) (ix4 b h t c) = ((logGate L (group U 1536 b) t (128 * h + c) : ℝ) : EReal) := by
  refine (congrFun (log_joined X) (ix4 b h t c)).trans ((joined _ _ b h t c).trans ?_)
  unfold logGate group
  split_ifs with e
  · refine (context_log X U A B hu ha hb (fun l => (h0 l).trans_eq (hL l).symm) (fun l => (hL l).trans_lt (h1 l)) b h ⟨t, e⟩ c).trans ?_
    rw [row_context e, Nat.mul_comm 128, hL]
  · refine (congrFun (log_heads X) _).trans ((heads _ b h _ c).trans ?_)
    have g := (congrFun (gates_entry X) (ix3 b ⟨t - 256, by omega⟩ ⟨h * 128 + c, by omega⟩)).trans
      (gates_read _ _ b _ _ _ _ (bound_entry X A B ha hb _) ((latent_arg X b _ _).trans (hu _ _)))
    refine (congrArg Ideal.log g).trans ?_
    rw [hL, log_word (h0 _) (h1 _), row_latent e, Nat.mul_comm 128]

end

theorem start_entry (X : Valuation τ sig (Elt Ideal)) (i : S2x4x128x128.Idx) :
    after hostOps0_2 X (Proc.devRef .tc main_v21) i = ((0 : ℝ) : EReal) := by
  entry_read
  pointwise
  exact EReal.coe_zero.symm

theorem ones_entry (X : Valuation τ sig (Elt Ideal)) (i : S64x64.Idx) :
    after hostOps0_2 X (Proc.devRef .tc main_v106) i = 1#1 := by
  entry_read
  pointwise

/-- The mask keeps the earlier times and the time itself. -/
theorem mask_entry (X : Valuation τ sig (Elt Ideal)) (h1 : ∀ i : S64x64.Idx, X (Proc.devRef .tc main_v106) i = 1#1) (i j : Fin 64) :
    after hostOps0_3 X (Proc.devRef .tc main_v107) (ix2 i j) = if j.val ≤ i.val then 1#1 else 0#1 := by
  have e : after hostOps0_3 X (Proc.devRef .tc main_v107)
      = (select (cmpi .sge (addi (iotaInDim S64x64 32 0) (broadcastInDim S64x64 ![] bcast_S_S64x64 (constantI S_ 32 0#32))) (iotaInDim S64x64 32 1))
          (X (Proc.devRef .tc main_v106)) (broadcastInDim S64x64 ![] bcast_S_S64x64 (constantI S_ 1 0#1)) : Vec Ideal S64x64 .i1) := by
    simp only [hostOps0_3]
    after_results_entrywise [cast_eq]
  rw [e]
  pointwise
  rw [h1]
  have d : ∀ i j : Fin 64, (Scalar.select (IntOp.cmpi CmpIPredicate.sge (IntOp.addi (BitVec.ofNat 32 i) 0#32) (BitVec.ofNat 32 j)) 1#1 0#1 : BitVec 1)
      = if j.val ≤ i.val then 1#1 else 0#1 := by decide
  exact d i j

theorem chunk_entry (X : Valuation τ sig (Elt Ideal)) (n : Fin 132) (b : Fin 2) (h : Fin 4) (j : Fin 64) (c : Fin 128) :
    after hostOps0_4 X (Proc.devRef .tc main_v117_0) (ix5 n b h j c) = X (Proc.devRef .tc main_v102) (ix4 b h ⟨n * 64 + j, by omega⟩ c)
    ∧ after hostOps0_4 X (Proc.devRef .tc main_v117_1) (ix5 n b h j c) = X (Proc.devRef .tc main_v103) (ix4 b h ⟨n * 64 + j, by omega⟩ c)
    ∧ after hostOps0_4 X (Proc.devRef .tc main_v117_2) (ix5 n b h j c) = X (Proc.devRef .tc main_v104) (ix4 b h ⟨n * 64 + j, by omega⟩ c)
    ∧ after hostOps0_4 X (Proc.devRef .tc main_v117_3) (ix5 n b h j c) = X (Proc.devRef .tc main_v105) (ix4 b h ⟨n * 64 + j, by omega⟩ c) := by
  refine ⟨?_, ?_, ?_, ?_⟩
  · entry_read
    pointwise
  · entry_read
    pointwise
  · entry_read
    pointwise
  · entry_read
    pointwise

theorem mask_keep (X : Valuation τ sig (Elt Ideal)) :
    after hostOps0_4 X (Proc.devRef .tc main_v117_4) = X (Proc.devRef .tc main_v107) := by
  entry_read
  rfl

theorem start_keep (X : Valuation τ sig (Elt Ideal)) :
    after hostOps0_4 X (Proc.devRef .tc main_v117_6) = X (Proc.devRef .tc main_v21) := by
  entry_read
  rfl

theorem after_cumsum (X : Valuation τ sig (Elt Ideal)) (l : Fin 512) (p : ℕ → ℝ)
    (hp : ∀ k : Fin 4, X (Proc.devRef .tc main_v10) (ix3 k 0 l) = ((p k : ℝ) : EReal)) :
    after hostOps0_1 X (Proc.devRef .tc main_v11) (ix3 1 0 l) = ((p 0 + p 1 : ℝ) : EReal) := by
  have h : after hostOps0_1 X (Proc.devRef .tc main_v11) = (Host.reduceWindowAdd ![4, 1, 1] ![1, 1, 1] ![3, 0, 0] ![0, 0, 0]
      (X (Proc.devRef .tc main_v10)) (broadcastInDim S_ ![] bcast_S_S_ (constant S_ .f32 0x00000000#32))
      reduceWindows_S4x2x512_S4x2x512_w4s1p3_0_w1s1p0_0_w1s1p0_0 h_S_ : FVec Ideal S4x2x512 .f32) := by
    simp only [hostOps0_1]
    after_results_entrywise [cast_eq]
  rw [h]
  refine (Hgrn.cumsum4 _ _ _ _ ?_ 1 0 l p hp).trans ?_
  · pointwise
  · rw [show ((1 : Fin 4) : ℕ) + 1 = 2 from rfl, Finset.sum_range_succ, Finset.sum_range_one]

theorem after_soft (X : Valuation τ sig (Elt Ideal)) (x : Fin 4 → ℝ) (i : Fin 4) (l : Fin 512)
    (hx : ∀ i, X (Proc.devRef .tc main_arg1) (ix3 i 0 l) = ((x i : ℝ) : EReal)) :
    after hostOps0 X (Proc.devRef .tc main_v10) (ix3 i 0 l) = ((Hgrn.soft x i : ℝ) : EReal) := by
  entry_read
  pointwise
  exact Hgrn.softmax_real (fun i => X (Proc.devRef .tc main_arg1) (ix3 i 0 l)) x hx i

theorem soft_keep (X : Valuation τ sig (Elt Ideal)) : after hostOps0_1 X (Proc.devRef .tc main_v10) = X (Proc.devRef .tc main_v10) :=
  after_of_writes_sub hostOps0_1 X hostOps0_1_writes (by decide +kernel)

theorem scan_keep (X : Valuation τ sig (Elt Ideal)) :
    after hostOps0_3 X (Proc.devRef .tc main_v102) = X (Proc.devRef .tc main_v102)
    ∧ after hostOps0_3 X (Proc.devRef .tc main_v103) = X (Proc.devRef .tc main_v103)
    ∧ after hostOps0_3 X (Proc.devRef .tc main_v104) = X (Proc.devRef .tc main_v104)
    ∧ after hostOps0_3 X (Proc.devRef .tc main_v105) = X (Proc.devRef .tc main_v105)
    ∧ after hostOps0_3 X (Proc.devRef .tc main_v21) = X (Proc.devRef .tc main_v21) :=
  ⟨after_of_writes_sub hostOps0_3 X hostOps0_3_writes (by decide +kernel), after_of_writes_sub hostOps0_3 X hostOps0_3_writes (by decide +kernel),
    after_of_writes_sub hostOps0_3 X hostOps0_3_writes (by decide +kernel), after_of_writes_sub hostOps0_3 X hostOps0_3_writes (by decide +kernel),
    after_of_writes_sub hostOps0_3 X hostOps0_3_writes (by decide +kernel)⟩

/-- What the scan starts from. -/
structure Starts (E : Valuation τ sig (Elt Ideal)) (U : ℕ → ℕ → ℝ) (L : ℕ → ℝ) : Prop where
  query : ∀ (n : Fin 132) (b : Fin 2) (h : Fin 4) (j : Fin 64) (c : Fin 128),
    E (Proc.devRef .tc main_v117_0) (ix5 n b h j c) = ((group U 0 b (64 * n + j) (128 * h + c) : ℝ) : EReal)
  key : ∀ (n : Fin 132) (b : Fin 2) (h : Fin 4) (j : Fin 64) (c : Fin 128),
    E (Proc.devRef .tc main_v117_1) (ix5 n b h j c) = ((keyOf L (group U 1536 b) (64 * n + j) (128 * h + c) : ℝ) : EReal)
  value : ∀ (n : Fin 132) (b : Fin 2) (h : Fin 4) (j : Fin 64) (c : Fin 128),
    E (Proc.devRef .tc main_v117_2) (ix5 n b h j c) = ((group U 512 b (64 * n + j) (128 * h + c) : ℝ) : EReal)
  log : ∀ (n : Fin 132) (b : Fin 2) (h : Fin 4) (j : Fin 64) (c : Fin 128),
    E (Proc.devRef .tc main_v117_3) (ix5 n b h j c) = ((logGate L (group U 1536 b) (64 * n + j) (128 * h + c) : ℝ) : EReal)
  mask : ∀ i j : Fin 64, E (Proc.devRef .tc main_v117_4) (ix2 i j) = if j.val ≤ i.val then 1#1 else 0#1
  state : ∀ i : S2x4x128x128.Idx, E (Proc.devRef .tc main_v117_6) i = ((0 : ℝ) : EReal)

theorem starts_of (W : Valuation τ sig (Elt Ideal)) (U : ℕ → ℕ → ℝ) (X : ℕ → ℕ → ℕ → ℝ)
    (hu : ∀ (r : Fin 16896) (l : Fin 7680), W (Proc.devRef .tc main_arg0) (ix2 r l) = ((U r l : ℝ) : EReal))
    (hx : ∀ (i : Fin 4) (d : Fin 2) (l : Fin 512), W (Proc.devRef .tc main_arg1) (ix3 i d l) = ((X i d l : ℝ) : EReal)) :
    Starts (afterL preI W) U (lower X 0) := by
  simp only [afterL_cons, afterL_nil]
  have h0 : ∀ (k : Fin 4) (l : Fin 512), after hostOps0 W (Proc.devRef .tc main_v10) (ix3 k 0 l)
      = ((Hgrn.soft (fun i => X i 0 l) k : ℝ) : EReal) := fun k l => after_soft _ (fun i => X i 0 l) k l fun i => hx i 0 l
  generalize hV2 : after hostOps0_1 (after hostOps0 W) = V2
  have u2 : ∀ (r : Fin 16896) (l : Fin 7680), V2 (Proc.devRef .tc main_arg0) (ix2 r l) = ((U r l : ℝ) : EReal) := by
    intro r l
    rw [← hV2, keep_main_arg0_hostOps0_1, keep_main_arg0_hostOps0, hu]
  have b2 : ∀ l : Fin 512, V2 (Proc.devRef .tc main_v10) (ix3 0 0 l) = ((Hgrn.soft (fun i => X i 0 l) 0 : ℝ) : EReal) := by
    intro l
    rw [← hV2, soft_keep, h0]
  have a2 : ∀ l : Fin 512, V2 (Proc.devRef .tc main_v11) (ix3 1 0 l)
      = ((Hgrn.soft (fun i => X i 0 l) 0 + Hgrn.soft (fun i => X i 0 l) 1 : ℝ) : EReal) := by
    intro l
    rw [← hV2]
    refine (after_cumsum _ l (fun k => if h : k < 4 then Hgrn.soft (fun i => X i 0 l) ⟨k, h⟩ else 0) fun k => ?_).trans ?_
    · rw [h0, dif_pos k.isLt]
    · rw [dif_pos (by decide), dif_pos (by decide)]
      rfl
  have hL : ∀ l, (fun l : ℕ => Hgrn.soft (fun i => X i 0 l) 0 + Hgrn.soft (fun i => X i 0 l) 1) l - (fun l : ℕ => Hgrn.soft (fun i => X i 0 l) 0) l
      = lower X 0 l := fun l => add_sub_cancel_left _ _
  obtain ⟨k0, k1, k2, k3, k4⟩ := scan_keep (after hostOps0_2 V2)
  refine ⟨fun n b h j c => ?_, fun n b h j c => ?_, fun n b h j c => ?_, fun n b h j c => ?_, fun i j => ?_, fun i => ?_⟩
  · refine (chunk_entry _ n b h j c).1.trans ((congrFun k0 _).trans ((query_scan V2 U u2 b h _ c).trans ?_))
    rw [Nat.mul_comm 64]
  · refine (chunk_entry _ n b h j c).2.1.trans ((congrFun k1 _).trans ((key_scan V2 U _ _ _ u2 a2 b2 hL b h _ c).trans ?_))
    rw [Nat.mul_comm 64]
  · refine (chunk_entry _ n b h j c).2.2.1.trans ((congrFun k2 _).trans ((value_scan V2 U u2 b h _ c).trans ?_))
    rw [Nat.mul_comm 64]
  · refine (chunk_entry _ n b h j c).2.2.2.trans ((congrFun k3 _).trans
      ((log_scan V2 U _ _ _ u2 a2 b2 hL (lower_nonneg X 0) (lower_lt_one X 0) b h _ c).trans ?_))
    rw [Nat.mul_comm 64]
  · exact (congrFun (mask_keep _) _).trans (mask_entry _ (ones_entry V2) i j)
  · exact (congrFun (start_keep _) _).trans ((congrFun k4 _).trans (start_entry V2 i))

end Cert.ReferenceIdeal.Entry

end
-- ==== Proof.RefTrip.lean ====
module

public import proofs.«01_k».proof.Proof.Gen.ReferenceIdeal.Run
public import proofs.«01_k».proof.Proof.Cumulative
public import proofs.«01_k».proof.Proof.Recurrence
public import proofs.«01_k».proof.Proof.Levels
public import proofs.«01_k».proof.Proof.Inputs
public import Idealize.ShloMosaic.Lib.Claim
public import Idealize.ShloMosaic.Lib.Pointwise
public import Idealize.ShloMosaic.Lib.DynamicIndex

/-!
# One trip of the reference's scan

From the state of the recurrence before a chunk of 64 times, a trip leaves the state after it and stores the chunk's outputs.
-/

@[expose] public section

set_option maxRecDepth 16384

noncomputable section

namespace Cert.ReferenceIdeal.Trip

open Cert.ReferenceIdeal Cert.ReferenceIdeal.Gen Cert.ReferenceIdeal.Value Idealize.ShloMosaic Idealize.ShloMosaic.TcCoe Idealize.SL.Sem
open Idealize.ShloMosaic.StableHlo Hgrn

/-- The starts of a trip's slices. -/
theorem starts (w : S_.Idx → BitVec 32) (k : ℕ) (hk : k < 132) (hw : w = fun _ => BitVec.ofNat 32 k) (a : Fin 5) :
    ((![w, constantI S_ 32 0#32, constantI S_ 32 0#32, constantI S_ 32 0#32, constantI S_ 32 0#32] : Fin 5 → S_.Idx → BitVec 32) a (Shape.Idx.first h_S_)).toInt
      = (((![k, 0, 0, 0, 0] : Fin 5 → ℕ) a : ℕ) : ℤ) := by
  subst hw
  fin_cases a
  · exact toInt_ofNat_of_lt (by omega)
  all_goals rfl

theorem piece_read (x : Vec Ideal S132x2x4x64x128 .f32) (start : Fin 5 → ℤ) (k : ℕ) (hk : k < 132)
    (hs : ∀ a, start a = (((![k, 0, 0, 0, 0] : Fin 5 → ℕ) a : ℕ) : ℤ)) (hf) (hc) (b : Fin 2) (h : Fin 4) (j : Fin 64) (c : Fin 128) :
    shapeCast S2x4x64x128 (Host.dynamicSlice S1x2x4x64x128 x start hf) hc (ix4 b h j c) = x (ix5 ⟨k, hk⟩ b h j c) := by
  have hsl : S132x2x4x64x128.Slices ![k, 0, 0, 0, 0] S1x2x4x64x128 := by
    refine ⟨rfl, fun a => ?_⟩
    fin_cases a
    · show k + 1 ≤ 132
      omega
    · exact show 0 + 2 ≤ 2 by omega
    · exact show 0 + 4 ≤ 4 by omega
    · exact show 0 + 64 ≤ 64 by omega
    · exact show 0 + 128 ≤ 128 by omega
  rw [Host.dynamicSlice_eq_extractStridedSlice S1x2x4x64x128 x start ![k, 0, 0, 0, 0] hf hsl hs]
  pointwise

theorem put_read (x : Vec Ideal S132x2x4x64x128 .f32) (u : Vec Ideal S2x4x64x128 .f32) (start : Fin 5 → ℤ) (k : ℕ) (hk : k < 132)
    (hs : ∀ a, start a = (((![k, 0, 0, 0, 0] : Fin 5 → ℕ) a : ℕ) : ℤ)) (hf) (hc) (k' : Fin 132) (b : Fin 2) (h : Fin 4) (j : Fin 64) (c : Fin 128) :
    Host.dynamicUpdateSlice x (broadcastInDim S1x2x4x64x128 ![1, 2, 3, 4] hc u) start hf (ix5 k' b h j c)
      = if k'.val = k then u (ix4 b h j c) else x (ix5 k' b h j c) := by
  pointwise
  have c0 : Host.clampedStart S132x2x4x64x128 S1x2x4x64x128 hf.1 start 0 = k :=
    Host.clampedStart_of_le _ _ _ _ (hs 0) (show k + 1 ≤ 132 by omega)
  have c1 : Host.clampedStart S132x2x4x64x128 S1x2x4x64x128 hf.1 start 1 = 0 :=
    Host.clampedStart_of_le _ _ _ _ (hs 1) (show 0 + 2 ≤ 2 by omega)
  have c2 : Host.clampedStart S132x2x4x64x128 S1x2x4x64x128 hf.1 start 2 = 0 :=
    Host.clampedStart_of_le _ _ _ _ (hs 2) (show 0 + 4 ≤ 4 by omega)
  have c3 : Host.clampedStart S132x2x4x64x128 S1x2x4x64x128 hf.1 start 3 = 0 :=
    Host.clampedStart_of_le _ _ _ _ (hs 3) (show 0 + 64 ≤ 64 by omega)
  have c4 : Host.clampedStart S132x2x4x64x128 S1x2x4x64x128 hf.1 start 4 = 0 :=
    Host.clampedStart_of_le _ _ _ _ (hs 4) (show 0 + 128 ≤ 128 by omega)
  simp only [c0, c1, c2, c3, c4]
  by_cases e : k'.val = k
  · rw [if_pos e, dif_pos (by omega)]
    rfl
  · rw [if_neg e, dif_neg (by omega)]

section Trip

variable {V0 : Valuation τ sig (Elt Ideal)} {k : ℕ} (hk : k < 132) {Q K W G : ℕ → ℕ → ℕ → ℝ}
  (hctr : V0 (Proc.devRef .tc main_v117_5) = fun _ => BitVec.ofNat 32 k)
  (hq : ∀ (n : Fin 132) (b : Fin 2) (h : Fin 4) (j : Fin 64) (c : Fin 128),
    V0 (Proc.devRef .tc main_v117_0) (ix5 n b h j c) = ((Q b (64 * n + j) (128 * h + c) : ℝ) : EReal))
  (hkey : ∀ (n : Fin 132) (b : Fin 2) (h : Fin 4) (j : Fin 64) (c : Fin 128),
    V0 (Proc.devRef .tc main_v117_1) (ix5 n b h j c) = ((K b (64 * n + j) (128 * h + c) : ℝ) : EReal))
  (hv : ∀ (n : Fin 132) (b : Fin 2) (h : Fin 4) (j : Fin 64) (c : Fin 128),
    V0 (Proc.devRef .tc main_v117_2) (ix5 n b h j c) = ((W b (64 * n + j) (128 * h + c) : ℝ) : EReal))
  (hg : ∀ (n : Fin 132) (b : Fin 2) (h : Fin 4) (j : Fin 64) (c : Fin 128),
    V0 (Proc.devRef .tc main_v117_3) (ix5 n b h j c) = ((G b (64 * n + j) (128 * h + c) : ℝ) : EReal))
  (hm : ∀ i j : Fin 64, V0 (Proc.devRef .tc main_v117_4) (ix2 i j) = if j.val ≤ i.val then 1#1 else 0#1)
  (hst : ∀ (b : Fin 2) (h : Fin 4) (c w : Fin 128),
    V0 (Proc.devRef .tc main_v117_6) (ix4 b h c w) = ((gateState (G b) (K b) (W b) (64 * k) (128 * h + c) (128 * h + w) : ℝ) : EReal))

include hk hctr hq in
theorem query_read (b : Fin 2) (h : Fin 4) (j : Fin 64) (c : Fin 128) :
    res_main_while0b_v127 V0 (ix4 b h j c) = ((Q b (64 * k + j) (128 * h + c) : ℝ) : EReal) :=
  (piece_read _ _ k hk (starts _ k hk hctr) _ _ b h j c).trans (hq ⟨k, hk⟩ b h j c)

include hk hctr hkey in
theorem key_read (b : Fin 2) (h : Fin 4) (j : Fin 64) (c : Fin 128) :
    res_main_while0b_v128 V0 (ix4 b h j c) = ((K b (64 * k + j) (128 * h + c) : ℝ) : EReal) :=
  (piece_read _ _ k hk (starts _ k hk hctr) _ _ b h j c).trans (hkey ⟨k, hk⟩ b h j c)

include hk hctr hv in
theorem value_read (b : Fin 2) (h : Fin 4) (j : Fin 64) (c : Fin 128) :
    res_main_while0b_v129 V0 (ix4 b h j c) = ((W b (64 * k + j) (128 * h + c) : ℝ) : EReal) :=
  (piece_read _ _ k hk (starts _ k hk hctr) _ _ b h j c).trans (hv ⟨k, hk⟩ b h j c)

include hk hctr hg in
/-- The running sums of the log-decays. -/
theorem decay_read (b : Fin 2) (h : Fin 4) (j : Fin 64) (c : Fin 128) :
    res_main_while0b_v131 V0 (ix4 b h j c) = ((decay (G b) (64 * k) (j + 1) (128 * h + c) : ℝ) : EReal) := by
  refine cumsum64 _ _ _ _ ?_ b h j c (fun i => G b (64 * k + i) (128 * h + c)) fun i => ?_
  · pointwise
  · exact (piece_read _ _ k hk (starts _ k hk hctr) _ _ b h i c).trans (hg ⟨k, hk⟩ b h i c)

include hk hctr hg in
theorem total_read (b : Fin 2) (h : Fin 4) (c : Fin 128) :
    res_main_while0b_v149 V0 (ix4 b h 0 c) = ((decay (G b) (64 * k) 64 (128 * h + c) : ℝ) : EReal) := by
  pointwise [res_main_while0b_v149]
  exact decay_read hk hctr hg b h 63 c

include hk hctr hkey hv hg hst in
/-- The state after a trip. -/
theorem state_trip (b : Fin 2) (h : Fin 4) (c w : Fin 128) :
    step_main_v117_6 V0 (ix4 b h c w) = ((gateState (G b) (K b) (W b) (64 * (k + 1)) (128 * h + c) (128 * h + w) : ℝ) : EReal) := by
  rw [show 64 * (k + 1) = 64 * k + 64 by ring, gateState_chunk, EReal.coe_add]
  unfold step_main_v117_6
  show (addf (mulf (V0 (Proc.devRef .tc main_v117_6) : Vec Ideal S2x4x128x128 .f32) _) _ : FVec Ideal S2x4x128x128 .f32) (ix4 b h c w) = _
  pointwise
  rw [hst, total_read hk hctr hg, Ideal.exp_coe, EReal.coe_mul]
  congr 1
  refine sum_real 64 _ (fun s => W b (64 * k + s) (128 * h + w) * (K b (64 * k + s) (128 * h + c) * Real.exp (decay (G b) (64 * k) 64 (128 * h + c) - decay (G b) (64 * k) (s + 1) (128 * h + c)))) fun s => ?_
  rw [key_read hk hctr hkey, value_read hk hctr hv, decay_read hk hctr hg, ← EReal.coe_sub, Ideal.exp_coe, ← EReal.coe_mul, ← EReal.coe_mul, mul_comm]

include hk hctr hq hkey hv hg hm hst in
/-- The outputs that a trip stores. -/
theorem output_trip (n : Fin 132) (b : Fin 2) (h : Fin 4) (j : Fin 64) (w : Fin 128) :
    step_main_v117_7 V0 (ix5 n b h j w) = if n.val = k then ((gateOut (G b) (Q b) (K b) (W b) (64 * k + j) (128 * h + w) : ℝ) : EReal)
      else V0 (Proc.devRef .tc main_v117_7) (ix5 n b h j w) := by
  refine (put_read _ _ _ k hk (starts _ k hk hctr) updateFits_S132x2x4x64x128_S1x2x4x64x128 bcast_S2x4x64x128_S1x2x4x64x128_1_2_3_4 n b h j w).trans ?_
  refine if_congr Iff.rfl ?_ rfl
  rw [gateOut_chunk _ _ _ _ _ _ _ 64 j.isLt, EReal.coe_add, show 128 * ((128 * (h : ℕ) + w) / 128) = 128 * (h : ℕ) by omega]
  pointwise
  congr 1
  · refine sum_real 64 _ (fun s => (if s ≤ j then ∑ c ∈ Finset.range 128, Q b (64 * k + j) (128 * h + c) * K b (64 * k + s) (128 * h + c)
        * Real.exp (decay (G b) (64 * k) (j + 1) (128 * h + c) - decay (G b) (64 * k) (s + 1) (128 * h + c)) else 0) * W b (64 * k + s) (128 * h + w)) fun s => ?_
    rw [value_read hk hctr hv, EReal.coe_mul]
    congr 1
    refine (sum_real 128 _ (fun c => Q b (64 * k + j) (128 * h + c) * (if s.val ≤ j.val then Real.exp (decay (G b) (64 * k) (j + 1) (128 * h + c)
        - decay (G b) (64 * k) (s + 1) (128 * h + c)) * K b (64 * k + s) (128 * h + c) else 0)) fun c => ?_).trans ?_
    · rw [query_read hk hctr hq, hm, key_read hk hctr hkey, decay_read hk hctr hg, decay_read hk hctr hg, ← EReal.coe_sub, EReal.coe_mul]
      congr 1
      by_cases e : s.val ≤ j.val
      · rw [if_pos e, if_pos e, EReal.coe_mul, ← Ideal.exp_coe]
        rfl
      · rw [if_neg e, if_neg e]
        refine (congrArg (fun x => Ideal.exp x * ((K b (64 * k + s) (128 * h + c) : ℝ) : EReal)) (ofBits_bot : _ = (⊥ : EReal))).trans ?_
        simp
    · congr 1
      by_cases e : s.val ≤ j.val
      · simp only [if_pos e]
        exact Finset.sum_congr rfl fun c _ => by ring
      · simp only [if_neg e, mul_zero, Finset.sum_const_zero]
  · refine sum_real 128 _ (fun c => Q b (64 * k + j) (128 * h + c) * Real.exp (decay (G b) (64 * k) (j + 1) (128 * h + c))
        * gateState (G b) (K b) (W b) (64 * k) (128 * h + c) (128 * h + w)) fun c => ?_
    rw [hst, query_read hk hctr hq, decay_read hk hctr hg, Ideal.exp_coe, EReal.coe_mul, EReal.coe_mul]

end Trip

end Cert.ReferenceIdeal.Trip

end
-- ==== Proof.RefPlace.lean ====
module

public import proofs.«01_k».proof.Proof.Gen.ReferenceIdeal.Run
public import proofs.«01_k».proof.Proof.Inputs
public import Idealize.ShloMosaic.Lib.Claim
public import Idealize.ShloMosaic.Lib.Pointwise
public import Idealize.ShloMosaic.Lib.StableHlo.RunLoop
public import Idealize.ShloMosaic.Lib.StableHlo.RunRead

/-!
# Where the reference's result lies

A row of the result is one time of one chunk: the latents' times follow the context's.
-/

@[expose] public section

set_option maxRecDepth 200000

noncomputable section

namespace Cert.ReferenceIdeal.Entry

open Cert.ReferenceIdeal Cert.ReferenceIdeal.Gen Cert.ReferenceIdeal.Value Idealize.ShloMosaic Idealize.ShloMosaic.TcCoe Idealize.SL.Sem
open Idealize.ShloMosaic.StableHlo Hgrn

theorem out_place (W : Valuation τ sig (Elt Ideal)) (r : Fin 16896) (l : Fin 512) : out_main_v126 W (ix2 r l)
    = if h : r.val < 16384 then
        W (Proc.devRef .tc main_v117_7) (ix5 ⟨(256 + r % 8192) / 64, by omega⟩ ⟨r / 8192, by omega⟩ ⟨l / 128, by omega⟩ ⟨(256 + r % 8192) % 64, by omega⟩
          ⟨l % 128, by omega⟩)
      else
        W (Proc.devRef .tc main_v117_7) (ix5 ⟨(r - 16384) % 256 / 64, by omega⟩ ⟨(r - 16384) / 256, by omega⟩ ⟨l / 128, by omega⟩
          ⟨(r - 16384) % 256 % 64, by omega⟩ ⟨l % 128, by omega⟩) := by
  pointwise [out_main_v126]

end Cert.ReferenceIdeal.Entry

end
-- ==== Proof.RefResult.lean ====
module

public import proofs.«01_k».proof.Proof.Gen.ReferenceIdeal.Run
public import proofs.«01_k».proof.Proof.RefEntry
public import proofs.«01_k».proof.Proof.RefTrip
public import proofs.«01_k».proof.Proof.KernelValue
public import proofs.«01_k».proof.Proof.RefPlace
public import Idealize.ShloMosaic.Lib.Claim
public import Idealize.ShloMosaic.Lib.Pointwise
public import Idealize.ShloMosaic.Lib.StableHlo.RunLoop
public import Idealize.ShloMosaic.Lib.StableHlo.RunRead

/-!
# The reference's result

The scan's invariant over its 132 chunks, and the array that the reference returns.
-/

@[expose] public section

set_option maxRecDepth 16384

noncomputable section

namespace Cert.ReferenceIdeal.Entry

open Cert.ReferenceIdeal Cert.ReferenceIdeal.Gen Cert.ReferenceIdeal.Value Idealize.ShloMosaic Idealize.ShloMosaic.TcCoe Idealize.SL.Sem
open Idealize.ShloMosaic.StableHlo Hgrn
open Cert.KernelIdeal.Chunk (logGate keyOf seqOut outArray)

variable (E : Valuation τ sig (Elt Ideal)) (U : ℕ → ℕ → ℝ) (L : ℕ → ℝ)

/-- After `k` chunks: the counter, the chunks' arrays as they were, the state before chunk `k`, and the outputs of the chunks before it. -/
structure After (k : ℕ) (W : Valuation τ sig (Elt Ideal)) : Prop where
  ctr : W (Proc.devRef .tc main_v117_5) = fun _ => BitVec.ofNat 32 k
  query : W (Proc.devRef .tc main_v117_0) = E (Proc.devRef .tc main_v117_0)
  key : W (Proc.devRef .tc main_v117_1) = E (Proc.devRef .tc main_v117_1)
  value : W (Proc.devRef .tc main_v117_2) = E (Proc.devRef .tc main_v117_2)
  log : W (Proc.devRef .tc main_v117_3) = E (Proc.devRef .tc main_v117_3)
  mask : W (Proc.devRef .tc main_v117_4) = E (Proc.devRef .tc main_v117_4)
  state : ∀ (b : Fin 2) (h : Fin 4) (c w : Fin 128), W (Proc.devRef .tc main_v117_6) (ix4 b h c w)
    = ((gateState (logGate L (group U 1536 b)) (keyOf L (group U 1536 b)) (group U 512 b) (64 * k) (128 * h + c) (128 * h + w) : ℝ) : EReal)
  out : ∀ (n : Fin 132) (b : Fin 2) (h : Fin 4) (j : Fin 64) (w : Fin 128), n.val < k → W (Proc.devRef .tc main_v117_7) (ix5 n b h j w)
    = ((gateOut (logGate L (group U 1536 b)) (group U 0 b) (keyOf L (group U 1536 b)) (group U 512 b) (64 * n + j) (128 * h + w) : ℝ) : EReal)

theorem after_trips (hs : Starts E U L) (hc : E (Proc.devRef .tc main_v117_5) = fun _ => 0#32) (k : ℕ) (hk : k ≤ 132) :
    After E U L k (STEP^[k] E) := by
  induction k with
  | zero =>
    refine ⟨hc, rfl, rfl, rfl, rfl, rfl, fun b h c w => ?_, fun n b h j w hn => absurd hn (Nat.not_lt_zero _)⟩
    exact hs.state _
  | succ k ih =>
    have i := ih (by omega)
    have hk' : k < 132 := by omega
    rw [Function.iterate_succ_apply']
    generalize STEP^[k] E = W at i
    have q : ∀ (n : Fin 132) (b : Fin 2) (h : Fin 4) (j : Fin 64) (c : Fin 128), W (Proc.devRef .tc main_v117_0) (ix5 n b h j c)
        = (((fun b => group U 0 b) b (64 * n + j) (128 * h + c) : ℝ) : EReal) := fun n b h j c => (congrFun i.query _).trans (hs.query n b h j c)
    have y : ∀ (n : Fin 132) (b : Fin 2) (h : Fin 4) (j : Fin 64) (c : Fin 128), W (Proc.devRef .tc main_v117_1) (ix5 n b h j c)
        = (((fun b => keyOf L (group U 1536 b)) b (64 * n + j) (128 * h + c) : ℝ) : EReal) := fun n b h j c => (congrFun i.key _).trans (hs.key n b h j c)
    have v : ∀ (n : Fin 132) (b : Fin 2) (h : Fin 4) (j : Fin 64) (c : Fin 128), W (Proc.devRef .tc main_v117_2) (ix5 n b h j c)
        = (((fun b => group U 512 b) b (64 * n + j) (128 * h + c) : ℝ) : EReal) := fun n b h j c => (congrFun i.value _).trans (hs.value n b h j c)
    have g : ∀ (n : Fin 132) (b : Fin 2) (h : Fin 4) (j : Fin 64) (c : Fin 128), W (Proc.devRef .tc main_v117_3) (ix5 n b h j c)
        = (((fun b => logGate L (group U 1536 b)) b (64 * n + j) (128 * h + c) : ℝ) : EReal) := fun n b h j c => (congrFun i.log _).trans (hs.log n b h j c)
    have ms : ∀ a j : Fin 64, W (Proc.devRef .tc main_v117_4) (ix2 a j) = if j.val ≤ a.val then 1#1 else 0#1 :=
      fun a j => (congrFun i.mask _).trans (hs.mask a j)
    refine ⟨?_, (STEP_main_v117_0 W).trans i.query, (STEP_main_v117_1 W).trans i.key, (STEP_main_v117_2 W).trans i.value,
      (STEP_main_v117_3 W).trans i.log, (STEP_main_v117_4 W).trans i.mask, fun b h c w => ?_, fun n b h j w hn => ?_⟩
    · rw [STEP_main_v117_5]
      show addi (W (Proc.devRef .tc main_v117_5)) (constantI S_ 32 1#32) = _
      rw [i.ctr]
      funext _
      exact (BitVec.ofNat_add k 1).symm
    · exact (congrFun (STEP_main_v117_6 W) _).trans (Trip.state_trip (K := fun b => keyOf L (group U 1536 b)) (W := fun b => group U 512 b) (G := fun b => logGate L (group U 1536 b)) hk' i.ctr y v g i.state b h c w)
    · refine (congrFun (STEP_main_v117_7 W) _).trans ((Trip.output_trip (Q := fun b => group U 0 b) (K := fun b => keyOf L (group U 1536 b)) (W := fun b => group U 512 b)
        (G := fun b => logGate L (group U 1536 b)) hk' i.ctr q y v g ms i.state n b h j w).trans ?_)
      split_ifs with e
      · rw [e]
      · exact i.out n b h j w (by omega)

/-- The array that the reference returns, off the outputs of its scan. -/
theorem result_read (W : Valuation τ sig (Elt Ideal)) (X : ℕ → ℕ → ℕ → ℝ) (i : After E U (lower X 0) 132 W) :
    out_main_v126 W = outArray U X := by
  funext y
  idx_vars y
  rw [out_place]
  show _ = ((seqOut U X (seqOf _) (timeOf _) _ : ℝ) : EReal)
  have key : ∀ (n : Fin 132) (b : Fin 2) (h : Fin 4) (j : Fin 64) (w : Fin 128) (s t l : ℕ), s = b → t = 64 * n + j → l = 128 * h + w →
      W (Proc.devRef .tc main_v117_7) (ix5 n b h j w) = ((seqOut U X s t l : ℝ) : EReal) := by
    rintro n b h j w _ _ _ rfl rfl rfl
    exact i.out n b h j w n.isLt
  split_ifs with e
  · refine key _ _ _ _ _ _ _ _ ?_ ?_ ?_
    · show seqOf y0.val = y0.val / 8192
      rw [seqOf, if_pos e]
    · show timeOf y0.val = 64 * ((256 + y0.val % 8192) / 64) + (256 + y0.val % 8192) % 64
      rw [timeOf, if_pos e]
      omega
    · show y1.val = 128 * (y1.val / 128) + y1.val % 128
      omega
  · refine key _ _ _ _ _ _ _ _ ?_ ?_ ?_
    · show seqOf y0.val = (y0.val - 16384) / 256
      rw [seqOf, if_neg e]
    · show timeOf y0.val = 64 * (((y0.val - 16384) % 256) / 64) + ((y0.val - 16384) % 256) % 64
      rw [timeOf, if_neg e]
      omega
    · show y1.val = 128 * (y1.val / 128) + y1.val % 128
      omega

end Cert.ReferenceIdeal.Entry

end
-- ==== Proof.Finite.lean ====
module

public import proofs.«01_k».proof.Defs
public import Idealize.ShloMosaic.Lib.ReduceAll
public import Idealize.ShloMosaic.Lib.Pointwise

/-!
# Finite arguments

The precondition's word, read as what it says: every entry of both arguments is a real number.
-/

@[expose] public section

noncomputable section

namespace Cert.Finite

open Idealize.ShloMosaic Idealize.SL.Sem

/-- The side conditions of the precondition's operations. -/
theorem facts : Cert.Pre_finite.Facts where
  bcast_S_S16896x7680 := by decide
  reducesTo_S16896x7680_S_d0_1 := by decide
  h_S_ := by decide
  bcast_S_S4x2x512 := by decide
  reducesTo_S4x2x512_S_d0_1_2 := by decide

theorem ofBits_top : Ideal.ofBits .f32 0x7F800000#32 = ⊤ := by
  simp [Ideal.ofBits, Ideal.ieee]

/-- Below infinity in absolute value is real. -/
theorem real_of_word (x : EReal) (h : Ideal.cmp .olt (max x (-x)) ⊤ = 1#1) : x = ((x.toReal : ℝ) : EReal) := by
  have h' : max x (-x) < ⊤ := by
    by_contra hc
    simp [Ideal.cmp, hc] at h
  refine (EReal.coe_toReal ?_ ?_).symm
  · rintro rfl
    simp at h'
  · rintro rfl
    simp at h'

theorem both (a b : BitVec 1) (h : IntOp.andi a b = 1#1) : a = 1#1 ∧ b = 1#1 := by
  revert a b
  decide

/-- Every entry of both arrays is real. -/
theorem entries [Cert.Pre_finite.Facts] (u : FVec Ideal Cert.Pre_finite.S16896x7680 .f32) (x : FVec Ideal Cert.Pre_finite.S4x2x512 .f32)
    (h : Cert.Pre_finite.fn (F := Ideal) u x = fun _ => 1#1) :
    (∀ i, u i = (((u i : EReal).toReal : ℝ) : EReal)) ∧ ∀ i, x i = (((x i : EReal).toReal : ℝ) : EReal) := by
  have e := congrFun h (Shape.Idx.first Cert.Pre_finite.Facts.h_S_)
  obtain ⟨e1, e2⟩ := both _ _ e
  have hsub : Subsingleton Cert.Pre_finite.S_.Idx := ⟨fun a b => funext fun k => k.elim0⟩
  refine ⟨fun i => ?_, fun i => ?_⟩
  · refine real_of_word _ ?_
    have w := Host.reduce_andi_all _ _ _ _ _ e1 i
    rw [← ofBits_top]
    exact w
  · refine real_of_word _ ?_
    have w := Host.reduce_andi_all _ _ _ _ _ e2 i
    rw [← ofBits_top]
    exact w

end Cert.Finite

end
-- ==== Proof.Projection.lean ====
module

public import proofs.«01_k».proof.Proof.Gen.Kernel2Ideal.Value
public import proofs.«01_k».proof.Proof.Gen.Reference2Ideal.Run
public import Idealize.ShloMosaic.Lib.Claim
public import Idealize.ShloMosaic.Lib.Pointwise
public import Idealize.ShloMosaic.Lib.Pipeline.ValueKit
public import Idealize.ShloMosaic.Lib.StableHlo.RunRead

/-!
# The input projection

The projection's array, column by column: the kernel multiplies by the rearranged weights, the reference rearranges the product.
-/

@[expose] public section

set_option maxRecDepth 16384

noncomputable section

namespace Cert.Projection

open Idealize.ShloMosaic Idealize.SL.Sem

/-- One piece of an array joined along its columns. -/
theorem joined_piece {R C n : ℕ} {xs : List ((s : Shape) × (s.Idx → EReal))} {h : Shape.Concatenates (xs.map (·.1)) ⟨2, ![R, C]⟩ 1} (k : Fin R) (j : Fin C)
    (p : ℕ) (hp : p < xs.length) (x : (⟨2, ![R, n]⟩ : Shape).Idx → EReal) (hx : xs[p] = ⟨⟨2, ![R, n]⟩, x⟩) (pre : ℕ)
    (hpre : (((xs.take p).map (·.1)).map fun s => if h : s.rank = (⟨2, ![R, C]⟩ : Shape).rank then s.size ((1 : Fin 2).cast h.symm) else 0).sum = pre)
    (lo : pre ≤ (j : ℕ)) (hi : (j : ℕ) - pre < n) :
    concatenate ⟨2, ![R, C]⟩ 1 xs h (ix2 k j) = x (ix2 k ⟨j - pre, hi⟩) := by
  refine concatenate_apply_piece (t := ⟨2, ![R, C]⟩) 1 xs h (ix2 k j) p hp ⟨2, ![R, n]⟩ x hx rfl pre hpre (ix2 k ⟨j - pre, hi⟩) (fun b hb => ?_) ?_
  · match b with
    | ⟨0, _⟩ => rfl
    | ⟨1, _⟩ => exact absurd rfl hb
  · show pre + ((j : ℕ) - pre) = j
    omega

/-- The weights' column that a column of the projection comes from. -/
def colOf (j : ℕ) : ℕ := if j < 4096 then j else if j < 7168 then j + 16 else if j < 7184 then j - 3072 else j

theorem colOf_lt {j : ℕ} (h : j < 7200) : colOf j < 7200 := by
  unfold colOf
  split_ifs <;> omega

/-- A row's product with a column of the weights. -/
def dotCol (H : (⟨2, ![16896, 2048]⟩ : Shape).Idx → EReal) (W : (⟨2, ![2048, 7200]⟩ : Shape).Idx → EReal) (r : Fin 16896) (n : ℕ) : EReal :=
  if h : n < 7200 then ∑ k : Fin 2048, H (ix2 r k) * W (ix2 k ⟨n, h⟩) else 0

/-- A weight, by the number of its column. -/
def weight (W : (⟨2, ![2048, 7200]⟩ : Shape).Idx → EReal) (k : Fin 2048) (n : ℕ) : EReal := if h : n < 7200 then W (ix2 k ⟨n, h⟩) else 0

/-- The projection of the rows: the last columns are zero. -/
def proj (H : (⟨2, ![16896, 2048]⟩ : Shape).Idx → EReal) (W : (⟨2, ![2048, 7200]⟩ : Shape).Idx → EReal) (r : Fin 16896) (j : ℕ) : EReal :=
  if j < 7200 then dotCol H W r (colOf j) else 0

/-- The projection's column is the row's product with the rearranged weights. -/
theorem proj_arranged (H : (⟨2, ![16896, 2048]⟩ : Shape).Idx → EReal) (W : (⟨2, ![2048, 7200]⟩ : Shape).Idx → EReal) (r : Fin 16896) (j : ℕ) :
    ∑ k : Fin 2048, H (ix2 r k) * (if j < 7200 then weight W k (colOf j) else 0) = proj H W r j := by
  unfold proj
  split_ifs with h
  · rw [dotCol, dif_pos (colOf_lt h)]
    exact Finset.sum_congr rfl fun k _ => by rw [weight, dif_pos (colOf_lt h)]
  · exact Finset.sum_eq_zero fun k _ => mul_zero _

end Cert.Projection

namespace Cert.Kernel2Ideal.Project

open Cert.Kernel2Ideal Cert.Kernel2Ideal.Gen Idealize.ShloMosaic Idealize.ShloMosaic.TcCoe Idealize.SL.Sem
open Idealize.ShloMosaic.StableHlo Idealize.ShloMosaic.Pipeline Cert.Projection

variable (m : (ℓ : Loc nD τ sig) → Buf (Elt Ideal) ℓ)

/-- Rearranged columns: each piece holds columns of one array, the last piece zeros. -/
theorem columns {x0 : Vec Ideal S2048x2560 .f32} {x1 : Vec Ideal S2048x512 .f32} {x2 x3 : Vec Ideal S2048x1024 .f32}
    {x4 : Vec Ideal S2048x2048 .f32} {x5 : Vec Ideal S2048x32 .f32} {x6 : Vec Ideal S2048x480 .f32} {W : ℕ → EReal} (k : Fin 2048)
    (h0 : ∀ l : Fin 2560, x0 (ix2 k l) = W l) (h1 : ∀ l : Fin 512, x1 (ix2 k l) = W (2560 + l))
    (h2 : ∀ l : Fin 1024, x2 (ix2 k l) = W (3072 + l)) (h3 : ∀ l : Fin 1024, x3 (ix2 k l) = W (4112 + l))
    (h4 : ∀ l : Fin 2048, x4 (ix2 k l) = W (5136 + l)) (h5 : ∀ l : Fin 32, x5 (ix2 k l) = W (if l.val < 16 then 4096 + l else 7168 + l))
    (h6 : ∀ l : Fin 480, x6 (ix2 k l) = (0 : EReal)) (j : Fin 7680) :
    (concatenate S2048x7680 1 [⟨S2048x2560, x0⟩, ⟨S2048x512, x1⟩, ⟨S2048x1024, x2⟩, ⟨S2048x1024, x3⟩, ⟨S2048x2048, x4⟩, ⟨S2048x32, x5⟩, ⟨S2048x480, x6⟩]
        concatenates_S2048x2560_S2048x512_S2048x1024_S2048x1024_S2048x2048_S2048x32_S2048x480_S2048x7680_d1 : Vec Ideal S2048x7680 .f32) (ix2 k j)
      = if (j : ℕ) < 7200 then W (colOf j) else (0 : EReal) := by
  rcases lt_or_ge (j : ℕ) 2560 with a0 | a0
  · refine (joined_piece k j 0 (by show 0 < 7; omega) x0 rfl 0 rfl (by omega) (by omega)).trans ((h0 _).trans ?_)
    refine Eq.trans ?_ (if_pos (by omega)).symm
    refine congrArg W ?_
    show (j : ℕ) - 0 = _
    unfold colOf
    split_ifs <;> omega
  rcases lt_or_ge (j : ℕ) 3072 with a1 | a1
  · refine (joined_piece k j 1 (by show 1 < 7; omega) x1 rfl 2560 rfl (by omega) (by omega)).trans ((h1 _).trans ?_)
    refine Eq.trans ?_ (if_pos (by omega)).symm
    refine congrArg W ?_
    show 2560 + ((j : ℕ) - 2560) = _
    unfold colOf
    split_ifs <;> omega
  rcases lt_or_ge (j : ℕ) 4096 with a2 | a2
  · refine (joined_piece k j 2 (by show 2 < 7; omega) x2 rfl 3072 rfl (by omega) (by omega)).trans ((h2 _).trans ?_)
    refine Eq.trans ?_ (if_pos (by omega)).symm
    refine congrArg W ?_
    show 3072 + ((j : ℕ) - 3072) = _
    unfold colOf
    split_ifs <;> omega
  rcases lt_or_ge (j : ℕ) 5120 with a3 | a3
  · refine (joined_piece k j 3 (by show 3 < 7; omega) x3 rfl 4096 rfl (by omega) (by omega)).trans ((h3 _).trans ?_)
    refine Eq.trans ?_ (if_pos (by omega)).symm
    refine congrArg W ?_
    show 4112 + ((j : ℕ) - 4096) = _
    unfold colOf
    split_ifs <;> omega
  rcases lt_or_ge (j : ℕ) 7168 with a4 | a4
  · refine (joined_piece k j 4 (by show 4 < 7; omega) x4 rfl 5120 rfl (by omega) (by omega)).trans ((h4 _).trans ?_)
    refine Eq.trans ?_ (if_pos (by omega)).symm
    refine congrArg W ?_
    show 5136 + ((j : ℕ) - 5120) = _
    unfold colOf
    split_ifs <;> omega
  rcases lt_or_ge (j : ℕ) 7200 with a5 | a5
  · refine (joined_piece k j 5 (by show 5 < 7; omega) x5 rfl 7168 rfl (by omega) (by omega)).trans ((h5 _).trans ?_)
    refine Eq.trans ?_ (if_pos (by omega)).symm
    refine congrArg W ?_
    show (if (j : ℕ) - 7168 < 16 then 4096 + ((j : ℕ) - 7168) else 7168 + ((j : ℕ) - 7168)) = _
    unfold colOf
    split_ifs <;> omega
  refine (joined_piece k j 6 (by show 6 < 7; omega) x6 rfl 7200 rfl (by omega) (by omega)).trans ((h6 _).trans ?_)
  exact (if_neg (by omega)).symm

/-- The rearranged weights. -/
def arranged (W : Vec Ideal S2048x7200 .f32) : FVec Ideal S2048x7680 .f32 :=
  concatenate S2048x7680 1 [⟨S2048x2560, (extractStridedSlice S2048x2560 ![0, 0] W slices_S2048x7200_S2048x2560_0_0 : Vec Ideal S2048x2560 .f32)⟩,
    ⟨S2048x512, (extractStridedSlice S2048x512 ![0, 2560] W slices_S2048x7200_S2048x512_0_2560 : Vec Ideal S2048x512 .f32)⟩,
    ⟨S2048x1024, (extractStridedSlice S2048x1024 ![0, 3072] W slices_S2048x7200_S2048x1024_0_3072 : Vec Ideal S2048x1024 .f32)⟩,
    ⟨S2048x1024, (extractStridedSlice S2048x1024 ![0, 4112] W slices_S2048x7200_S2048x1024_0_4112 : Vec Ideal S2048x1024 .f32)⟩,
    ⟨S2048x2048, (extractStridedSlice S2048x2048 ![0, 5136] W slices_S2048x7200_S2048x2048_0_5136 : Vec Ideal S2048x2048 .f32)⟩,
    ⟨S2048x32, (concatenate S2048x32 1 [⟨S2048x16, (extractStridedSlice S2048x16 ![0, 4096] W slices_S2048x7200_S2048x16_0_4096 : Vec Ideal S2048x16 .f32)⟩,
      ⟨S2048x16, (extractStridedSlice S2048x16 ![0, 7184] W slices_S2048x7200_S2048x16_0_7184 : Vec Ideal S2048x16 .f32)⟩]
        concatenates_S2048x16_S2048x16_S2048x32_d1 : Vec Ideal S2048x32 .f32)⟩,
    ⟨S2048x480, (broadcastInDim S2048x480 ![] bcast_S_S2048x480 (constant S_ .f32 0x00000000#32 : FVec Ideal S_ .f32) : Vec Ideal S2048x480 .f32)⟩]
    concatenates_S2048x2560_S2048x512_S2048x1024_S2048x1024_S2048x2048_S2048x32_S2048x480_S2048x7680_d1

theorem tiled (c : Dev nD) : V m c main_v12
      = (transpose S15x2048x512 [1, 0, 2] (shapeCast S2048x15x512 (truncf .bf16 (arranged (m ((c : Thread nD τ).loc main_arg1))) bitsLt_bf16_f32 : Vec Ideal S2048x7680 .bf16)
          shapeCasts_S2048x7680_S2048x15x512 : Vec Ideal S2048x15x512 .bf16) transposes_S2048x15x512_S15x2048x512_1_0_2 : Vec Ideal S15x2048x512 .bf16) := by
  show after hostOps0 (fun b => m (c, b)) (Proc.devRef .tc main_v12) = _
  unfold arranged
  simp only [hostOps0]
  after_results <;> rfl

theorem untile (x : FVec Ideal S2048x7680 .f32) (a : Fin 15) (k : Fin 2048) (l : Fin 512) :
    (transpose S15x2048x512 [1, 0, 2] (shapeCast S2048x15x512 (truncf .bf16 x bitsLt_bf16_f32 : Vec Ideal S2048x7680 .bf16)
          shapeCasts_S2048x7680_S2048x15x512 : Vec Ideal S2048x15x512 .bf16) transposes_S2048x15x512_S15x2048x512_1_0_2 : Vec Ideal S15x2048x512 .bf16) (ix3 a k l)
      = x (ix2 k ⟨a * 512 + l, by omega⟩) := by
  pointwise

theorem pieces (W : Vec Ideal S2048x7200 .f32) (k : Fin 2048) (j : Fin 7680) :
    arranged W (ix2 k j) = if (j : ℕ) < 7200 then weight W k (colOf j) else (0 : EReal) := by
  refine columns (W := weight W k) k ?_ ?_ ?_ ?_ ?_ ?_ ?_ j
  · intro l
    pointwise
    rw [weight, dif_pos (by omega)]
  · intro l
    pointwise
    rw [weight, dif_pos (by omega)]
  · intro l
    pointwise
    rw [weight, dif_pos (by omega)]
  · intro l
    pointwise
    rw [weight, dif_pos (by omega)]
  · intro l
    pointwise
    rw [weight, dif_pos (by omega)]
  · intro l
    pointwise
    by_cases h : (l : ℕ) < 16
    · rw [dif_pos h, if_pos h, weight, dif_pos (by omega)]
    · rw [dif_neg h, if_neg h, weight, dif_pos (by omega)]
      congr 2
      apply Fin.ext
      show 7184 + ((l : ℕ) - 16) = 7168 + l
      omega
  · intro l
    pointwise

/-- The tiles of the weights that the call stages. -/
theorem tile_read (c : Dev nD) (a : Fin 15) (k : Fin 2048) (l : Fin 512) :
    V m c main_v12 (ix3 a k l) = if (a : ℕ) * 512 + l < 7200 then weight (m ((c : Thread nD τ).loc main_arg1)) k (colOf (a * 512 + l)) else (0 : EReal) :=
  (congrFun (tiled m c) _).trans ((untile _ a k l).trans (pieces _ k ⟨a * 512 + l, by omega⟩))

/-- The rows that the call stages. -/
theorem rows_read (c : Dev nD) (r : Fin 16896) (k : Fin 2048) :
    V m c main_v13 (ix2 r k) = m ((c : Thread nD τ).loc main_arg0) (ix2 r k) := by
  show after hostOps0 (fun b => m (c, b)) (Proc.devRef .tc main_v13) (ix2 r k) = _
  entry_read
  pointwise

theorem windows : ∀ t : Fin cfg0.N, win0_0.index t = ![t.val / 15, 0] ∧ win0_1.index t = ![t.val % 15, 0, 0] ∧
    win0_2.index t = ![t.val / 15, t.val % 15] := by
  decide +kernel

theorem block0 (c : Dev nD) (t : Fin cfg0.N) (r : Fin 2816) (k : Fin 2048) (rr : Fin 16896) (hr : rr.val = 2816 * (t.val / 15) + r) :
    iblk m c 0 t (ix2 r k) = m ((c : Thread nD τ).loc main_arg0) (ix2 rr k) := by
  refine Eq.trans ?_ (rows_read m c rr k)
  blk_ext [iblk, V, windows t]

theorem block1 (c : Dev nD) (t : Fin cfg0.N) (k : Fin 2048) (l : Fin 512) (a : Fin 15) (ha : a.val = t.val % 15) :
    iblk m c 1 t (ix3 0 k l) = V m c main_v12 (ix3 a k l) := by
  blk_ext [iblk, V, windows t]

theorem pay_read (x : Vec Ideal S2816x2048 .bf16) (w : Vec Ideal S1x2048x512 .bf16) (r : Fin 2816) (l : Fin 512) :
    k0_pay1 (F := Ideal) x w (ix2 r l) = ∑ k : Fin 2048, x (ix2 r k) * w (ix3 0 k l) := by
  pointwise [k0_pay1]

theorem out_read (x : Vec Ideal S2816x2048 .bf16) (w : Vec Ideal S1x2048x512 .bf16) (r : Fin 2816) (l : Fin 512) :
    out0_2 (F := Ideal) x w (ix2 r l) = ∑ k : Fin 2048, x (ix2 r k) * w (ix3 0 k l) := by
  refine Eq.trans ?_ (pay_read x w r l)
  have z2 : (![0, 0] : Fin 2 → ℕ) = fun _ => 0 := by decide
  have z3 : (![0, 0, 0] : Fin 3 → ℕ) = fun _ => 0 := by decide
  unfold out0_2
  refine (congrFun (View.canon_unit_zero z2 _ _) _).trans ?_
  rw [View.ld_unit_zero z2, View.ld_unit_zero z3]

theorem arr_read (c : Dev nD) : (dats m 0 c).arrAt 2 cfg0.N
    = fun y => proj (m ((c : Thread nD τ).loc main_arg0)) (m ((c : Thread nD τ).loc main_arg1)) (y 0) (y 1 : ℕ) := by
  refine (dats m 0 c).arrAt_eq_of_covers 2 (fun y => proj (m ((c : Thread nD τ).loc main_arg0)) (m ((c : Thread nD τ).loc main_arg1)) (y 0) (y 1 : ℕ)) (by decide +kernel) fun t hf y => ?_
  blk_simp
  rw [after0_2]
  have ht : t.val < 90 := lt_of_lt_of_eq t.isLt N_0
  have h0 : (y 0 : ℕ) < 2816 := (y 0).isLt
  have h1 : (y 1 : ℕ) < 512 := (y 1).isLt
  have e0 : (((win0_2.blk t).view.emb y) 0 : ℕ) = 2816 * (t.val / 15) + (y 0 : ℕ) := by blk_simp [windows t]; omega
  have e1 : (((win0_2.blk t).view.emb y) 1 : ℕ) = (t.val % 15) * 512 + (y 1 : ℕ) := by blk_simp [windows t]
  have e2 : win0_2.index t 1 = t.val % 15 := by rw [(windows t).2.2]; rfl
  refine Eq.trans ?_ ((proj_arranged (m ((c : Thread nD τ).loc main_arg0)) (m ((c : Thread nD τ).loc main_arg1)) ((win0_2.blk t).view.emb y 0) _).trans
    (congrArg (proj (m ((c : Thread nD τ).loc main_arg0)) (m ((c : Thread nD τ).loc main_arg1)) ((win0_2.blk t).view.emb y 0)) (congrArg (· * 512 + ((y 1 : Fin _) : ℕ)) e2.symm)))
  refine Eq.trans (b := out0_2 (iblk m c 0 t) (iblk m c 1 t) (ix2 ⟨y 0, h0⟩ ⟨y 1, h1⟩)) (congrArg _ ?_) ((out_read _ _ _ _).trans (Finset.sum_congr rfl fun k _ => ?_))
  · funext a
    match a with
    | ⟨0, _⟩ => rfl
    | ⟨1, _⟩ => rfl
  · rw [block0 m c t ⟨y 0, h0⟩ k ((win0_2.blk t).view.emb y 0) e0, block1 m c t k ⟨y 1, h1⟩ ⟨t.val % 15, Nat.mod_lt _ (by decide)⟩ rfl, tile_read]

end Cert.Kernel2Ideal.Project

namespace Cert.Reference2Ideal.Project

open Cert.Reference2Ideal Cert.Reference2Ideal.Gen Idealize.ShloMosaic Idealize.ShloMosaic.TcCoe Idealize.SL.Sem
open Idealize.ShloMosaic.StableHlo Cert.Projection

/-- Rearranged columns: each piece holds columns of one array, the last piece zeros. -/
theorem columns {x0 : Vec Ideal S16896x2560 .f32} {x1 : Vec Ideal S16896x1536 .f32} {x2 : Vec Ideal S16896x1024 .f32}
    {x3 : Vec Ideal S16896x2048 .f32} {x4 x5 : Vec Ideal S16896x16 .f32} {x6 : Vec Ideal S16896x480 .f32} {W : ℕ → EReal} (k : Fin 16896)
    (h0 : ∀ l : Fin 2560, x0 (ix2 k l) = W l) (h1 : ∀ l : Fin 1536, x1 (ix2 k l) = W (2560 + l))
    (h2 : ∀ l : Fin 1024, x2 (ix2 k l) = W (4112 + l)) (h3 : ∀ l : Fin 2048, x3 (ix2 k l) = W (5136 + l))
    (h4 : ∀ l : Fin 16, x4 (ix2 k l) = W (2560 + (1536 + l))) (h5 : ∀ l : Fin 16, x5 (ix2 k l) = W (5136 + (2048 + l)))
    (h6 : ∀ l : Fin 480, x6 (ix2 k l) = (0 : EReal)) (j : Fin 7680) :
    (concatenate S16896x7680 1 [⟨S16896x2560, x0⟩, ⟨S16896x1536, x1⟩, ⟨S16896x1024, x2⟩, ⟨S16896x2048, x3⟩, ⟨S16896x16, x4⟩, ⟨S16896x16, x5⟩, ⟨S16896x480, x6⟩]
        concatenates_S16896x2560_S16896x1536_S16896x1024_S16896x2048_S16896x16_S16896x16_S16896x480_S16896x7680_d1 : Vec Ideal S16896x7680 .f32) (ix2 k j)
      = if (j : ℕ) < 7200 then W (colOf j) else (0 : EReal) := by
  rcases lt_or_ge (j : ℕ) 2560 with a0 | a0
  · refine (joined_piece k j 0 (by show 0 < 7; omega) x0 rfl 0 rfl (by omega) (by omega)).trans ((h0 _).trans ?_)
    refine Eq.trans ?_ (if_pos (by omega)).symm
    refine congrArg W ?_
    show (j : ℕ) - 0 = _
    unfold colOf
    split_ifs <;> omega
  rcases lt_or_ge (j : ℕ) 4096 with a1 | a1
  · refine (joined_piece k j 1 (by show 1 < 7; omega) x1 rfl 2560 rfl (by omega) (by omega)).trans ((h1 _).trans ?_)
    refine Eq.trans ?_ (if_pos (by omega)).symm
    refine congrArg W ?_
    show 2560 + ((j : ℕ) - 2560) = _
    unfold colOf
    split_ifs <;> omega
  rcases lt_or_ge (j : ℕ) 5120 with a2 | a2
  · refine (joined_piece k j 2 (by show 2 < 7; omega) x2 rfl 4096 rfl (by omega) (by omega)).trans ((h2 _).trans ?_)
    refine Eq.trans ?_ (if_pos (by omega)).symm
    refine congrArg W ?_
    show 4112 + ((j : ℕ) - 4096) = _
    unfold colOf
    split_ifs <;> omega
  rcases lt_or_ge (j : ℕ) 7168 with a3 | a3
  · refine (joined_piece k j 3 (by show 3 < 7; omega) x3 rfl 5120 rfl (by omega) (by omega)).trans ((h3 _).trans ?_)
    refine Eq.trans ?_ (if_pos (by omega)).symm
    refine congrArg W ?_
    show 5136 + ((j : ℕ) - 5120) = _
    unfold colOf
    split_ifs <;> omega
  rcases lt_or_ge (j : ℕ) 7184 with a4 | a4
  · refine (joined_piece k j 4 (by show 4 < 7; omega) x4 rfl 7168 rfl (by omega) (by omega)).trans ((h4 _).trans ?_)
    refine Eq.trans ?_ (if_pos (by omega)).symm
    refine congrArg W ?_
    show 2560 + (1536 + ((j : ℕ) - 7168)) = _
    unfold colOf
    split_ifs <;> omega
  rcases lt_or_ge (j : ℕ) 7200 with a5 | a5
  · refine (joined_piece k j 5 (by show 5 < 7; omega) x5 rfl 7184 rfl (by omega) (by omega)).trans ((h5 _).trans ?_)
    refine Eq.trans ?_ (if_pos (by omega)).symm
    refine congrArg W ?_
    show 5136 + (2048 + ((j : ℕ) - 7184)) = _
    unfold colOf
    split_ifs <;> omega
  refine (joined_piece k j 6 (by show 6 < 7; omega) x6 rfl 7200 rfl (by omega) (by omega)).trans ((h6 _).trans ?_)
  exact (if_neg (by omega)).symm

/-- The product of the rows and the weights. -/
def product (H : FVec Ideal S16896x2048 .f32) (W : FVec Ideal S2048x7200 .f32) : FVec Ideal S16896x7200 .f32 :=
  Host.dotGeneral dot_S16896x2048_S2048x7200_S16896x7200_1_0_0_1_n_n none H W

theorem product_read (H : FVec Ideal S16896x2048 .f32) (W : FVec Ideal S2048x7200 .f32) (r : Fin 16896) (j : Fin 7200) :
    product H W (ix2 r j) = dotCol H W r j := by
  rw [dotCol, dif_pos j.isLt]
  pointwise [product]

/-- The product's columns, rearranged. -/
def rearranged (P : Vec Ideal S16896x7200 .f32) : FVec Ideal S16896x7680 .f32 :=
  concatenate S16896x7680 1 [⟨S16896x2560, (extractStridedSlice S16896x2560 ![0, 0] P slices_S16896x7200_S16896x2560_0_0 : Vec Ideal S16896x2560 .f32)⟩,
    ⟨S16896x1536, (extractStridedSlice S16896x1536 ![0, 0] (extractStridedSlice S16896x1552 ![0, 2560] P slices_S16896x7200_S16896x1552_0_2560) slices_S16896x1552_S16896x1536_0_0 : Vec Ideal S16896x1536 .f32)⟩,
    ⟨S16896x1024, (extractStridedSlice S16896x1024 ![0, 4112] P slices_S16896x7200_S16896x1024_0_4112 : Vec Ideal S16896x1024 .f32)⟩,
    ⟨S16896x2048, (extractStridedSlice S16896x2048 ![0, 0] (extractStridedSlice S16896x2064 ![0, 5136] P slices_S16896x7200_S16896x2064_0_5136) slices_S16896x2064_S16896x2048_0_0 : Vec Ideal S16896x2048 .f32)⟩,
    ⟨S16896x16, (extractStridedSlice S16896x16 ![0, 1536] (extractStridedSlice S16896x1552 ![0, 2560] P slices_S16896x7200_S16896x1552_0_2560) slices_S16896x1552_S16896x16_0_1536 : Vec Ideal S16896x16 .f32)⟩,
    ⟨S16896x16, (extractStridedSlice S16896x16 ![0, 2048] (extractStridedSlice S16896x2064 ![0, 5136] P slices_S16896x7200_S16896x2064_0_5136) slices_S16896x2064_S16896x16_0_2048 : Vec Ideal S16896x16 .f32)⟩,
    ⟨S16896x480, (broadcastInDim S16896x480 ![] bcast_S_S16896x480 (constant S_ .f32 0x00000000#32 : FVec Ideal S_ .f32) : Vec Ideal S16896x480 .f32)⟩]
    concatenates_S16896x2560_S16896x1536_S16896x1024_S16896x2048_S16896x16_S16896x16_S16896x480_S16896x7680_d1

theorem result_read (H : FVec Ideal S16896x2048 .f32) (W : FVec Ideal S2048x7200 .f32) (r : Fin 16896) (j : Fin 7680) :
    rearranged (product H W) (ix2 r j) = proj H W r j := by
  refine columns (W := dotCol H W r) r ?_ ?_ ?_ ?_ ?_ ?_ ?_ j
  · intro l
    pointwise
    exact product_read H W r _
  · intro l
    pointwise
    exact product_read H W r _
  · intro l
    pointwise
    exact product_read H W r _
  · intro l
    pointwise
    exact product_read H W r _
  · intro l
    pointwise
    exact product_read H W r _
  · intro l
    pointwise
    exact product_read H W r _
  · intro l
    pointwise

end Cert.Reference2Ideal.Project

end
-- ==== Proof.Norm.lean ====
module

public import Idealize.ShloMosaic.Lib.Claim
public import Idealize.ShloMosaic.Lib.Pointwise

/-!
# The root-mean-square norm of a row
-/

@[expose] public section

noncomputable section

namespace Cert.Norm

open Idealize.ShloMosaic Idealize.SL.Sem

/-- An entry of the row `v` over the row's root mean square (with the small constant under the root). -/
def normed (v : Fin 2048 → EReal) (l : Fin 2048) : EReal :=
  v l * Ideal.rsqrt (Ideal.div (∑ j, v j * v j) (Ideal.ofBits FTy.f32 1157627904#32) + Ideal.ofBits FTy.f32 897988541#32)

end Cert.Norm

end
-- ==== Proof.Final.lean ====
module

public import proofs.«01_k».proof.Proof.Gen.Kernel4Ideal.Value
public import proofs.«01_k».proof.Proof.Gen.Reference4Ideal.Run
public import proofs.«01_k».proof.Proof.Norm
public import Idealize.ShloMosaic.Lib.Claim
public import Idealize.ShloMosaic.Lib.Pointwise
public import Idealize.ShloMosaic.Lib.Pipeline.ValueKit
public import Idealize.ShloMosaic.Lib.StableHlo.RunRead

/-!
# The final residual and norm

The layer's result, entry by entry.
-/

@[expose] public section

set_option maxRecDepth 16384

noncomputable section

namespace Cert.Final

open Idealize.ShloMosaic Idealize.SL.Sem

/-- A row of the layer's residual stream: the stream before, and the gated sum of its two experts' outputs. -/
def resid (X : (⟨2, ![16896, 2048]⟩ : Shape).Idx → EReal) (Y : (⟨2, ![33792, 2048]⟩ : Shape).Idx → EReal) (W : (⟨2, ![16896, 2]⟩ : Shape).Idx → EReal)
    (M : (⟨3, ![8, 6, 2048]⟩ : Shape).Idx → EReal) (b : Fin 2) (r : Fin 8192) (l : Fin 2048) : EReal :=
  X (ix2 ⟨8192 * b + r, by omega⟩ l) + M (ix3 ⟨b, by omega⟩ 5 l) *
    (W (ix2 ⟨8192 * b + r, by omega⟩ 0) * Y (ix2 ⟨8192 * b + r, by omega⟩ l) + W (ix2 ⟨8192 * b + r, by omega⟩ 1) * Y (ix2 ⟨16896 + (8192 * b + r), by omega⟩ l))

/-- The layer's result: the residual stream, normed and scaled. -/
def result (X : (⟨2, ![16896, 2048]⟩ : Shape).Idx → EReal) (Y : (⟨2, ![33792, 2048]⟩ : Shape).Idx → EReal) (W : (⟨2, ![16896, 2]⟩ : Shape).Idx → EReal)
    (M : (⟨3, ![8, 6, 2048]⟩ : Shape).Idx → EReal) (g : (⟨1, ![2048]⟩ : Shape).Idx → EReal) (b : Fin 2) (r : Fin 8192) (l : Fin 2048) : EReal :=
  Cert.Norm.normed (resid X Y W M b r) l * g (ix1 l)

end Cert.Final

namespace Cert.Kernel4Ideal.Final

open Cert.Kernel4Ideal Cert.Kernel4Ideal.Gen Idealize.ShloMosaic Idealize.ShloMosaic.TcCoe Idealize.SL.Sem
open Cert.Norm Cert.Final

variable (m : (ℓ : Loc nD τ sig) → Buf (Elt Ideal) ℓ)

theorem pay_read (w0 : Vec Ideal S512x1 .f32) (y0 : Vec Ideal S512x2048 .bf16) (w1 : Vec Ideal S512x1 .f32) (y1 : Vec Ideal S512x2048 .bf16)
    (x : Vec Ideal S512x2048 .f32) (a : Vec Ideal S1x1x2048 .f32) (g : Vec Ideal S1x2048 .f32) (r : Fin 512) (l : Fin 2048) :
    k0_pay1 (F := Ideal) w0 y0 w1 y1 x a g (ix2 r l)
      = normed (fun l => x (ix2 r l) + a (ix3 0 0 l) * (w0 (ix2 r 0) * y0 (ix2 r l) + w1 (ix2 r 0) * y1 (ix2 r l))) l * g (ix2 0 l) := by
  pointwise [k0_pay1]
  rfl

theorem out_read (x0 : Vec Ideal S512x2048 .f32) (x1 x2 : Vec Ideal S512x2048 .bf16) (x3 : Vec Ideal S512x2 .f32) (x4 : Vec Ideal S1x6x2048 .f32)
    (x5 : Vec Ideal S1x2048 .f32) (r : Fin 512) (l : Fin 2048) :
    out0_6 (F := Ideal) x0 x1 x2 x3 x4 x5 (ix2 r l)
      = normed (fun l => x0 (ix2 r l) + x4 (ix3 0 5 l) * (x3 (ix2 r 0) * x1 (ix2 r l) + x3 (ix2 r 1) * x2 (ix2 r l))) l * x5 (ix2 0 l) := by
  have z2 : (![0, 0] : Fin 2 → ℕ) = fun _ => 0 := by decide
  unfold out0_6
  refine (congrFun (View.canon_unit_zero z2 _ _) _).trans ?_
  rw [View.ld_unit_zero z2, View.ld_unit_zero z2, View.ld_unit_zero z2, View.ld_unit_zero z2]
  refine (pay_read _ _ _ _ _ _ _ r l).trans ?_
  have ea : ∀ l, View.ld x4 r0_3 (ix3 0 0 l) = x4 (ix3 0 5 l) := fun l => congrArg x4 (by funext a; match a with | ⟨0, _⟩ => rfl | ⟨1, _⟩ => rfl | ⟨2, _⟩ => exact Fin.ext (by show 0 + 1 * (l : ℕ) = l; omega))
  have e0 : View.ld x3 r0_0 (ix2 r 0) = x3 (ix2 r 0) := congrArg x3 (by funext a; match a with | ⟨0, _⟩ => exact Fin.ext (by show 0 + 1 * (r : ℕ) = r; omega) | ⟨1, _⟩ => rfl)
  have e1 : View.ld x3 r0_2 (ix2 r 0) = x3 (ix2 r 1) := congrArg x3 (by funext a; match a with | ⟨0, _⟩ => exact Fin.ext (by show 0 + 1 * (r : ℕ) = r; omega) | ⟨1, _⟩ => rfl)
  simp only [ea, e0, e1]

theorem windows : ∀ t : Fin cfg0.N, win0_0.index t = ![t.val, 0] ∧ win0_1.index t = ![t.val, 0] ∧ win0_2.index t = ![t.val + 33, 0] ∧
    win0_3.index t = ![t.val, 0] ∧ win0_4.index t = ![t.val / 16, 0, 0] ∧ win0_5.index t = ![0, 0] ∧ win0_6.index t = ![t.val, 0] := by
  decide +kernel

theorem scale_read (c : Dev nD) (l : Fin 2048) : V m c main_v0 (ix2 0 l) = m ((c : Thread nD τ).loc main_arg4) (ix1 l) := by
  show StableHlo.after hostOps0 (fun b => m (c, b)) (Proc.devRef .tc main_v0) (ix2 0 l) = _
  entry_read
  pointwise

theorem block0 (c : Dev nD) (t : Fin cfg0.N) (r : Fin 512) (l : Fin 2048) (R : Fin 16896) (h : R.val = 512 * t.val + r) :
    iblk m c 0 t (ix2 r l) = m ((c : Thread nD τ).loc main_arg0) (ix2 R l) := by
  refine Eq.trans ?_ (congrFun (V_main_arg0 m c) _)
  blk_ext [iblk, V, windows t]

theorem block1 (c : Dev nD) (t : Fin cfg0.N) (r : Fin 512) (l : Fin 2048) (R : Fin 33792) (h : R.val = 512 * t.val + r) :
    iblk m c 1 t (ix2 r l) = m ((c : Thread nD τ).loc main_arg1) (ix2 R l) := by
  refine Eq.trans ?_ (congrFun (V_main_arg1 m c) _)
  blk_ext [iblk, V, windows t]

theorem block2 (c : Dev nD) (t : Fin cfg0.N) (r : Fin 512) (l : Fin 2048) (R : Fin 33792) (h : R.val = 16896 + (512 * t.val + r)) :
    iblk m c 2 t (ix2 r l) = m ((c : Thread nD τ).loc main_arg1) (ix2 R l) := by
  refine Eq.trans ?_ (congrFun (V_main_arg1 m c) _)
  blk_ext [iblk, V, windows t]

theorem block3 (c : Dev nD) (t : Fin cfg0.N) (r : Fin 512) (l : Fin 2) (R : Fin 16896) (h : R.val = 512 * t.val + r) :
    iblk m c 3 t (ix2 r l) = m ((c : Thread nD τ).loc main_arg2) (ix2 R l) := by
  refine Eq.trans ?_ (congrFun (V_main_arg2 m c) _)
  blk_ext [iblk, V, windows t]

theorem block4 (c : Dev nD) (t : Fin cfg0.N) (k : Fin 6) (l : Fin 2048) (b : Fin 8) (h : b.val = t.val / 16) :
    iblk m c 4 t (ix3 0 k l) = m ((c : Thread nD τ).loc main_arg3) (ix3 b k l) := by
  refine Eq.trans ?_ (congrFun (V_main_arg3 m c) _)
  blk_ext [iblk, V, windows t]

theorem block5 (c : Dev nD) (t : Fin cfg0.N) (l : Fin 2048) : iblk m c 5 t (ix2 0 l) = m ((c : Thread nD τ).loc main_arg4) (ix1 l) := by
  refine Eq.trans ?_ (scale_read m c l)
  blk_ext [iblk, V, windows t]

/-- The layer's result over the rows of both samples. -/
def target (c : Dev nD) : Vec Ideal S16384x2048 .f32 := fun y =>
  result (m ((c : Thread nD τ).loc main_arg0)) (m ((c : Thread nD τ).loc main_arg1)) (m ((c : Thread nD τ).loc main_arg2))
    (m ((c : Thread nD τ).loc main_arg3)) (m ((c : Thread nD τ).loc main_arg4))
    ⟨(y 0 : ℕ) / 8192, by have : (y 0 : ℕ) < 16384 := (y 0).isLt; omega⟩ ⟨(y 0 : ℕ) % 8192, by omega⟩ (y 1)

theorem out_at (c : Dev nD) (t : Fin cfg0.N) (r : Fin 512) (l : Fin 2048) (R : Fin 16384) (h : R.val = 512 * t.val + r) :
    out0_6 (iblk m c 0 t) (iblk m c 1 t) (iblk m c 2 t) (iblk m c 3 t) (iblk m c 4 t) (iblk m c 5 t) (ix2 r l) = target m c (ix2 R l) := by
  refine (out_read _ _ _ _ _ _ r l).trans ?_
  have eb : (R : ℕ) / 8192 = t.val / 16 := by omega
  have er : 8192 * ((R : ℕ) / 8192) + (R : ℕ) % 8192 = 512 * t.val + r := by omega
  rw [block5 m c t]
  refine congrArg (fun v => normed v l * m ((c : Thread nD τ).loc main_arg4) (ix1 l)) (funext fun k => ?_)
  rw [block0 m c t r k ⟨8192 * ((R : ℕ) / 8192) + (R : ℕ) % 8192, by omega⟩ er, block1 m c t r k ⟨8192 * ((R : ℕ) / 8192) + (R : ℕ) % 8192, by omega⟩ er,
    block2 m c t r k ⟨16896 + (8192 * ((R : ℕ) / 8192) + (R : ℕ) % 8192), by omega⟩ (congrArg (16896 + ·) er),
    block3 m c t r 0 ⟨8192 * ((R : ℕ) / 8192) + (R : ℕ) % 8192, by omega⟩ er, block3 m c t r 1 ⟨8192 * ((R : ℕ) / 8192) + (R : ℕ) % 8192, by omega⟩ er,
    block4 m c t 5 k ⟨(R : ℕ) / 8192, by omega⟩ eb]
  rfl

theorem arr_read (c : Dev nD) : (dats m 0 c).arrAt 6 cfg0.N = target m c := by
  refine (dats m 0 c).arrAt_eq_of_covers 6 (target m c) (by decide +kernel) fun t hf y => ?_
  blk_simp
  rw [after0_6]
  have e0 : (((win0_6.blk t).view.emb y) 0 : ℕ) = 512 * t.val + (y 0 : ℕ) := by blk_simp [windows t]; omega
  have e1 : (((win0_6.blk t).view.emb y) 1 : ℕ) = (y 1 : ℕ) := by blk_simp [windows t]
  have hy : y = ix2 (y 0) (y 1) := by funext a; match a with | ⟨0, _⟩ => rfl | ⟨1, _⟩ => rfl
  refine (congrArg _ hy).trans ((out_at m c t (y 0) (y 1) (((win0_6.blk t).view.emb y) 0) e0).trans (congrArg (target m c) ?_))
  funext a
  match a with
  | ⟨0, _⟩ => rfl
  | ⟨1, _⟩ => exact Fin.ext e1.symm

end Cert.Kernel4Ideal.Final

namespace Cert.Reference4Ideal.Final

open Cert.Reference4Ideal Cert.Reference4Ideal.Gen Idealize.ShloMosaic Idealize.ShloMosaic.TcCoe Idealize.SL.Sem
open Idealize.ShloMosaic.StableHlo Cert.Norm Cert.Final

/-- The reference's residual stream. -/
def stream (X : FVec Ideal S16896x2048 .f32) (Y : FVec Ideal S33792x2048 .bf16) (W : FVec Ideal S16896x2 .f32) (M : FVec Ideal S8x6x2048 .f32) :
    FVec Ideal S2x8192x2048 .f32 :=
  addf (shapeCast _ (extractStridedSlice S16384x2048 ![0, 0] X slices_S16896x2048_S16384x2048_0_0) shapeCasts_S16384x2048_S2x8192x2048) (mulf (broadcastInDim S2x8192x2048 ![0, 1, 2] bcast_S2x1x2048_S2x8192x2048_0_1_2 (broadcastInDim S2x1x2048 ![0, 2] bcast_S2x2048_S2x1x2048_0_2 (shapeCast _ (extractStridedSlice S2x1x2048 ![0, 5, 0] M slices_S8x6x2048_S2x1x2048_0_5_0) shapeCasts_S2x1x2048_S2x2048))) (shapeCast _ (extractStridedSlice S16384x2048 ![0, 0] (Host.reduceAdd (mulf (shapeCast _ (extf .f32 Y bitsLt_bf16_f32) shapeCasts_S33792x2048_S2x16896x2048) (broadcastInDim S2x16896x2048 ![0, 1, 2] bcast_S2x16896x1_S2x16896x2048_0_1_2 (broadcastInDim S2x16896x1 ![0, 1] bcast_S2x16896_S2x16896x1_0_1 (transpose S2x16896 [1, 0] W transposes_S16896x2_S2x16896_1_0)))) (constant S_ .f32 0x00000000#32) reducesTo_S2x16896x2048_S16896x2048_d0 h_S_) slices_S16896x2048_S16384x2048_0_0) shapeCasts_S16384x2048_S2x8192x2048))

theorem stream_read (X : FVec Ideal S16896x2048 .f32) (Y : FVec Ideal S33792x2048 .bf16) (W : FVec Ideal S16896x2 .f32) (M : FVec Ideal S8x6x2048 .f32)
    (b : Fin 2) (r : Fin 8192) (l : Fin 2048) : stream X Y W M (ix3 b r l) = resid X Y W M b r l := by
  pointwise [stream]
  rw [Fin.sum_univ_two]
  unfold resid
  have e : (b : ℕ) * 8192 + r = 8192 * b + r := by omega
  simp only [e, Fin.val_zero, Fin.val_one, Nat.zero_mul, Nat.one_mul, Nat.zero_add]
  rw [mul_comm (Y _), mul_comm (Y _)]

/-- The stream, normed and scaled. -/
def scaled (x : FVec Ideal S2x8192x2048 .f32) (g : FVec Ideal S2048 .f32) : FVec Ideal S16384x2048 .f32 :=
  shapeCast _ (mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))) shapeCasts_S2x8192x2048_S16384x2048

theorem scaled_read (x : FVec Ideal S2x8192x2048 .f32) (g : FVec Ideal S2048 .f32) (r : Fin 16384) (l : Fin 2048) :
    scaled x g (ix2 r l) = normed (fun l => x (ix3 ⟨r / 8192, by omega⟩ ⟨r % 8192, by omega⟩ l)) l * g (ix1 l) := by
  pointwise [scaled]
  rfl

theorem result_read (X : FVec Ideal S16896x2048 .f32) (Y : FVec Ideal S33792x2048 .bf16) (W : FVec Ideal S16896x2 .f32) (M : FVec Ideal S8x6x2048 .f32)
    (g : FVec Ideal S2048 .f32) (r : Fin 16384) (l : Fin 2048) :
    scaled (stream X Y W M) g (ix2 r l) = result X Y W M g ⟨r / 8192, by omega⟩ ⟨r % 8192, by omega⟩ l := by
  rw [scaled_read]
  unfold result
  simp only [stream_read]

end Cert.Reference4Ideal.Final

end
-- ==== Proof.OutSpec.lean ====
module

public import proofs.«01_k».proof.Proof.Norm

/-!
# The output projection and the routers

The rows after the projection, the normed and modulated rows, and the routers' logits, entry by entry; and that all of them are real where the
arguments are.
-/

@[expose] public section

noncomputable section

namespace Cert.Out

open Idealize.ShloMosaic Idealize.SL.Sem Cert.Norm

/-- The row of the modulation that a row of the stream takes: its sample's, or the context's. -/
def modOf (r : Fin 16896) : Fin 8 := if h : (r : ℕ) < 16384 then ⟨r / 8192, by omega⟩ else 2

/-- One of the projection's four blocks of weights. -/
def block (W : (⟨2, ![2048, 2048]⟩ : Shape).Idx → EReal) (a : Fin 4) (k : Fin 512) (l : Fin 2048) : EReal := W (ix2 ⟨512 * a + k, by omega⟩ l)

/-- A row of the four mixers' outputs times a column of the weights. -/
def product (Y0 Y1 Y2 Y3 : (⟨2, ![16896, 512]⟩ : Shape).Idx → EReal) (W : (⟨2, ![2048, 2048]⟩ : Shape).Idx → EReal) (r : Fin 16896) (l : Fin 2048) : EReal :=
  ∑ k, Y0 (ix2 r k) * block W 0 k l + ∑ k, Y1 (ix2 r k) * block W 1 k l + ∑ k, Y2 (ix2 r k) * block W 2 k l + ∑ k, Y3 (ix2 r k) * block W 3 k l

/-- A row of the residual stream after the projection. -/
def stream (Y0 Y1 Y2 Y3 : (⟨2, ![16896, 512]⟩ : Shape).Idx → EReal) (W : (⟨2, ![2048, 2048]⟩ : Shape).Idx → EReal)
    (X : (⟨2, ![16896, 2048]⟩ : Shape).Idx → EReal) (M : (⟨3, ![8, 6, 2048]⟩ : Shape).Idx → EReal) (r : Fin 16896) (l : Fin 2048) : EReal :=
  X (ix2 r l) + M (ix3 (modOf r) 2 l) * product Y0 Y1 Y2 Y3 W r l

/-- A normed row, modulated. -/
def hidden (v : Fin 2048 → EReal) (M : (⟨3, ![8, 6, 2048]⟩ : Shape).Idx → EReal) (g : (⟨1, ![2048]⟩ : Shape).Idx → EReal) (r : Fin 16896) (l : Fin 2048) : EReal :=
  normed v l * g (ix1 l) * (1 + M (ix3 (modOf r) 4 l)) + M (ix3 (modOf r) 3 l)

/-- The routers' weights, side by side, the last columns zero. -/
def router (Wg : (⟨2, ![2048, 4]⟩ : Shape).Idx → EReal) (We : (⟨2, ![2048, 32]⟩ : Shape).Idx → EReal) (k : Fin 2048) (j : Fin 128) : EReal :=
  if h : (j : ℕ) < 4 then Wg (ix2 k ⟨j, h⟩) else if h' : (j : ℕ) - 4 < 32 then We (ix2 k ⟨j - 4, h'⟩) else 0

/-- The array of the rows. -/
def rowsArray (Y0 Y1 Y2 Y3 : (⟨2, ![16896, 512]⟩ : Shape).Idx → EReal) (W : (⟨2, ![2048, 2048]⟩ : Shape).Idx → EReal)
    (X : (⟨2, ![16896, 2048]⟩ : Shape).Idx → EReal) (M : (⟨3, ![8, 6, 2048]⟩ : Shape).Idx → EReal) : (⟨2, ![16896, 2048]⟩ : Shape).Idx → EReal :=
  fun y => stream Y0 Y1 Y2 Y3 W X M (y 0) (y 1)

/-- A row's logit. -/
def logit (Y0 Y1 Y2 Y3 : (⟨2, ![16896, 512]⟩ : Shape).Idx → EReal) (W : (⟨2, ![2048, 2048]⟩ : Shape).Idx → EReal)
    (X : (⟨2, ![16896, 2048]⟩ : Shape).Idx → EReal) (M : (⟨3, ![8, 6, 2048]⟩ : Shape).Idx → EReal) (g : (⟨1, ![2048]⟩ : Shape).Idx → EReal)
    (Wg : (⟨2, ![2048, 4]⟩ : Shape).Idx → EReal) (We : (⟨2, ![2048, 32]⟩ : Shape).Idx → EReal) (r : Fin 16896) (j : Fin 128) : EReal :=
  ∑ k, hidden (stream Y0 Y1 Y2 Y3 W X M r) M g r k * router Wg We k j

/-- A real entry. -/
def IsReal (x : EReal) : Prop := ∃ a : ℝ, x = (a : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub_self {x : EReal} (hx : IsReal x) : x - x = 0 := by
  obtain ⟨a, rfl⟩ := hx
  rw [← EReal.coe_sub, _root_.sub_self, EReal.coe_zero]

theorem sum_coe {n : ℕ} (g : Fin n → ℝ) : ∑ x, ((g x : ℝ) : EReal) = ((∑ x, g x : ℝ) : EReal) :=
  (map_sum (⟨⟨((↑) : ℝ → EReal), EReal.coe_zero⟩, EReal.coe_add⟩ : ℝ →+ EReal) g Finset.univ).symm

theorem IsReal.sum {n : ℕ} {f : Fin n → EReal} (h : ∀ x, IsReal (f x)) : IsReal (∑ x, f x) := by
  choose g hg using h
  exact ⟨∑ x, g x, (Finset.sum_congr rfl fun x _ => hg x).trans (sum_coe g)⟩

theorem width : Ideal.ofBits .f32 1157627904#32 = ((2048 : ℝ) : EReal) := by
  simp [Ideal.ofBits, Ideal.ieee, -EReal.coe_mul]; norm_num

theorem small : ∃ e : ℝ, 0 < e ∧ Ideal.ofBits .f32 897988541#32 = (e : EReal) := by
  refine ⟨_, ?_, by simp [Ideal.ofBits, Ideal.ieee, -EReal.coe_mul]; rfl⟩
  positivity

theorem normed_real {v : Fin 2048 → EReal} (h : ∀ j, IsReal (v j)) (l : Fin 2048) : IsReal (normed v l) := by
  choose g hg using h
  obtain ⟨e, he, ee⟩ := small
  have hs : (0 : ℝ) ≤ ∑ j, g j * g j := Finset.sum_nonneg fun j _ => mul_self_nonneg _
  have hp : (0 : ℝ) < (∑ j, g j * g j) * (1 / 2048) + e := by positivity
  refine IsReal.mul ⟨_, hg l⟩ ⟨(Real.sqrt ((∑ j, g j * g j) * (1 / 2048) + e))⁻¹, ?_⟩
  have e1 : ∑ j, v j * v j = ((∑ j, g j * g j : ℝ) : EReal) :=
    (Finset.sum_congr rfl fun j _ => by rw [hg j, ← EReal.coe_mul]).trans (sum_coe fun j => g j * g j)
  rw [e1, width, ee, Ideal.div_coe (by norm_num), ← EReal.coe_mul, ← EReal.coe_add, Ideal.rsqrt_coe, if_neg (not_lt.mpr hp.le), if_neg hp.ne']

section Reals

variable {Y0 Y1 Y2 Y3 : (⟨2, ![16896, 512]⟩ : Shape).Idx → EReal} {W : (⟨2, ![2048, 2048]⟩ : Shape).Idx → EReal}
  {X : (⟨2, ![16896, 2048]⟩ : Shape).Idx → EReal} {M : (⟨3, ![8, 6, 2048]⟩ : Shape).Idx → EReal} {g : (⟨1, ![2048]⟩ : Shape).Idx → EReal}
  {Wg : (⟨2, ![2048, 4]⟩ : Shape).Idx → EReal} {We : (⟨2, ![2048, 32]⟩ : Shape).Idx → EReal}

theorem stream_real (h0 : ∀ i, IsReal (Y0 i)) (h1 : ∀ i, IsReal (Y1 i)) (h2 : ∀ i, IsReal (Y2 i)) (h3 : ∀ i, IsReal (Y3 i)) (hW : ∀ i, IsReal (W i))
    (hX : ∀ i, IsReal (X i)) (hM : ∀ i, IsReal (M i)) (r : Fin 16896) (l : Fin 2048) : IsReal (stream Y0 Y1 Y2 Y3 W X M r l) :=
  (hX _).add ((hM _).mul (.add (.add (.add (.sum fun k => (h0 _).mul (hW _)) (.sum fun k => (h1 _).mul (hW _))) (.sum fun k => (h2 _).mul (hW _)))
    (.sum fun k => (h3 _).mul (hW _))))

theorem hidden_real {v : Fin 2048 → EReal} (hv : ∀ j, IsReal (v j)) (hM : ∀ i, IsReal (M i)) (hg : ∀ i, IsReal (g i)) (r : Fin 16896) (l : Fin 2048) :
    IsReal (hidden v M g r l) :=
  .add (.mul (.mul (normed_real hv l) (hg _)) (.add ⟨1, rfl⟩ (hM _))) (hM _)

theorem router_real (hWg : ∀ i, IsReal (Wg i)) (hWe : ∀ i, IsReal (We i)) (k : Fin 2048) (j : Fin 128) : IsReal (router Wg We k j) := by
  unfold router
  split_ifs
  · exact hWg _
  · exact hWe _
  · exact ⟨0, rfl⟩

end Reals

end Cert.Out

end
-- ==== Proof.First.lean ====
module

public import proofs.«01_k».proof.Proof.Gen.Kernel5Ideal.Value
public import proofs.«01_k».proof.Proof.Gen.Reference5Ideal.Run
public import proofs.«01_k».proof.Proof.OutSpec
public import Idealize.ShloMosaic.Lib.Claim
public import Idealize.ShloMosaic.Lib.Pointwise
public import Idealize.ShloMosaic.Lib.Pipeline.ValueKit
public import Idealize.ShloMosaic.Lib.StableHlo.RunRead

/-!
# The residual and the first norm

The residual stream that a layer starts from, and its normed and modulated rows, entry by entry.
-/

@[expose] public section

set_option maxRecDepth 16384

noncomputable section

namespace Cert.First

open Idealize.ShloMosaic Idealize.SL.Sem Cert.Out

/-- A row of the residual stream: the stream before, and the gated sum of its two experts' outputs. -/
def resid (X : (⟨2, ![16896, 2048]⟩ : Shape).Idx → EReal) (Y : (⟨2, ![33792, 2048]⟩ : Shape).Idx → EReal) (W : (⟨2, ![16896, 2]⟩ : Shape).Idx → EReal)
    (P : (⟨3, ![8, 6, 2048]⟩ : Shape).Idx → EReal) (r : Fin 16896) (l : Fin 2048) : EReal :=
  X (ix2 r l) + P (ix3 (modOf r) 5 l) * (W (ix2 r 0) * Y (ix2 ⟨r, by omega⟩ l) + W (ix2 r 1) * Y (ix2 ⟨16896 + r, by omega⟩ l))

/-- The row, normed, scaled and modulated. -/
def normedRow (X : (⟨2, ![16896, 2048]⟩ : Shape).Idx → EReal) (Y : (⟨2, ![33792, 2048]⟩ : Shape).Idx → EReal) (W : (⟨2, ![16896, 2]⟩ : Shape).Idx → EReal)
    (P : (⟨3, ![8, 6, 2048]⟩ : Shape).Idx → EReal) (g : (⟨1, ![2048]⟩ : Shape).Idx → EReal) (M : (⟨3, ![8, 6, 2048]⟩ : Shape).Idx → EReal)
    (r : Fin 16896) (l : Fin 2048) : EReal :=
  Cert.Norm.normed (resid X Y W P r) l * g (ix1 l) * (1 + M (ix3 (modOf r) 1 l)) + M (ix3 (modOf r) 0 l)

theorem mod_val (t : ℕ) (r : Fin 512) (R : Fin 16896) (h : R.val = 512 * t + r) : (modOf R).val = if t < 32 then t / 16 else 2 := by
  unfold modOf
  split_ifs with h1 h2 h2
  · show (R : ℕ) / 8192 = t / 16
    omega
  · omega
  · omega
  · rfl

end Cert.First

namespace Cert.Kernel5Ideal.First

open Cert.Kernel5Ideal Cert.Kernel5Ideal.Gen Idealize.ShloMosaic Idealize.ShloMosaic.TcCoe Idealize.SL.Sem
open Cert.Norm Cert.Out Cert.First

variable (m : (ℓ : Loc nD τ sig) → Buf (Elt Ideal) ℓ)

theorem stream_read (w0 : Vec Ideal S512x1 .f32) (y0 : Vec Ideal S512x2048 .bf16) (w1 : Vec Ideal S512x1 .f32) (y1 : Vec Ideal S512x2048 .bf16)
    (x : Vec Ideal S512x2048 .f32) (a : Vec Ideal S1x1x2048 .f32) (r : Fin 512) (l : Fin 2048) :
    k0_pay2 (F := Ideal) w0 y0 w1 y1 x a (ix2 r l)
      = x (ix2 r l) + a (ix3 0 0 l) * (w0 (ix2 r 0) * y0 (ix2 r l) + w1 (ix2 r 0) * y1 (ix2 r l)) := by
  pointwise [k0_pay2]

theorem root_read (w0 : Vec Ideal S512x1 .f32) (y0 : Vec Ideal S512x2048 .bf16) (w1 : Vec Ideal S512x1 .f32) (y1 : Vec Ideal S512x2048 .bf16)
    (x : Vec Ideal S512x2048 .f32) (a : Vec Ideal S1x1x2048 .f32) (r : Fin 512) :
    k0_pay6 (F := Ideal) w0 y0 w1 y1 x a (ix2 r 0)
      = Ideal.rsqrt (Ideal.div (∑ j, k0_pay2 (F := Ideal) w0 y0 w1 y1 x a (ix2 r j) * k0_pay2 (F := Ideal) w0 y0 w1 y1 x a (ix2 r j)) (Ideal.ofBits FTy.f32 1157627904#32) + Ideal.ofBits FTy.f32 897988541#32) := by
  pointwise [k0_pay6]

theorem row_read (v : FVec Ideal S512x2048 .f32) (g b s : Vec Ideal S1x2048 .f32) (q : FVec Ideal S512x1 .f32) (r : Fin 512) (l : Fin 2048) :
    k0_pay1 (F := Ideal) v g b s q (ix2 r l) = v (ix2 r l) * q (ix2 r 0) * g (ix2 0 l) * (1 + s (ix2 0 l)) + b (ix2 0 l) := by
  pointwise [k0_pay1]

theorem scale_read (g : Vec Ideal S1x2048 .f32) (l : Fin 2048) : k0_pay3 (F := Ideal) g (ix2 0 l) = g (ix2 0 l) := by
  pointwise [k0_pay3]

theorem shift_read (g : Vec Ideal S1x1x2048 .f32) (l : Fin 2048) : k0_pay4 (F := Ideal) g (ix2 0 l) = g (ix3 0 0 l) := by
  pointwise [k0_pay4]

theorem gain_read (g : Vec Ideal S1x1x2048 .f32) (l : Fin 2048) : k0_pay5 (F := Ideal) g (ix2 0 l) = g (ix3 0 0 l) := by
  pointwise [k0_pay5]

theorem ld_row (x : Vec Ideal S1x6x2048 .f32) (l : Fin 2048) : (View.ld x r0_3 : Vec Ideal S1x1x2048 .f32) (ix3 0 0 l) = x (ix3 0 5 l)
    ∧ (View.ld x r0_5 : Vec Ideal S1x1x2048 .f32) (ix3 0 0 l) = x (ix3 0 0 l) ∧ (View.ld x r0_6 : Vec Ideal S1x1x2048 .f32) (ix3 0 0 l) = x (ix3 0 1 l) :=
  ⟨congrArg x (by funext a; match a with | ⟨0, _⟩ => rfl | ⟨1, _⟩ => rfl | ⟨2, _⟩ => exact Fin.ext (by show 0 + 1 * (l : ℕ) = l; omega)),
    congrArg x (by funext a; match a with | ⟨0, _⟩ => rfl | ⟨1, _⟩ => rfl | ⟨2, _⟩ => exact Fin.ext (by show 0 + 1 * (l : ℕ) = l; omega)),
    congrArg x (by funext a; match a with | ⟨0, _⟩ => rfl | ⟨1, _⟩ => rfl | ⟨2, _⟩ => exact Fin.ext (by show 0 + 1 * (l : ℕ) = l; omega))⟩

theorem ld_weight (x : Vec Ideal S512x2 .f32) (r : Fin 512) : (View.ld x r0_0 : Vec Ideal S512x1 .f32) (ix2 r 0) = x (ix2 r 0)
    ∧ (View.ld x r0_2 : Vec Ideal S512x1 .f32) (ix2 r 0) = x (ix2 r 1) :=
  ⟨congrArg x (by funext a; match a with | ⟨0, _⟩ => exact Fin.ext (by show 0 + 1 * (r : ℕ) = r; omega) | ⟨1, _⟩ => rfl),
    congrArg x (by funext a; match a with | ⟨0, _⟩ => exact Fin.ext (by show 0 + 1 * (r : ℕ) = r; omega) | ⟨1, _⟩ => rfl)⟩

/-- An entry of a block's residual stream. -/
def blockRow (x0 : Vec Ideal S512x2048 .f32) (x1 x2 : Vec Ideal S512x2048 .bf16) (x3 : Vec Ideal S512x2 .f32) (x4 : Vec Ideal S1x6x2048 .f32)
    (r : Fin 512) (l : Fin 2048) : EReal :=
  (x0 (ix2 r l) : EReal) + x4 (ix3 0 5 l) * (x3 (ix2 r 0) * x1 (ix2 r l) + x3 (ix2 r 1) * x2 (ix2 r l))

/-- The block of the residual stream. -/
theorem stream_block (x0 : Vec Ideal S512x2048 .f32) (x1 x2 : Vec Ideal S512x2048 .bf16) (x3 : Vec Ideal S512x2 .f32) (x4 : Vec Ideal S1x6x2048 .f32)
    (x5 : Vec Ideal S1x2048 .f32) (x6 : Vec Ideal S1x6x2048 .f32) (r : Fin 512) (l : Fin 2048) :
    k0_pay2 (F := Ideal) (View.ld x3 r0_0) (View.ld x1 r0_1) (View.ld x3 r0_2) (View.ld x2 r0_1) (View.ld x0 r0_1) (View.ld x4 r0_3) (ix2 r l)
      = blockRow x0 x1 x2 x3 x4 r l := by
  have z2 : (![0, 0] : Fin 2 → ℕ) = fun _ => 0 := by decide
  have h0 : View.ld x0 r0_1 = x0 := View.ld_unit_zero z2 _ _
  have h1 : View.ld x1 r0_1 = x1 := View.ld_unit_zero z2 _ _
  have h2 : View.ld x2 r0_1 = x2 := View.ld_unit_zero z2 _ _
  rw [h0, h1, h2]
  refine (stream_read _ _ _ _ _ _ r l).trans ?_
  rw [(ld_row x4 l).1, (ld_weight x3 r).1, (ld_weight x3 r).2]
  rfl

theorem out7_read (x0 : Vec Ideal S512x2048 .f32) (x1 x2 : Vec Ideal S512x2048 .bf16) (x3 : Vec Ideal S512x2 .f32) (x4 : Vec Ideal S1x6x2048 .f32)
    (x5 : Vec Ideal S1x2048 .f32) (x6 : Vec Ideal S1x6x2048 .f32) (r : Fin 512) (l : Fin 2048) :
    out0_7 (F := Ideal) x0 x1 x2 x3 x4 x5 x6 (ix2 r l) = blockRow x0 x1 x2 x3 x4 r l := by
  have z2 : (![0, 0] : Fin 2 → ℕ) = fun _ => 0 := by decide
  unfold out0_7
  refine (congrFun (View.canon_unit_zero z2 _ _) _).trans ?_
  exact stream_block x0 x1 x2 x3 x4 x5 x6 r l

theorem out8_read (x0 : Vec Ideal S512x2048 .f32) (x1 x2 : Vec Ideal S512x2048 .bf16) (x3 : Vec Ideal S512x2 .f32) (x4 : Vec Ideal S1x6x2048 .f32)
    (x5 : Vec Ideal S1x2048 .f32) (x6 : Vec Ideal S1x6x2048 .f32) (r : Fin 512) (l : Fin 2048) :
    out0_8 (F := Ideal) x0 x1 x2 x3 x4 x5 x6 (ix2 r l)
      = normed (blockRow x0 x1 x2 x3 x4 r) l * x5 (ix2 0 l) * (1 + x6 (ix3 0 1 l)) + x6 (ix3 0 0 l) := by
  have z2 : (![0, 0] : Fin 2 → ℕ) = fun _ => 0 := by decide
  unfold out0_8
  refine (congrFun (View.canon_unit_zero z2 _ _) _).trans ?_
  refine (row_read _ _ _ _ _ r l).trans ?_
  have h5 : View.ld x5 r0_4 = x5 := View.ld_unit_zero z2 _ _
  rw [root_read, scale_read, shift_read, gain_read, (ld_row x6 l).2.1, (ld_row x6 l).2.2, h5]
  simp only [stream_block x0 x1 x2 x3 x4 x5 x6]
  rfl

theorem windows : ∀ t : Fin cfg0.N, win0_0.index t = ![t.val, 0] ∧ win0_1.index t = ![t.val, 0] ∧ win0_2.index t = ![t.val + 33, 0] ∧
    win0_3.index t = ![t.val, 0] ∧ win0_4.index t = ![if t.val < 32 then t.val / 16 else 2, 0, 0] ∧ win0_5.index t = ![0, 0] ∧
    win0_6.index t = ![if t.val < 32 then t.val / 16 else 2, 0, 0] ∧ win0_7.index t = ![t.val, 0] ∧ win0_8.index t = ![t.val, 0] := by
  decide +kernel

theorem norm_scale (c : Dev nD) (l : Fin 2048) : V m c main_v0 (ix2 0 l) = m ((c : Thread nD τ).loc main_arg4) (ix1 l) := by
  show StableHlo.after hostOps0 (fun b => m (c, b)) (Proc.devRef .tc main_v0) (ix2 0 l) = _
  entry_read
  pointwise

theorem block0 (c : Dev nD) (t : Fin cfg0.N) (r : Fin 512) (l : Fin 2048) (R : Fin 16896) (h : R.val = 512 * t.val + r) :
    iblk m c 0 t (ix2 r l) = m ((c : Thread nD τ).loc main_arg0) (ix2 R l) := by
  refine Eq.trans ?_ (congrFun (V_main_arg0 m c) _)
  blk_ext [iblk, V, windows t]

theorem block1 (c : Dev nD) (t : Fin cfg0.N) (r : Fin 512) (l : Fin 2048) (R : Fin 33792) (h : R.val = 512 * t.val + r) :
    iblk m c 1 t (ix2 r l) = m ((c : Thread nD τ).loc main_arg1) (ix2 R l) := by
  refine Eq.trans ?_ (congrFun (V_main_arg1 m c) _)
  blk_ext [iblk, V, windows t]

theorem block2 (c : Dev nD) (t : Fin cfg0.N) (r : Fin 512) (l : Fin 2048) (R : Fin 33792) (h : R.val = 16896 + (512 * t.val + r)) :
    iblk m c 2 t (ix2 r l) = m ((c : Thread nD τ).loc main_arg1) (ix2 R l) := by
  refine Eq.trans ?_ (congrFun (V_main_arg1 m c) _)
  blk_ext [iblk, V, windows t]

theorem block3 (c : Dev nD) (t : Fin cfg0.N) (r : Fin 512) (l : Fin 2) (R : Fin 16896) (h : R.val = 512 * t.val + r) :
    iblk m c 3 t (ix2 r l) = m ((c : Thread nD τ).loc main_arg2) (ix2 R l) := by
  refine Eq.trans ?_ (congrFun (V_main_arg2 m c) _)
  blk_ext [iblk, V, windows t]

theorem block4 (c : Dev nD) (t : Fin cfg0.N) (k : Fin 6) (l : Fin 2048) (b : Fin 8) (h : b.val = if t.val < 32 then t.val / 16 else 2) :
    iblk m c 4 t (ix3 0 k l) = m ((c : Thread nD τ).loc main_arg3) (ix3 b k l) := by
  refine Eq.trans ?_ (congrFun (V_main_arg3 m c) _)
  blk_ext [iblk, V, windows t]

theorem block6 (c : Dev nD) (t : Fin cfg0.N) (k : Fin 6) (l : Fin 2048) (b : Fin 8) (h : b.val = if t.val < 32 then t.val / 16 else 2) :
    iblk m c 6 t (ix3 0 k l) = m ((c : Thread nD τ).loc main_arg5) (ix3 b k l) := by
  refine Eq.trans ?_ (congrFun (V_main_arg5 m c) _)
  blk_ext [iblk, V, windows t]

theorem block5 (c : Dev nD) (t : Fin cfg0.N) (l : Fin 2048) : iblk m c 5 t (ix2 0 l) = m ((c : Thread nD τ).loc main_arg4) (ix1 l) := by
  refine Eq.trans ?_ (norm_scale m c l)
  blk_ext [iblk, V, windows t]

/-- The residual stream. -/
def streamTarget (c : Dev nD) : Vec Ideal S16896x2048 .f32 := fun y => resid (m ((c : Thread nD τ).loc main_arg0)) (m ((c : Thread nD τ).loc main_arg1)) (m ((c : Thread nD τ).loc main_arg2)) (m ((c : Thread nD τ).loc main_arg3)) (y 0) (y 1)

/-- The normed and modulated rows. -/
def rowsTarget (c : Dev nD) : Vec Ideal S16896x2048 .bf16 := fun y => normedRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1)

theorem resid_at (c : Dev nD) (t : Fin cfg0.N) (r : Fin 512) (l : Fin 2048) (R : Fin 16896) (h : R.val = 512 * t.val + r) :
    blockRow (iblk m c 0 t) (iblk m c 1 t) (iblk m c 2 t) (iblk m c 3 t) (iblk m c 4 t) r l
      = resid (m ((c : Thread nD τ).loc main_arg0)) (m ((c : Thread nD τ).loc main_arg1)) (m ((c : Thread nD τ).loc main_arg2)) (m ((c : Thread nD τ).loc main_arg3)) R l := by
  unfold blockRow
  rw [block0 m c t r l R h, block1 m c t r l ⟨R, by omega⟩ h, block2 m c t r l ⟨16896 + R, by omega⟩ (congrArg (16896 + ·) h),
    block3 m c t r 0 R h, block3 m c t r 1 R h, block4 m c t 5 l (modOf R) (mod_val t.val r R h)]
  rfl

theorem stream_at (c : Dev nD) (t : Fin cfg0.N) (r : Fin 512) (l : Fin 2048) (R : Fin 16896) (h : R.val = 512 * t.val + r) :
    out0_7 (iblk m c 0 t) (iblk m c 1 t) (iblk m c 2 t) (iblk m c 3 t) (iblk m c 4 t) (iblk m c 5 t) (iblk m c 6 t) (ix2 r l) = streamTarget m c (ix2 R l) :=
  (out7_read _ _ _ _ _ _ _ r l).trans (resid_at m c t r l R h)

theorem rows_at (c : Dev nD) (t : Fin cfg0.N) (r : Fin 512) (l : Fin 2048) (R : Fin 16896) (h : R.val = 512 * t.val + r) :
    out0_8 (iblk m c 0 t) (iblk m c 1 t) (iblk m c 2 t) (iblk m c 3 t) (iblk m c 4 t) (iblk m c 5 t) (iblk m c 6 t) (ix2 r l) = rowsTarget m c (ix2 R l) := by
  refine (out8_read _ _ _ _ _ _ _ r l).trans ?_
  rw [block5 m c t, block6 m c t 0 l (modOf R) (mod_val t.val r R h), block6 m c t 1 l (modOf R) (mod_val t.val r R h)]
  have e : blockRow (iblk m c 0 t) (iblk m c 1 t) (iblk m c 2 t) (iblk m c 3 t) (iblk m c 4 t) r = _ := funext fun k => resid_at m c t r k R h
  rw [e]
  rfl

theorem stream_arr (c : Dev nD) : (dats m 0 c).arrAt 7 cfg0.N = streamTarget m c := by
  refine (dats m 0 c).arrAt_eq_of_covers 7 (streamTarget m c) (by decide +kernel) fun t hf y => ?_
  blk_simp
  rw [after0_7]
  have e0 : (((win0_7.blk t).view.emb y) 0 : ℕ) = 512 * t.val + (y 0 : ℕ) := by blk_simp [windows t]; omega
  have e1 : (((win0_7.blk t).view.emb y) 1 : ℕ) = (y 1 : ℕ) := by blk_simp [windows t]
  have hy : y = ix2 (y 0) (y 1) := by funext a; match a with | ⟨0, _⟩ => rfl | ⟨1, _⟩ => rfl
  refine (congrArg _ hy).trans ((stream_at m c t (y 0) (y 1) (((win0_7.blk t).view.emb y) 0) e0).trans (congrArg (streamTarget m c) ?_))
  funext a
  match a with
  | ⟨0, _⟩ => rfl
  | ⟨1, _⟩ => exact Fin.ext e1.symm

theorem rows_arr (c : Dev nD) : (dats m 0 c).arrAt 8 cfg0.N = rowsTarget m c := by
  refine (dats m 0 c).arrAt_eq_of_covers 8 (rowsTarget m c) (by decide +kernel) fun t hf y => ?_
  blk_simp
  rw [after0_8]
  have e0 : (((win0_8.blk t).view.emb y) 0 : ℕ) = 512 * t.val + (y 0 : ℕ) := by blk_simp [windows t]; omega
  have e1 : (((win0_8.blk t).view.emb y) 1 : ℕ) = (y 1 : ℕ) := by blk_simp [windows t]
  have hy : y = ix2 (y 0) (y 1) := by funext a; match a with | ⟨0, _⟩ => rfl | ⟨1, _⟩ => rfl
  refine (congrArg _ hy).trans ((rows_at m c t (y 0) (y 1) (((win0_8.blk t).view.emb y) 0) e0).trans (congrArg (rowsTarget m c) ?_))
  funext a
  match a with
  | ⟨0, _⟩ => rfl
  | ⟨1, _⟩ => exact Fin.ext e1.symm

end Cert.Kernel5Ideal.First

namespace Cert.Reference5Ideal.First

open Cert.Reference5Ideal Cert.Reference5Ideal.Gen Idealize.ShloMosaic Idealize.ShloMosaic.TcCoe Idealize.SL.Sem
open Cert.Norm Cert.Out Cert.First

/-- The modulation's entry 0 of every row. -/
def mods0 (M : FVec Ideal S8x6x2048 .f32) : FVec Ideal S16896x2048 .f32 :=
  concatenate S16896x2048 0 [⟨S16384x2048, (shapeCast _ (broadcastInDim S2x8192x2048 ![0, 1, 2] bcast_S2x1x2048_S2x8192x2048_0_1_2 (broadcastInDim S2x1x2048 ![0, 2] bcast_S2x2048_S2x1x2048_0_2 (shapeCast _ (extractStridedSlice S2x1x2048 ![0, 0, 0] M slices_S8x6x2048_S2x1x2048_0_0_0) shapeCasts_S2x1x2048_S2x2048))) shapeCasts_S2x8192x2048_S16384x2048)⟩, ⟨S512x2048, (broadcastInDim S512x2048 ![1] bcast_S2048_S512x2048_1 (shapeCast _ (extractStridedSlice S1x1x2048 ![2, 0, 0] M slices_S8x6x2048_S1x1x2048_2_0_0) shapeCasts_S1x1x2048_S2048))⟩] concatenates_S16384x2048_S512x2048_S16896x2048_d0

theorem mods0_read (M : FVec Ideal S8x6x2048 .f32) (r : Fin 16896) (l : Fin 2048) : mods0 M (ix2 r l) = M (ix3 (modOf r) 0 l) := by
  pointwise [mods0]
  unfold modOf
  split_ifs <;> rfl

/-- The modulation's entry 1 of every row. -/
def mods1 (M : FVec Ideal S8x6x2048 .f32) : FVec Ideal S16896x2048 .f32 :=
  concatenate S16896x2048 0 [⟨S16384x2048, (shapeCast _ (broadcastInDim S2x8192x2048 ![0, 1, 2] bcast_S2x1x2048_S2x8192x2048_0_1_2 (broadcastInDim S2x1x2048 ![0, 2] bcast_S2x2048_S2x1x2048_0_2 (shapeCast _ (extractStridedSlice S2x1x2048 ![0, 1, 0] M slices_S8x6x2048_S2x1x2048_0_1_0) shapeCasts_S2x1x2048_S2x2048))) shapeCasts_S2x8192x2048_S16384x2048)⟩, ⟨S512x2048, (broadcastInDim S512x2048 ![1] bcast_S2048_S512x2048_1 (shapeCast _ (extractStridedSlice S1x1x2048 ![2, 1, 0] M slices_S8x6x2048_S1x1x2048_2_1_0) shapeCasts_S1x1x2048_S2048))⟩] concatenates_S16384x2048_S512x2048_S16896x2048_d0

theorem mods1_read (M : FVec Ideal S8x6x2048 .f32) (r : Fin 16896) (l : Fin 2048) : mods1 M (ix2 r l) = M (ix3 (modOf r) 1 l) := by
  pointwise [mods1]
  unfold modOf
  split_ifs <;> rfl

/-- The modulation's entry 5 of every row. -/
def mods5 (M : FVec Ideal S8x6x2048 .f32) : FVec Ideal S16896x2048 .f32 :=
  concatenate S16896x2048 0 [⟨S16384x2048, (shapeCast _ (broadcastInDim S2x8192x2048 ![0, 1, 2] bcast_S2x1x2048_S2x8192x2048_0_1_2 (broadcastInDim S2x1x2048 ![0, 2] bcast_S2x2048_S2x1x2048_0_2 (shapeCast _ (extractStridedSlice S2x1x2048 ![0, 5, 0] M slices_S8x6x2048_S2x1x2048_0_5_0) shapeCasts_S2x1x2048_S2x2048))) shapeCasts_S2x8192x2048_S16384x2048)⟩, ⟨S512x2048, (broadcastInDim S512x2048 ![1] bcast_S2048_S512x2048_1 (shapeCast _ (extractStridedSlice S1x1x2048 ![2, 5, 0] M slices_S8x6x2048_S1x1x2048_2_5_0) shapeCasts_S1x1x2048_S2048))⟩] concatenates_S16384x2048_S512x2048_S16896x2048_d0

theorem mods5_read (M : FVec Ideal S8x6x2048 .f32) (r : Fin 16896) (l : Fin 2048) : mods5 M (ix2 r l) = M (ix3 (modOf r) 5 l) := by
  pointwise [mods5]
  unfold modOf
  split_ifs <;> rfl

/-- The reference's residual stream. -/
def stream (X : FVec Ideal S16896x2048 .f32) (Y : FVec Ideal S33792x2048 .bf16) (W : FVec Ideal S16896x2 .f32) (P : FVec Ideal S8x6x2048 .f32) :
    FVec Ideal S16896x2048 .f32 :=
  addf X (mulf (mods5 P) (Host.reduceAdd (mulf (shapeCast _ (extf .f32 Y bitsLt_bf16_f32) shapeCasts_S33792x2048_S2x16896x2048) (broadcastInDim S2x16896x2048 ![0, 1, 2] bcast_S2x16896x1_S2x16896x2048_0_1_2 (broadcastInDim S2x16896x1 ![0, 1] bcast_S2x16896_S2x16896x1_0_1 (transpose S2x16896 [1, 0] W transposes_S16896x2_S2x16896_1_0)))) (constant S_ .f32 0x00000000#32) reducesTo_S2x16896x2048_S16896x2048_d0 h_S_))

theorem stream_read (X : FVec Ideal S16896x2048 .f32) (Y : FVec Ideal S33792x2048 .bf16) (W : FVec Ideal S16896x2 .f32) (P : FVec Ideal S8x6x2048 .f32)
    (r : Fin 16896) (l : Fin 2048) : stream X Y W P (ix2 r l) = resid X Y W P r l := by
  pointwise [stream]
  rw [Fin.sum_univ_two, mods5_read]
  unfold resid
  simp only [Fin.val_zero, Fin.val_one, Nat.zero_mul, Nat.one_mul, Nat.zero_add]
  rw [mul_comm (Y _), mul_comm (Y _)]

/-- The rows, normed and modulated. -/
def modulated (x : FVec Ideal S16896x2048 .f32) (g : FVec Ideal S2048 .f32) (M : FVec Ideal S8x6x2048 .f32) : FVec Ideal S16896x2048 .bf16 :=
  truncf .bf16 (addf (mulf (mulf (mulf x (broadcastInDim S16896x2048 ![0, 1] bcast_S16896x1_S16896x2048_0_1 (Host.rsqrt (addf (Host.divf (broadcastInDim S16896x1 ![0] bcast_S16896_S16896x1_0 (Host.reduceAdd (mulf x x) (constant S_ .f32 0x00000000#32) reducesTo_S16896x2048_S16896_d1 h_S_)) (broadcastInDim S16896x1 ![] bcast_S_S16896x1 (constant S_ .f32 0x45000000#32))) (broadcastInDim S16896x1 ![] bcast_S_S16896x1 (constant S_ .f32 0x358637BD#32)))))) (broadcastInDim S16896x2048 ![0, 1] bcast_S1x2048_S16896x2048_0_1 (broadcastInDim S1x2048 ![1] bcast_S2048_S1x2048_1 g))) (addf (broadcastInDim S16896x2048 ![] bcast_S_S16896x2048 (constant S_ .f32 0x3F800000#32)) (mods1 M))) (mods0 M)) bitsLt_bf16_f32

theorem modulated_read (x : FVec Ideal S16896x2048 .f32) (g : FVec Ideal S2048 .f32) (M : FVec Ideal S8x6x2048 .f32) (r : Fin 16896) (l : Fin 2048) :
    modulated x g M (ix2 r l) = normed (fun l => x (ix2 r l)) l * g (ix1 l) * (1 + M (ix3 (modOf r) 1 l)) + M (ix3 (modOf r) 0 l) := by
  pointwise [modulated]
  rw [mods0_read, mods1_read]
  rfl

theorem rows_read (X : FVec Ideal S16896x2048 .f32) (Y : FVec Ideal S33792x2048 .bf16) (W : FVec Ideal S16896x2 .f32) (P : FVec Ideal S8x6x2048 .f32)
    (g : FVec Ideal S2048 .f32) (M : FVec Ideal S8x6x2048 .f32) (r : Fin 16896) (l : Fin 2048) :
    modulated (stream X Y W P) g M (ix2 r l) = normedRow X Y W P g M r l := by
  rw [modulated_read]
  unfold normedRow
  simp only [stream_read]

theorem rows_result (m : (ℓ : Loc nD τ sig) → Buf (Elt Ideal) ℓ) (c : Dev nD) : Cert.Reference5Ideal.Value.res_main_v53 m c
    = modulated (stream (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := by
  unfold Cert.Reference5Ideal.Value.res_main_v53
  rfl

/-- Both results of the run, in terms of the arguments. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = (fun y => resid (m ((c.tc : Thread nD τ).loc main_arg0)) (m ((c.tc : Thread nD τ).loc main_arg1)) (m ((c.tc : Thread nD τ).loc main_arg2)) (m ((c.tc : Thread nD τ).loc main_arg3)) (y 0) (y 1) : Vec Ideal S16896x2048 .f32)
      ∧ r.2.mem ((c.tc : Thread nD τ).loc main_v53) = (fun y => normedRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) (y 1) : Vec Ideal S16896x2048 .bf16) := by
  refine (θ_run defs _ _).mono (fun r h c => ⟨(h c).1.trans ?_, ((h c).2.1.trans (rows_result m c)).trans ?_⟩) (Cert.Reference5Ideal.Value.run (F := Ideal) m ρ)
  · funext y
    have hy : y = ix2 (y 0) (y 1) := by funext a; match a with | ⟨0, _⟩ => rfl | ⟨1, _⟩ => rfl
    exact (congrArg (stream (m ((c.tc : Thread nD τ).loc main_arg0)) (m ((c.tc : Thread nD τ).loc main_arg1)) (m ((c.tc : Thread nD τ).loc main_arg2)) (m ((c.tc : Thread nD τ).loc main_arg3))) hy).trans (stream_read _ _ _ _ (y 0) (y 1))
  · funext y
    have hy : y = ix2 (y 0) (y 1) := by funext a; match a with | ⟨0, _⟩ => rfl | ⟨1, _⟩ => rfl
    exact (congrArg _ hy).trans (rows_read _ _ _ _ _ _ (y 0) (y 1))

end Cert.Reference5Ideal.First

end
-- ==== Proof.OutRun.lean ====
module

public import proofs.«01_k».proof.Proof.Gen.Kernel3Ideal.Frame
public import proofs.«01_k».proof.Proof.Gen.Kernel3Ideal.Skeleton
public import Idealize.ShloMosaic.Lib.Claim

/-!
# The output projection's run (idealized)

The body loads its input blocks, stores the new rows, stores the normed rows' eight column chunks each at its row of every group of eight, and stores
the router's logits. The three outputs' buffers are what those stores leave; the frame is read from the pipeline's run over these contents.
-/

@[expose] public section

set_option maxRecDepth 16384

noncomputable section

namespace Cert.Kernel3Ideal.Body

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev rY : Rect S512x512 := Rect.unit (s := S512x512) ![0, 0] S512x512.size inb_S512x512_S512x512_0_0
abbrev rW0 : Rect S4x512x2048 := Rect.unit (s := S4x512x2048) ![0, 0, 0] S1x512x2048.size inb_S4x512x2048_S1x512x2048_0_0_0
abbrev rW1 : Rect S4x512x2048 := Rect.unit (s := S4x512x2048) ![1, 0, 0] S1x512x2048.size inb_S4x512x2048_S1x512x2048_1_0_0
abbrev rW2 : Rect S4x512x2048 := Rect.unit (s := S4x512x2048) ![2, 0, 0] S1x512x2048.size inb_S4x512x2048_S1x512x2048_2_0_0
abbrev rW3 : Rect S4x512x2048 := Rect.unit (s := S4x512x2048) ![3, 0, 0] S1x512x2048.size inb_S4x512x2048_S1x512x2048_3_0_0
abbrev rX : Rect S512x2048 := Rect.unit (s := S512x2048) ![0, 0] S512x2048.size inb_S512x2048_S512x2048_0_0
abbrev rM2 : Rect S1x6x2048 := Rect.unit (s := S1x6x2048) ![0, 2, 0] S1x1x2048.size inb_S1x6x2048_S1x1x2048_0_2_0
abbrev rM3 : Rect S1x6x2048 := Rect.unit (s := S1x6x2048) ![0, 3, 0] S1x1x2048.size inb_S1x6x2048_S1x1x2048_0_3_0
abbrev rM4 : Rect S1x6x2048 := Rect.unit (s := S1x6x2048) ![0, 4, 0] S1x1x2048.size inb_S1x6x2048_S1x1x2048_0_4_0
abbrev rG : Rect S1x2048 := Rect.unit (s := S1x2048) ![0, 0] S1x2048.size inb_S1x2048_S1x2048_0_0
abbrev rR : Rect S2048x256 := Rect.unit (s := S2048x256) ![0, 0] S2048x256.size inb_S2048x256_S2048x256_0_0
abbrev rR1 : Rect S2048x256 := Rect.unit (s := S2048x256) ![0, 0] S2048x128.size inb_S2048x256_S2048x128_0_0
abbrev rL : Rect S512x128 := Rect.unit (s := S512x128) ![0, 0] S512x128.size inb_S512x128_S512x128_0_0
abbrev rP0 : Rect S4096x2x128 := ⟨(⟨![0, 0, 0], S512x2x128.size, ![8, 1, 1], inb_S4096x2x128_S512x2x128_0_0_0_s_8_1_1⟩ : LoadRect S4096x2x128), spos_8_1_1⟩
abbrev rP1 : Rect S4096x2x128 := ⟨(⟨![1, 0, 0], S512x2x128.size, ![8, 1, 1], inb_S4096x2x128_S512x2x128_1_0_0_s_8_1_1⟩ : LoadRect S4096x2x128), spos_8_1_1⟩
abbrev rP2 : Rect S4096x2x128 := ⟨(⟨![2, 0, 0], S512x2x128.size, ![8, 1, 1], inb_S4096x2x128_S512x2x128_2_0_0_s_8_1_1⟩ : LoadRect S4096x2x128), spos_8_1_1⟩
abbrev rP3 : Rect S4096x2x128 := ⟨(⟨![3, 0, 0], S512x2x128.size, ![8, 1, 1], inb_S4096x2x128_S512x2x128_3_0_0_s_8_1_1⟩ : LoadRect S4096x2x128), spos_8_1_1⟩
abbrev rP4 : Rect S4096x2x128 := ⟨(⟨![4, 0, 0], S512x2x128.size, ![8, 1, 1], inb_S4096x2x128_S512x2x128_4_0_0_s_8_1_1⟩ : LoadRect S4096x2x128), spos_8_1_1⟩
abbrev rP5 : Rect S4096x2x128 := ⟨(⟨![5, 0, 0], S512x2x128.size, ![8, 1, 1], inb_S4096x2x128_S512x2x128_5_0_0_s_8_1_1⟩ : LoadRect S4096x2x128), spos_8_1_1⟩
abbrev rP6 : Rect S4096x2x128 := ⟨(⟨![6, 0, 0], S512x2x128.size, ![8, 1, 1], inb_S4096x2x128_S512x2x128_6_0_0_s_8_1_1⟩ : LoadRect S4096x2x128), spos_8_1_1⟩
abbrev rP7 : Rect S4096x2x128 := ⟨(⟨![7, 0, 0], S512x2x128.size, ![8, 1, 1], inb_S4096x2x128_S512x2x128_7_0_0_s_8_1_1⟩ : LoadRect S4096x2x128), spos_8_1_1⟩

/-- The new rows: the rows before and the scaled product. -/
def rows (x0 : Vec F S512x512 .bf16) (x1 : Vec F S512x512 .bf16) (x2 : Vec F S512x512 .bf16) (x3 : Vec F S512x512 .bf16) (x4 : Vec F S4x512x2048 .bf16) (x5 : Vec F S512x2048 .f32) (x6 : Vec F S1x6x2048 .f32) (x7 : Vec F S1x2048 .f32) (x8 : Vec F S2048x256 .bf16) : FVec F S512x2048 .f32 :=
  k0_pay1 (View.ld x0 rY) (View.ld x4 rW0) (View.ld x1 rY) (View.ld x4 rW1) (View.ld x2 rY) (View.ld x4 rW2) (View.ld x3 rY) (View.ld x4 rW3) (View.ld x5 rX) (View.ld x6 rM2)

/-- What the body leaves in the rows' buffer. -/
def out9 (x0 : Vec F S512x512 .bf16) (x1 : Vec F S512x512 .bf16) (x2 : Vec F S512x512 .bf16) (x3 : Vec F S512x512 .bf16) (x4 : Vec F S4x512x2048 .bf16) (x5 : Vec F S512x2048 .f32) (x6 : Vec F S1x6x2048 .f32) (x7 : Vec F S1x2048 .f32) (x8 : Vec F S2048x256 .bf16) : Vec F S512x2048 .f32 :=
  View.canon [⟨rX, rows x0 x1 x2 x3 x4 x5 x6 x7 x8⟩]

/-- What the body leaves in the packed rows' buffer. -/
def out10 (x0 : Vec F S512x512 .bf16) (x1 : Vec F S512x512 .bf16) (x2 : Vec F S512x512 .bf16) (x3 : Vec F S512x512 .bf16) (x4 : Vec F S4x512x2048 .bf16) (x5 : Vec F S512x2048 .f32) (x6 : Vec F S1x6x2048 .f32) (x7 : Vec F S1x2048 .f32) (x8 : Vec F S2048x256 .bf16) : Vec F S4096x2x128 .bf16 :=
  View.canon [⟨rP7, k0_pay16 (k0_pay5 (rows x0 x1 x2 x3 x4 x5 x6 x7 x8) (View.ld x7 rG) (View.ld x6 rM3) (View.ld x6 rM4)) (k0_pay6 (rows x0 x1 x2 x3 x4 x5 x6 x7 x8) (View.ld x7 rG) (View.ld x6 rM3) (View.ld x6 rM4))⟩, ⟨rP6, k0_pay15 (k0_pay5 (rows x0 x1 x2 x3 x4 x5 x6 x7 x8) (View.ld x7 rG) (View.ld x6 rM3) (View.ld x6 rM4)) (k0_pay6 (rows x0 x1 x2 x3 x4 x5 x6 x7 x8) (View.ld x7 rG) (View.ld x6 rM3) (View.ld x6 rM4))⟩, ⟨rP5, k0_pay14 (k0_pay5 (rows x0 x1 x2 x3 x4 x5 x6 x7 x8) (View.ld x7 rG) (View.ld x6 rM3) (View.ld x6 rM4)) (k0_pay6 (rows x0 x1 x2 x3 x4 x5 x6 x7 x8) (View.ld x7 rG) (View.ld x6 rM3) (View.ld x6 rM4))⟩, ⟨rP4, k0_pay13 (k0_pay5 (rows x0 x1 x2 x3 x4 x5 x6 x7 x8) (View.ld x7 rG) (View.ld x6 rM3) (View.ld x6 rM4)) (k0_pay6 (rows x0 x1 x2 x3 x4 x5 x6 x7 x8) (View.ld x7 rG) (View.ld x6 rM3) (View.ld x6 rM4))⟩, ⟨rP3, k0_pay12 (k0_pay5 (rows x0 x1 x2 x3 x4 x5 x6 x7 x8) (View.ld x7 rG) (View.ld x6 rM3) (View.ld x6 rM4)) (k0_pay6 (rows x0 x1 x2 x3 x4 x5 x6 x7 x8) (View.ld x7 rG) (View.ld x6 rM3) (View.ld x6 rM4))⟩, ⟨rP2, k0_pay11 (k0_pay9 (rows x0 x1 x2 x3 x4 x5 x6 x7 x8) (View.ld x7 rG) (View.ld x6 rM3) (View.ld x6 rM4)) (k0_pay10 (rows x0 x1 x2 x3 x4 x5 x6 x7 x8) (View.ld x7 rG) (View.ld x6 rM3) (View.ld x6 rM4))⟩, ⟨rP1, k0_pay8 (rows x0 x1 x2 x3 x4 x5 x6 x7 x8) (View.ld x7 rG) (View.ld x6 rM3) (View.ld x6 rM4)⟩, ⟨rP0, k0_pay7 (rows x0 x1 x2 x3 x4 x5 x6 x7 x8) (View.ld x7 rG) (View.ld x6 rM3) (View.ld x6 rM4)⟩]

/-- What the body leaves in the logits' buffer. -/
def out11 (x0 : Vec F S512x512 .bf16) (x1 : Vec F S512x512 .bf16) (x2 : Vec F S512x512 .bf16) (x3 : Vec F S512x512 .bf16) (x4 : Vec F S4x512x2048 .bf16) (x5 : Vec F S512x2048 .f32) (x6 : Vec F S1x6x2048 .f32) (x7 : Vec F S1x2048 .f32) (x8 : Vec F S2048x256 .bf16) : Vec F S512x128 .f32 :=
  View.canon [⟨rL, k0_pay17 (k0_pay2 (rows x0 x1 x2 x3 x4 x5 x6 x7 x8) (View.ld x7 rG) (View.ld x6 rM3) (View.ld x6 rM4)) (k0_pay3 (rows x0 x1 x2 x3 x4 x5 x6 x7 x8) (View.ld x7 rG) (View.ld x6 rM3) (View.ld x6 rM4)) (View.ld x8 rR) (View.ld x8 rR1)⟩]

theorem cover9 (p0 : Vec F S512x2048 .f32) (y : S512x2048.Idx) :
    ∃ pc ∈ ([⟨rX, p0⟩] : List (View.Piece (Elt F) S512x2048 .f32)), y ∈ pc.1.set :=
  View.cover_of_tiled [⟨rX, p0⟩] S512x2048.size (by rfl) y

theorem cover11 (p0 : Vec F S512x128 .f32) (y : S512x128.Idx) :
    ∃ pc ∈ ([⟨rL, p0⟩] : List (View.Piece (Elt F) S512x128 .f32)), y ∈ pc.1.set :=
  View.cover_of_tiled [⟨rL, p0⟩] S512x128.size (by rfl) y

/-- The eight stores of every eighth row hold every row. -/
theorem cover10 (p0 p1 p2 p3 p4 p5 p6 p7 : Vec F S512x2x128 .bf16) (y : S4096x2x128.Idx) :
    ∃ pc ∈ ([⟨rP7, p7⟩, ⟨rP6, p6⟩, ⟨rP5, p5⟩, ⟨rP4, p4⟩, ⟨rP3, p3⟩, ⟨rP2, p2⟩, ⟨rP1, p1⟩, ⟨rP0, p0⟩] : List (View.Piece (Elt F) S4096x2x128 .bf16)), y ∈ pc.1.set := by
  have h0 : (y 0 : ℕ) < 4096 := (y 0).isLt
  have hd : (y 0 : ℕ) / 8 < 512 := by omega
  have h8 : (y 0 : ℕ) % 8 < 8 := Nat.mod_lt _ (by omega)
  have h : (y 0 : ℕ) % 8 = 0 ∨ (y 0 : ℕ) % 8 = 1 ∨ (y 0 : ℕ) % 8 = 2 ∨ (y 0 : ℕ) % 8 = 3 ∨ (y 0 : ℕ) % 8 = 4 ∨ (y 0 : ℕ) % 8 = 5 ∨ (y 0 : ℕ) % 8 = 6 ∨ (y 0 : ℕ) % 8 = 7 := by omega
  rcases h with h | h | h | h | h | h | h | h
  · refine ⟨⟨rP0, p0⟩, by simp, (LoadRect.mem_set _).mpr fun a => ?_⟩
    match a with
    | ⟨0, _⟩ => exact ⟨(y 0 : ℕ) / 8, hd, by show (y 0 : ℕ) = 0 + 8 * ((y 0 : ℕ) / 8); omega⟩
    | ⟨1, _⟩ => exact ⟨(y 1 : ℕ), (y 1).isLt, by show (y 1 : ℕ) = 0 + 1 * (y 1 : ℕ); omega⟩
    | ⟨2, _⟩ => exact ⟨(y 2 : ℕ), (y 2).isLt, by show (y 2 : ℕ) = 0 + 1 * (y 2 : ℕ); omega⟩
  · refine ⟨⟨rP1, p1⟩, by simp, (LoadRect.mem_set _).mpr fun a => ?_⟩
    match a with
    | ⟨0, _⟩ => exact ⟨(y 0 : ℕ) / 8, hd, by show (y 0 : ℕ) = 1 + 8 * ((y 0 : ℕ) / 8); omega⟩
    | ⟨1, _⟩ => exact ⟨(y 1 : ℕ), (y 1).isLt, by show (y 1 : ℕ) = 0 + 1 * (y 1 : ℕ); omega⟩
    | ⟨2, _⟩ => exact ⟨(y 2 : ℕ), (y 2).isLt, by show (y 2 : ℕ) = 0 + 1 * (y 2 : ℕ); omega⟩
  · refine ⟨⟨rP2, p2⟩, by simp, (LoadRect.mem_set _).mpr fun a => ?_⟩
    match a with
    | ⟨0, _⟩ => exact ⟨(y 0 : ℕ) / 8, hd, by show (y 0 : ℕ) = 2 + 8 * ((y 0 : ℕ) / 8); omega⟩
    | ⟨1, _⟩ => exact ⟨(y 1 : ℕ), (y 1).isLt, by show (y 1 : ℕ) = 0 + 1 * (y 1 : ℕ); omega⟩
    | ⟨2, _⟩ => exact ⟨(y 2 : ℕ), (y 2).isLt, by show (y 2 : ℕ) = 0 + 1 * (y 2 : ℕ); omega⟩
  · refine ⟨⟨rP3, p3⟩, by simp, (LoadRect.mem_set _).mpr fun a => ?_⟩
    match a with
    | ⟨0, _⟩ => exact ⟨(y 0 : ℕ) / 8, hd, by show (y 0 : ℕ) = 3 + 8 * ((y 0 : ℕ) / 8); omega⟩
    | ⟨1, _⟩ => exact ⟨(y 1 : ℕ), (y 1).isLt, by show (y 1 : ℕ) = 0 + 1 * (y 1 : ℕ); omega⟩
    | ⟨2, _⟩ => exact ⟨(y 2 : ℕ), (y 2).isLt, by show (y 2 : ℕ) = 0 + 1 * (y 2 : ℕ); omega⟩
  · refine ⟨⟨rP4, p4⟩, by simp, (LoadRect.mem_set _).mpr fun a => ?_⟩
    match a with
    | ⟨0, _⟩ => exact ⟨(y 0 : ℕ) / 8, hd, by show (y 0 : ℕ) = 4 + 8 * ((y 0 : ℕ) / 8); omega⟩
    | ⟨1, _⟩ => exact ⟨(y 1 : ℕ), (y 1).isLt, by show (y 1 : ℕ) = 0 + 1 * (y 1 : ℕ); omega⟩
    | ⟨2, _⟩ => exact ⟨(y 2 : ℕ), (y 2).isLt, by show (y 2 : ℕ) = 0 + 1 * (y 2 : ℕ); omega⟩
  · refine ⟨⟨rP5, p5⟩, by simp, (LoadRect.mem_set _).mpr fun a => ?_⟩
    match a with
    | ⟨0, _⟩ => exact ⟨(y 0 : ℕ) / 8, hd, by show (y 0 : ℕ) = 5 + 8 * ((y 0 : ℕ) / 8); omega⟩
    | ⟨1, _⟩ => exact ⟨(y 1 : ℕ), (y 1).isLt, by show (y 1 : ℕ) = 0 + 1 * (y 1 : ℕ); omega⟩
    | ⟨2, _⟩ => exact ⟨(y 2 : ℕ), (y 2).isLt, by show (y 2 : ℕ) = 0 + 1 * (y 2 : ℕ); omega⟩
  · refine ⟨⟨rP6, p6⟩, by simp, (LoadRect.mem_set _).mpr fun a => ?_⟩
    match a with
    | ⟨0, _⟩ => exact ⟨(y 0 : ℕ) / 8, hd, by show (y 0 : ℕ) = 6 + 8 * ((y 0 : ℕ) / 8); omega⟩
    | ⟨1, _⟩ => exact ⟨(y 1 : ℕ), (y 1).isLt, by show (y 1 : ℕ) = 0 + 1 * (y 1 : ℕ); omega⟩
    | ⟨2, _⟩ => exact ⟨(y 2 : ℕ), (y 2).isLt, by show (y 2 : ℕ) = 0 + 1 * (y 2 : ℕ); omega⟩
  · refine ⟨⟨rP7, p7⟩, by simp, (LoadRect.mem_set _).mpr fun a => ?_⟩
    match a with
    | ⟨0, _⟩ => exact ⟨(y 0 : ℕ) / 8, hd, by show (y 0 : ℕ) = 7 + 8 * ((y 0 : ℕ) / 8); omega⟩
    | ⟨1, _⟩ => exact ⟨(y 1 : ℕ), (y 1).isLt, by show (y 1 : ℕ) = 0 + 1 * (y 1 : ℕ); omega⟩
    | ⟨2, _⟩ => exact ⟨(y 2 : ℕ), (y 2).isLt, by show (y 2 : ℕ) = 0 + 1 * (y 2 : ℕ); omega⟩

set_option maxHeartbeats 4000000 in
/-- The body's run over whole buffers: the inputs as they were, each output at what the stores leave. -/
theorem sound_kernel (c : Dev nD) (E : Set ℕ) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S4x512x2048 .bf16) (harg5 : arg5.IsWhole) (arg6 : Memref sig .tc .vmem S512x2048 .f32) (harg6 : arg6.IsWhole) (arg7 : Memref sig .tc .vmem S1x6x2048 .f32) (harg7 : arg7.IsWhole) (arg8 : Memref sig .tc .vmem S1x2048 .f32) (harg8 : arg8.IsWhole) (arg9 : Memref sig .tc .vmem S2048x256 .bf16) (harg9 : arg9.IsWhole) (arg10 : Memref sig .tc .vmem S512x2048 .f32) (harg10 : arg10.IsWhole) (arg11 : Memref sig .tc .vmem S4096x2x128 .bf16) (harg11 : arg11.IsWhole) (arg12 : Memref sig .tc .vmem S512x128 .f32) (harg12 : arg12.IsWhole)
    (x0 : Vec F S512x512 .bf16) (x1 : Vec F S512x512 .bf16) (x2 : Vec F S512x512 .bf16) (x3 : Vec F S512x512 .bf16) (x4 : Vec F S4x512x2048 .bf16) (x5 : Vec F S512x2048 .f32) (x6 : Vec F S1x6x2048 .f32) (x7 : Vec F S1x2048 .f32) (x8 : Vec F S2048x256 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4 x5 x6 x7 x8) ∗ owns (c : Thread nD τ) arg11 fullShare (out10 x0 x1 x2 x3 x4 x5 x6 x7 x8) ∗ owns (c : Thread nD τ) arg12 fullShare (out11 x0 x1 x2 x3 x4 x5 x6 x7 x8)) -∗ K ⟨⟩))
      ⊢ wp frame (wpE (defs₀ (F := F)) Variants.none c none) E (cc0_out_proj_norm2_router i arg1 harg1 arg2 harg2 arg3 harg3 arg4 harg4 arg5 harg5 arg6 harg6 arg7 harg7 arg8 harg8 arg9 harg9 arg10 harg10 arg11 harg11 arg12 harg12) K := by
  simp only [cc0_out_proj_norm2_router_eq_skeleton]; unfold cc0_out_proj_norm2_router_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover9 _)
  isplitl [H10]
  · iexists _; isplitr
    swap; · iexact H10
    ipureintro
    exact View.read_writes_eq_canon _ _ _ (cover10 _ _ _ _ _ _ _ _)
  iexists _; isplitr
  swap; · iexact H11
  ipureintro
  exact View.read_writes_eq_canon _ _ _ (cover11 _)

/-- The pipeline's data: the arrays as the region finds them, and after each point's body the inputs' blocks and the outputs of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
    | ⟨10, _⟩ => out10 (iblk m c 0 t) (iblk m c 1 t) (iblk m c 2 t) (iblk m c 3 t) (iblk m c 4 t) (iblk m c 5 t) (iblk m c 6 t) (iblk m c 7 t) (iblk m c 8 t)
    | ⟨11, _⟩ => out11 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out11 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.Kernel3Ideal.Body

end
-- ==== Proof.OutKernel.lean ====
module

public import proofs.«01_k».proof.Proof.OutRun
public import proofs.«01_k».proof.Proof.OutSpec
public import Idealize.ShloMosaic.Lib.Claim
public import Idealize.ShloMosaic.Lib.Pointwise
public import Idealize.ShloMosaic.Lib.Pipeline.ValueKit
public import Idealize.ShloMosaic.Lib.StableHlo.RunRead

/-!
# The output projection's arrays in the kernel

The rows and the logits that the call writes, entry by entry, on real arguments.
-/

@[expose] public section

set_option maxRecDepth 16384

noncomputable section

namespace Cert.Kernel3Ideal.Value

open Cert.Kernel3Ideal Cert.Kernel3Ideal.Gen Cert.Kernel3Ideal.Body Idealize.ShloMosaic Idealize.ShloMosaic.TcCoe Idealize.SL.Sem
open Cert.Norm Cert.Out

variable (m : (ℓ : Loc nD τ sig) → Buf (Elt Ideal) ℓ)

theorem rows_pay (y0 : Vec Ideal S512x512 .bf16) (w0 : Vec Ideal S1x512x2048 .bf16) (y1 : Vec Ideal S512x512 .bf16) (w1 : Vec Ideal S1x512x2048 .bf16)
    (y2 : Vec Ideal S512x512 .bf16) (w2 : Vec Ideal S1x512x2048 .bf16) (y3 : Vec Ideal S512x512 .bf16) (w3 : Vec Ideal S1x512x2048 .bf16)
    (x : Vec Ideal S512x2048 .f32) (a : Vec Ideal S1x1x2048 .f32) (r : Fin 512) (l : Fin 2048) :
    k0_pay1 (F := Ideal) y0 w0 y1 w1 y2 w2 y3 w3 x a (ix2 r l)
      = x (ix2 r l) + a (ix3 0 0 l) * (∑ k, y0 (ix2 r k) * w0 (ix3 0 k l) + ∑ k, y1 (ix2 r k) * w1 (ix3 0 k l) + ∑ k, y2 (ix2 r k) * w2 (ix3 0 k l)
        + ∑ k, y3 (ix2 r k) * w3 (ix3 0 k l)) := by
  pointwise [k0_pay1]

theorem hidden_pay (v : FVec Ideal S512x2048 .f32) (g : Vec Ideal S1x2048 .f32) (a3 a4 : Vec Ideal S1x1x2048 .f32) (r : Fin 512) (l : Fin 2048) :
    k0_pay2 (F := Ideal) v g a3 a4 (ix2 r l)
      = normed (fun l => v (ix2 r l)) l * g (ix2 0 l) * (1 + a4 (ix3 0 0 l)) + a3 (ix3 0 0 l) := by
  pointwise [k0_pay2]
  rfl

theorem logits_pay (h : FVec Ideal S512x2048 .f32) (h1 : FVec Ideal S512x2048 .bf16) (w : Vec Ideal S2048x256 .bf16) (w1 : Vec Ideal S2048x128 .bf16) (r : Fin 512) (j : Fin 128) :
    k0_pay17 (F := Ideal) h h1 w w1 (ix2 r j)
      = ∑ k, h1 (ix2 r k) * w (ix2 k ⟨j, by omega⟩) + ∑ k, h1 (ix2 r k) * w (ix2 k ⟨128 + j, by omega⟩)
        + ∑ k, (h (ix2 r k) - h1 (ix2 r k)) * w1 (ix2 k j) := by
  pointwise [k0_pay17]

theorem scale_read (c : Dev nD) (l : Fin 2048) : V m c main_v9 (ix2 0 l) = m ((c : Thread nD τ).loc main_arg7) (ix1 l) := by
  show StableHlo.after hostOps0 (fun b => m (c, b)) (Proc.devRef .tc main_v9) (ix2 0 l) = _
  entry_read
  pointwise

theorem weight_read (c : Dev nD) (a : Fin 4) (k : Fin 512) (l : Fin 2048) :
    V m c main_v8 (ix3 a k l) = m ((c : Thread nD τ).loc main_arg4) (ix2 ⟨512 * a + k, by omega⟩ l) := by
  show StableHlo.after hostOps0 (fun b => m (c, b)) (Proc.devRef .tc main_v8) (ix3 a k l) = _
  entry_read
  pointwise
  exact congrArg (m ((c : Thread nD τ).loc main_arg4)) (congrArg (fun i => ix2 i l) (Fin.ext (by show (a : ℕ) * 512 + k = 512 * a + k; omega)))

theorem windows : ∀ t : Fin cfg0.N, win0_0.index t = ![t.val, 0] ∧ win0_1.index t = ![t.val, 0] ∧ win0_2.index t = ![t.val, 0] ∧
    win0_3.index t = ![t.val, 0] ∧ win0_4.index t = ![0, 0, 0] ∧ win0_5.index t = ![t.val, 0] ∧
    win0_6.index t = ![if t.val < 32 then t.val / 16 else 2, 0, 0] ∧ win0_7.index t = ![0, 0] ∧ win0_8.index t = ![0, 0] ∧
    win0_9.index t = ![t.val, 0] ∧ win0_11.index t = ![t.val, 0] := by
  decide +kernel

/-- The routers' weights as the host joins them. -/
def joined (Wg : Vec Ideal S2048x4 .f32) (We : Vec Ideal S2048x32 .f32) : Vec Ideal S2048x128 .f32 :=
  concatenate S2048x128 1 [⟨S2048x4, Wg⟩, ⟨S2048x32, We⟩, ⟨S2048x92, (broadcastInDim S2048x92 ![] bcast_S_S2048x92 (constant S_ .f32 0x00000000#32 : FVec Ideal S_ .f32) : Vec Ideal S2048x92 .f32)⟩]
    concatenates_S2048x4_S2048x32_S2048x92_S2048x128_d1

theorem joined_read (Wg : Vec Ideal S2048x4 .f32) (We : Vec Ideal S2048x32 .f32) (k : Fin 2048) (j : Fin 128) :
    joined Wg We (ix2 k j) = router Wg We k j := by
  pointwise [joined]
  rfl

/-- The weights and what their rounding leaves, side by side. -/
def split (w : FVec Ideal S2048x128 .f32) : Vec Ideal S2048x256 .bf16 :=
  concatenate S2048x256 1 [⟨S2048x128, (truncf .bf16 w bitsLt_bf16_f32 : Vec Ideal S2048x128 .bf16)⟩,
    ⟨S2048x128, (truncf .bf16 (subf w (extf .f32 (truncf .bf16 w bitsLt_bf16_f32 : FVec Ideal S2048x128 .bf16) bitsLt_bf16_f32)) bitsLt_bf16_f32 : Vec Ideal S2048x128 .bf16)⟩]
    concatenates_S2048x128_S2048x128_S2048x256_d1

theorem split_read (w : FVec Ideal S2048x128 .f32) (k : Fin 2048) (j : Fin 256) :
    split w (ix2 k j) = if h : (j : ℕ) < 128 then w (ix2 k ⟨j, h⟩) else w (ix2 k ⟨j - 128, by omega⟩) - w (ix2 k ⟨j - 128, by omega⟩) := by
  pointwise [split]

theorem router_at (c : Dev nD) : V m c main_v6
    = split (joined (m ((c : Thread nD τ).loc main_arg8)) (m ((c : Thread nD τ).loc main_arg9))) := by
  show StableHlo.after hostOps0 (fun b => m (c, b)) (Proc.devRef .tc main_v6) = _
  unfold split joined
  simp only [hostOps0]
  after_results <;> rfl

theorem block0 (c : Dev nD) (t : Fin cfg0.N) (r : Fin 512) (l : Fin 512) (R : Fin 16896) (h : R.val = 512 * t.val + r) :
    iblk m c 0 t (ix2 r l) = m ((c : Thread nD τ).loc main_arg0) (ix2 R l) := by
  refine Eq.trans ?_ (congrFun (V_main_arg0 m c) _)
  blk_ext [iblk, V, windows t]

theorem block1 (c : Dev nD) (t : Fin cfg0.N) (r : Fin 512) (l : Fin 512) (R : Fin 16896) (h : R.val = 512 * t.val + r) :
    iblk m c 1 t (ix2 r l) = m ((c : Thread nD τ).loc main_arg1) (ix2 R l) := by
  refine Eq.trans ?_ (congrFun (V_main_arg1 m c) _)
  blk_ext [iblk, V, windows t]

theorem block2 (c : Dev nD) (t : Fin cfg0.N) (r : Fin 512) (l : Fin 512) (R : Fin 16896) (h : R.val = 512 * t.val + r) :
    iblk m c 2 t (ix2 r l) = m ((c : Thread nD τ).loc main_arg2) (ix2 R l) := by
  refine Eq.trans ?_ (congrFun (V_main_arg2 m c) _)
  blk_ext [iblk, V, windows t]

theorem block3 (c : Dev nD) (t : Fin cfg0.N) (r : Fin 512) (l : Fin 512) (R : Fin 16896) (h : R.val = 512 * t.val + r) :
    iblk m c 3 t (ix2 r l) = m ((c : Thread nD τ).loc main_arg3) (ix2 R l) := by
  refine Eq.trans ?_ (congrFun (V_main_arg3 m c) _)
  blk_ext [iblk, V, windows t]

theorem block4 (c : Dev nD) (t : Fin cfg0.N) (a : Fin 4) (k : Fin 512) (l : Fin 2048) :
    iblk m c 4 t (ix3 a k l) = m ((c : Thread nD τ).loc main_arg4) (ix2 ⟨512 * a + k, by omega⟩ l) := by
  refine Eq.trans ?_ (weight_read m c a k l)
  blk_ext [iblk, V, windows t]

theorem block5 (c : Dev nD) (t : Fin cfg0.N) (r : Fin 512) (l : Fin 2048) (R : Fin 16896) (h : R.val = 512 * t.val + r) :
    iblk m c 5 t (ix2 r l) = m ((c : Thread nD τ).loc main_arg5) (ix2 R l) := by
  refine Eq.trans ?_ (congrFun (V_main_arg5 m c) _)
  blk_ext [iblk, V, windows t]

theorem block6 (c : Dev nD) (t : Fin cfg0.N) (k : Fin 6) (l : Fin 2048) (b : Fin 8) (h : b.val = if t.val < 32 then t.val / 16 else 2) :
    iblk m c 6 t (ix3 0 k l) = m ((c : Thread nD τ).loc main_arg6) (ix3 b k l) := by
  refine Eq.trans ?_ (congrFun (V_main_arg6 m c) _)
  blk_ext [iblk, V, windows t]

theorem block7 (c : Dev nD) (t : Fin cfg0.N) (l : Fin 2048) : iblk m c 7 t (ix2 0 l) = m ((c : Thread nD τ).loc main_arg7) (ix1 l) := by
  refine Eq.trans ?_ (scale_read m c l)
  blk_ext [iblk, V, windows t]

theorem block8 (c : Dev nD) (t : Fin cfg0.N) (k : Fin 2048) (j : Fin 256) : iblk m c 8 t (ix2 k j) = V m c main_v6 (ix2 k j) := by
  blk_ext [iblk, V, windows t]

section Blocks

variable (x0 x1 x2 x3 : Vec Ideal S512x512 .bf16) (x4 : Vec Ideal S4x512x2048 .bf16) (x5 : Vec Ideal S512x2048 .f32) (x6 : Vec Ideal S1x6x2048 .f32)
  (x7 : Vec Ideal S1x2048 .f32) (x8 : Vec Ideal S2048x256 .bf16)

theorem ld_w0 (k : Fin 512) (l : Fin 2048) : (View.ld x4 rW0 : Vec Ideal S1x512x2048 .bf16) (ix3 0 k l) = x4 (ix3 0 k l) := congrArg x4 (by
  funext a; match a with | ⟨0, _⟩ => rfl | ⟨1, _⟩ => exact Fin.ext (by show 0 + 1 * (k : ℕ) = k; omega) | ⟨2, _⟩ => exact Fin.ext (by show 0 + 1 * (l : ℕ) = l; omega))
theorem ld_w1 (k : Fin 512) (l : Fin 2048) : (View.ld x4 rW1 : Vec Ideal S1x512x2048 .bf16) (ix3 0 k l) = x4 (ix3 1 k l) := congrArg x4 (by
  funext a; match a with | ⟨0, _⟩ => rfl | ⟨1, _⟩ => exact Fin.ext (by show 0 + 1 * (k : ℕ) = k; omega) | ⟨2, _⟩ => exact Fin.ext (by show 0 + 1 * (l : ℕ) = l; omega))
theorem ld_w2 (k : Fin 512) (l : Fin 2048) : (View.ld x4 rW2 : Vec Ideal S1x512x2048 .bf16) (ix3 0 k l) = x4 (ix3 2 k l) := congrArg x4 (by
  funext a; match a with | ⟨0, _⟩ => rfl | ⟨1, _⟩ => exact Fin.ext (by show 0 + 1 * (k : ℕ) = k; omega) | ⟨2, _⟩ => exact Fin.ext (by show 0 + 1 * (l : ℕ) = l; omega))
theorem ld_w3 (k : Fin 512) (l : Fin 2048) : (View.ld x4 rW3 : Vec Ideal S1x512x2048 .bf16) (ix3 0 k l) = x4 (ix3 3 k l) := congrArg x4 (by
  funext a; match a with | ⟨0, _⟩ => rfl | ⟨1, _⟩ => exact Fin.ext (by show 0 + 1 * (k : ℕ) = k; omega) | ⟨2, _⟩ => exact Fin.ext (by show 0 + 1 * (l : ℕ) = l; omega))
theorem ld_m2 (l : Fin 2048) : (View.ld x6 rM2 : Vec Ideal S1x1x2048 .f32) (ix3 0 0 l) = x6 (ix3 0 2 l) := congrArg x6 (by
  funext a; match a with | ⟨0, _⟩ => rfl | ⟨1, _⟩ => rfl | ⟨2, _⟩ => exact Fin.ext (by show 0 + 1 * (l : ℕ) = l; omega))
theorem ld_m3 (l : Fin 2048) : (View.ld x6 rM3 : Vec Ideal S1x1x2048 .f32) (ix3 0 0 l) = x6 (ix3 0 3 l) := congrArg x6 (by
  funext a; match a with | ⟨0, _⟩ => rfl | ⟨1, _⟩ => rfl | ⟨2, _⟩ => exact Fin.ext (by show 0 + 1 * (l : ℕ) = l; omega))
theorem ld_m4 (l : Fin 2048) : (View.ld x6 rM4 : Vec Ideal S1x1x2048 .f32) (ix3 0 0 l) = x6 (ix3 0 4 l) := congrArg x6 (by
  funext a; match a with | ⟨0, _⟩ => rfl | ⟨1, _⟩ => rfl | ⟨2, _⟩ => exact Fin.ext (by show 0 + 1 * (l : ℕ) = l; omega))
theorem ld_r1 (k : Fin 2048) (j : Fin 128) : (View.ld x8 rR1 : Vec Ideal S2048x128 .bf16) (ix2 k j) = x8 (ix2 k ⟨j, by omega⟩) := congrArg x8 (by
  funext a; match a with | ⟨0, _⟩ => exact Fin.ext (by show 0 + 1 * (k : ℕ) = k; omega) | ⟨1, _⟩ => exact Fin.ext (by show 0 + 1 * (j : ℕ) = j; omega))

theorem z2 : (![0, 0] : Fin 2 → ℕ) = fun _ => 0 := by decide

theorem rows_read (r : Fin 512) (l : Fin 2048) :
    rows (F := Ideal) x0 x1 x2 x3 x4 x5 x6 x7 x8 (ix2 r l)
      = x5 (ix2 r l) + x6 (ix3 0 2 l) * (∑ k, x0 (ix2 r k) * x4 (ix3 0 k l) + ∑ k, x1 (ix2 r k) * x4 (ix3 1 k l) + ∑ k, x2 (ix2 r k) * x4 (ix3 2 k l)
        + ∑ k, x3 (ix2 r k) * x4 (ix3 3 k l)) := by
  refine (rows_pay _ _ _ _ _ _ _ _ _ _ r l).trans ?_
  rw [View.ld_unit_zero z2, View.ld_unit_zero z2, View.ld_unit_zero z2, View.ld_unit_zero z2, View.ld_unit_zero z2]
  rw [ld_m2]
  exact congrArg (fun s : EReal => x5 (ix2 r l) + x6 (ix3 0 2 l) * s)
    (congrArg₂ (· + ·) (congrArg₂ (· + ·) (congrArg₂ (· + ·)
      (Finset.sum_congr rfl fun k _ => congrArg (fun s : EReal => (x0 (ix2 r k) : EReal) * s) (ld_w0 x4 k l))
      (Finset.sum_congr rfl fun k _ => congrArg (fun s : EReal => (x1 (ix2 r k) : EReal) * s) (ld_w1 x4 k l)))
      (Finset.sum_congr rfl fun k _ => congrArg (fun s : EReal => (x2 (ix2 r k) : EReal) * s) (ld_w2 x4 k l)))
      (Finset.sum_congr rfl fun k _ => congrArg (fun s : EReal => (x3 (ix2 r k) : EReal) * s) (ld_w3 x4 k l)))

theorem out9_read : out9 (F := Ideal) x0 x1 x2 x3 x4 x5 x6 x7 x8 = rows (F := Ideal) x0 x1 x2 x3 x4 x5 x6 x7 x8 :=
  View.canon_unit_zero z2 _ _

theorem out11_read (r : Fin 512) (j : Fin 128) (H : Fin 2048 → EReal) (w : Fin 2048 → EReal)
    (hH : ∀ l, normed (fun l => rows (F := Ideal) x0 x1 x2 x3 x4 x5 x6 x7 x8 (ix2 r l)) l * x7 (ix2 0 l) * (1 + x6 (ix3 0 4 l)) + x6 (ix3 0 3 l) = H l)
    (hw : ∀ k, x8 (ix2 k ⟨j, by omega⟩) = w k) (hw' : ∀ k, x8 (ix2 k ⟨128 + j, by omega⟩) = 0) (hr : ∀ l, IsReal (H l)) :
    out11 (F := Ideal) x0 x1 x2 x3 x4 x5 x6 x7 x8 (ix2 r j) = ∑ k, H k * w k := by
  unfold out11
  refine (congrFun (View.canon_unit_zero z2 _ _) _).trans ((logits_pay _ _ _ _ r j).trans ?_)
  have hp : ∀ k, k0_pay2 (F := Ideal) (rows (F := Ideal) x0 x1 x2 x3 x4 x5 x6 x7 x8) (View.ld x7 rG) (View.ld x6 rM3) (View.ld x6 rM4) (ix2 r k) = H k := by
    intro k
    refine (hidden_pay _ _ _ _ r k).trans (Eq.trans ?_ (hH k))
    rw [View.ld_unit_zero z2, ld_m3, ld_m4]
  have hp' : ∀ k, k0_pay3 (F := Ideal) (rows (F := Ideal) x0 x1 x2 x3 x4 x5 x6 x7 x8) (View.ld x7 rG) (View.ld x6 rM3) (View.ld x6 rM4) (ix2 r k) = H k := hp
  have hR : View.ld x8 rR = x8 := View.ld_unit_zero z2 _ _
  rw [hR]
  simp only [hp, hp', ld_r1, hw, hw', (hr _).sub_self, mul_zero, zero_mul, Finset.sum_const_zero, add_zero]

end Blocks

section Arrays

variable (c : Dev nD)

/-- The rows after the projection. -/
def rowsTarget : Vec Ideal S16896x2048 .f32 :=
  rowsArray (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The logits. -/
def logitsTarget : Vec Ideal S16896x128 .f32 := fun y =>
  logit (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (y 0) (y 1)

theorem mod_val (t : Fin cfg0.N) (r : Fin 512) (R : Fin 16896) (h : R.val = 512 * t.val + r) : (modOf R).val = if t.val < 32 then t.val / 16 else 2 := by
  unfold modOf
  split_ifs with h1 h2 h2
  · show (R : ℕ) / 8192 = t.val / 16
    omega
  · omega
  · omega
  · rfl

theorem rows_at (t : Fin cfg0.N) (r : Fin 512) (l : Fin 2048) (R : Fin 16896) (h : R.val = 512 * t.val + r) :
    rows (F := Ideal) (iblk m c 0 t) (iblk m c 1 t) (iblk m c 2 t) (iblk m c 3 t) (iblk m c 4 t) (iblk m c 5 t) (iblk m c 6 t) (iblk m c 7 t) (iblk m c 8 t) (ix2 r l)
      = rowsTarget m c (ix2 R l) := by
  refine (rows_read _ _ _ _ _ _ _ _ _ r l).trans ?_
  rw [block5 m c t r l R h, block6 m c t 2 l (modOf R) (mod_val t r R h)]
  simp only [block0 m c t r _ R h, block1 m c t r _ R h, block2 m c t r _ R h, block3 m c t r _ R h, block4 m c t]
  rfl

theorem rows_arr : (dats m 0 c).arrAt 9 cfg0.N = rowsTarget m c := by
  refine (dats m 0 c).arrAt_eq_of_covers 9 (rowsTarget m c) (by decide +kernel) fun t hf y => ?_
  blk_simp
  rw [after0_9, out9_read]
  have e0 : (((win0_9.blk t).view.emb y) 0 : ℕ) = 512 * t.val + (y 0 : ℕ) := by blk_simp [windows t]; omega
  have e1 : (((win0_9.blk t).view.emb y) 1 : ℕ) = (y 1 : ℕ) := by blk_simp [windows t]
  have hy : y = ix2 (y 0) (y 1) := by funext a; match a with | ⟨0, _⟩ => rfl | ⟨1, _⟩ => rfl
  refine (congrArg _ hy).trans ((rows_at m c t (y 0) (y 1) (((win0_9.blk t).view.emb y) 0) e0).trans (congrArg (rowsTarget m c) ?_))
  funext a
  match a with
  | ⟨0, _⟩ => rfl
  | ⟨1, _⟩ => exact Fin.ext e1.symm

variable (h0 : ∀ i, IsReal (m ((c : Thread nD τ).loc main_arg0) i)) (h1 : ∀ i, IsReal (m ((c : Thread nD τ).loc main_arg1) i))
  (h2 : ∀ i, IsReal (m ((c : Thread nD τ).loc main_arg2) i)) (h3 : ∀ i, IsReal (m ((c : Thread nD τ).loc main_arg3) i))
  (h4 : ∀ i, IsReal (m ((c : Thread nD τ).loc main_arg4) i)) (h5 : ∀ i, IsReal (m ((c : Thread nD τ).loc main_arg5) i))
  (h6 : ∀ i, IsReal (m ((c : Thread nD τ).loc main_arg6) i)) (h7 : ∀ i, IsReal (m ((c : Thread nD τ).loc main_arg7) i))
  (h8 : ∀ i, IsReal (m ((c : Thread nD τ).loc main_arg8) i)) (h9 : ∀ i, IsReal (m ((c : Thread nD τ).loc main_arg9) i))

include h8 h9 in
theorem router_left (k : Fin 2048) (j : Fin 128) : V m c main_v6 (ix2 k ⟨128 + j, by omega⟩) = (0 : EReal) := by
  rw [router_at, split_read, dif_neg (by show ¬ 128 + (j : ℕ) < 128; omega), joined_read]
  exact (router_real h8 h9 _ _).sub_self

theorem router_right (k : Fin 2048) (j : Fin 128) : V m c main_v6 (ix2 k ⟨j, by omega⟩)
    = router (m ((c : Thread nD τ).loc main_arg8)) (m ((c : Thread nD τ).loc main_arg9)) k j := by
  rw [router_at, split_read, dif_pos j.isLt, joined_read]

include h0 h1 h2 h3 h4 h5 h6 h7 h8 h9

theorem logits_at (t : Fin cfg0.N) (r : Fin 512) (j : Fin 128) (R : Fin 16896) (h : R.val = 512 * t.val + r) :
    out11 (F := Ideal) (iblk m c 0 t) (iblk m c 1 t) (iblk m c 2 t) (iblk m c 3 t) (iblk m c 4 t) (iblk m c 5 t) (iblk m c 6 t) (iblk m c 7 t) (iblk m c 8 t) (ix2 r j)
      = logitsTarget m c (ix2 R j) := by
  refine out11_read _ _ _ _ _ _ _ _ _ r j _ _ (fun l => ?_) (fun k => (block8 m c t k _).trans (router_right m c k j))
    (fun k => (block8 m c t k _).trans (router_left m c h8 h9 k j)) fun l => hidden_real (stream_real h0 h1 h2 h3 h4 h5 h6 R) h6 h7 R l
  rw [block7 m c t, block6 m c t 4 l (modOf R) (mod_val t r R h), block6 m c t 3 l (modOf R) (mod_val t r R h)]
  simp only [rows_at m c t r _ R h]
  rfl

theorem logits_arr : (dats m 0 c).arrAt 11 cfg0.N = logitsTarget m c := by
  refine (dats m 0 c).arrAt_eq_of_covers 11 (logitsTarget m c) (by decide +kernel) fun t hf y => ?_
  blk_simp
  rw [after0_11]
  have e0 : (((win0_11.blk t).view.emb y) 0 : ℕ) = 512 * t.val + (y 0 : ℕ) := by blk_simp [windows t]; omega
  have e1 : (((win0_11.blk t).view.emb y) 1 : ℕ) = (y 1 : ℕ) := by blk_simp [windows t]
  have hy : y = ix2 (y 0) (y 1) := by funext a; match a with | ⟨0, _⟩ => rfl | ⟨1, _⟩ => rfl
  refine (congrArg _ hy).trans ((logits_at m c h0 h1 h2 h3 h4 h5 h6 h7 h8 h9 t (y 0) (y 1) (((win0_11.blk t).view.emb y) 0) e0).trans
    (congrArg (logitsTarget m c) ?_))
  funext a
  match a with
  | ⟨0, _⟩ => rfl
  | ⟨1, _⟩ => exact Fin.ext e1.symm

end Arrays

end Cert.Kernel3Ideal.Value

end
-- ==== Proof.OutRef.lean ====
module

public import proofs.«01_k».proof.Proof.Gen.Reference3Ideal.Run
public import proofs.«01_k».proof.Proof.OutSpec
public import Idealize.ShloMosaic.Lib.Claim
public import Idealize.ShloMosaic.Lib.Pointwise

/-!
# The output projection and the routers in the reference

Both results, entry by entry.
-/

@[expose] public section

set_option maxRecDepth 16384

noncomputable section

namespace Cert.Reference3Ideal.Out

open Cert.Reference3Ideal Cert.Reference3Ideal.Gen Idealize.ShloMosaic Idealize.ShloMosaic.TcCoe Idealize.SL.Sem
open Cert.Norm Cert.Out

/-- The modulation's entry 2 of every row. -/
def mods2 (M : FVec Ideal S8x6x2048 .f32) : FVec Ideal S16896x2048 .f32 :=
  concatenate S16896x2048 0 [⟨S16384x2048, (shapeCast _ (broadcastInDim S2x8192x2048 ![0, 1, 2] bcast_S2x1x2048_S2x8192x2048_0_1_2 (broadcastInDim S2x1x2048 ![0, 2] bcast_S2x2048_S2x1x2048_0_2 (shapeCast _ (extractStridedSlice S2x1x2048 ![0, 2, 0] M slices_S8x6x2048_S2x1x2048_0_2_0) shapeCasts_S2x1x2048_S2x2048))) shapeCasts_S2x8192x2048_S16384x2048)⟩, ⟨S512x2048, (broadcastInDim S512x2048 ![1] bcast_S2048_S512x2048_1 (shapeCast _ (extractStridedSlice S1x1x2048 ![2, 2, 0] M slices_S8x6x2048_S1x1x2048_2_2_0) shapeCasts_S1x1x2048_S2048))⟩] concatenates_S16384x2048_S512x2048_S16896x2048_d0

theorem mods2_read (M : FVec Ideal S8x6x2048 .f32) (r : Fin 16896) (l : Fin 2048) : mods2 M (ix2 r l) = M (ix3 (modOf r) 2 l) := by
  pointwise [mods2]
  unfold modOf
  split_ifs <;> rfl

/-- The modulation's entry 3 of every row. -/
def mods3 (M : FVec Ideal S8x6x2048 .f32) : FVec Ideal S16896x2048 .f32 :=
  concatenate S16896x2048 0 [⟨S16384x2048, (shapeCast _ (broadcastInDim S2x8192x2048 ![0, 1, 2] bcast_S2x1x2048_S2x8192x2048_0_1_2 (broadcastInDim S2x1x2048 ![0, 2] bcast_S2x2048_S2x1x2048_0_2 (shapeCast _ (extractStridedSlice S2x1x2048 ![0, 3, 0] M slices_S8x6x2048_S2x1x2048_0_3_0) shapeCasts_S2x1x2048_S2x2048))) shapeCasts_S2x8192x2048_S16384x2048)⟩, ⟨S512x2048, (broadcastInDim S512x2048 ![1] bcast_S2048_S512x2048_1 (shapeCast _ (extractStridedSlice S1x1x2048 ![2, 3, 0] M slices_S8x6x2048_S1x1x2048_2_3_0) shapeCasts_S1x1x2048_S2048))⟩] concatenates_S16384x2048_S512x2048_S16896x2048_d0

theorem mods3_read (M : FVec Ideal S8x6x2048 .f32) (r : Fin 16896) (l : Fin 2048) : mods3 M (ix2 r l) = M (ix3 (modOf r) 3 l) := by
  pointwise [mods3]
  unfold modOf
  split_ifs <;> rfl

/-- The modulation's entry 4 of every row. -/
def mods4 (M : FVec Ideal S8x6x2048 .f32) : FVec Ideal S16896x2048 .f32 :=
  concatenate S16896x2048 0 [⟨S16384x2048, (shapeCast _ (broadcastInDim S2x8192x2048 ![0, 1, 2] bcast_S2x1x2048_S2x8192x2048_0_1_2 (broadcastInDim S2x1x2048 ![0, 2] bcast_S2x2048_S2x1x2048_0_2 (shapeCast _ (extractStridedSlice S2x1x2048 ![0, 4, 0] M slices_S8x6x2048_S2x1x2048_0_4_0) shapeCasts_S2x1x2048_S2x2048))) shapeCasts_S2x8192x2048_S16384x2048)⟩, ⟨S512x2048, (broadcastInDim S512x2048 ![1] bcast_S2048_S512x2048_1 (shapeCast _ (extractStridedSlice S1x1x2048 ![2, 4, 0] M slices_S8x6x2048_S1x1x2048_2_4_0) shapeCasts_S1x1x2048_S2048))⟩] concatenates_S16384x2048_S512x2048_S16896x2048_d0

theorem mods4_read (M : FVec Ideal S8x6x2048 .f32) (r : Fin 16896) (l : Fin 2048) : mods4 M (ix2 r l) = M (ix3 (modOf r) 4 l) := by
  pointwise [mods4]
  unfold modOf
  split_ifs <;> rfl

/-- The mixers' outputs side by side. -/
def mixers (Y0 Y1 Y2 Y3 : FVec Ideal S16896x512 .bf16) : FVec Ideal S16896x2048 .f32 :=
  (concatenate S16896x2048 1 [⟨S16896x512, ((extf .f32 Y0 bitsLt_bf16_f32) : (⟨S16896x512, .f32⟩ : BufTy).Contents (Elt Ideal))⟩, ⟨S16896x512, ((extf .f32 Y1 bitsLt_bf16_f32) : (⟨S16896x512, .f32⟩ : BufTy).Contents (Elt Ideal))⟩, ⟨S16896x512, ((extf .f32 Y2 bitsLt_bf16_f32) : (⟨S16896x512, .f32⟩ : BufTy).Contents (Elt Ideal))⟩, ⟨S16896x512, ((extf .f32 Y3 bitsLt_bf16_f32) : (⟨S16896x512, .f32⟩ : BufTy).Contents (Elt Ideal))⟩] concatenates_S16896x512_S16896x512_S16896x512_S16896x512_S16896x2048_d1 : (⟨S16896x2048, .f32⟩ : BufTy).Contents (Elt Ideal))

theorem mixers_read (Y0 Y1 Y2 Y3 : FVec Ideal S16896x512 .bf16) (r : Fin 16896) (k : Fin 2048) : mixers Y0 Y1 Y2 Y3 (ix2 r k)
    = if h : (k : ℕ) < 512 then Y0 (ix2 r ⟨k, h⟩) else if h1 : (k : ℕ) - 512 < 512 then Y1 (ix2 r ⟨k - 512, h1⟩)
      else if h2 : (k : ℕ) - 512 - 512 < 512 then Y2 (ix2 r ⟨k - 512 - 512, h2⟩) else Y3 (ix2 r ⟨k - 512 - 512 - 512, by omega⟩) := by
  pointwise [mixers]

/-- A sum over the joined columns is the sum over the four blocks. -/
theorem sum_blocks (f : Fin 2048 → EReal) : ∑ k, f k = ∑ k : Fin 512, f ⟨k, by omega⟩ + ∑ k : Fin 512, f ⟨512 + k, by omega⟩
    + ∑ k : Fin 512, f ⟨1024 + k, by omega⟩ + ∑ k : Fin 512, f ⟨1536 + k, by omega⟩ := by
  refine (Fin.sum_univ_add (a := 1536) (b := 512) f).trans (congrArg₂ (· + ·) ?_ rfl)
  refine (Fin.sum_univ_add (a := 1024) (b := 512) fun i => f (Fin.castAdd 512 i)).trans (congrArg₂ (· + ·) ?_ rfl)
  exact Fin.sum_univ_add (a := 512) (b := 512) fun i : Fin 1024 => f (Fin.castAdd 512 (Fin.castAdd 512 i))

/-- The rows after the projection. -/
def rows (Y0 Y1 Y2 Y3 : FVec Ideal S16896x512 .bf16) (W : FVec Ideal S2048x2048 .f32) (X : FVec Ideal S16896x2048 .f32) (M : FVec Ideal S8x6x2048 .f32) :
    FVec Ideal S16896x2048 .f32 :=
  addf X (mulf (mods2 M) (Host.dotGeneral dot_S16896x2048_S2048x2048_S16896x2048_1_0_0_1_n_n none (mixers Y0 Y1 Y2 Y3) W))

theorem rows_read (Y0 Y1 Y2 Y3 : FVec Ideal S16896x512 .bf16) (W : FVec Ideal S2048x2048 .f32) (X : FVec Ideal S16896x2048 .f32) (M : FVec Ideal S8x6x2048 .f32)
    (r : Fin 16896) (l : Fin 2048) : rows Y0 Y1 Y2 Y3 W X M (ix2 r l) = stream Y0 Y1 Y2 Y3 W X M r l := by
  pointwise [rows]
  rw [mods2_read]
  refine congrArg (fun s : EReal => (X (ix2 r l) : EReal) + M (ix3 (modOf r) 2 l) * s) ?_
  refine (sum_blocks _).trans ?_
  refine congrArg₂ (· + ·) (congrArg₂ (· + ·) (congrArg₂ (· + ·) ?_ ?_) ?_) ?_
  · refine Finset.sum_congr rfl fun k _ => ?_
    rw [mixers_read, dif_pos k.isLt]
    exact congrArg (fun i => (Y0 (ix2 r k) : EReal) * W (ix2 i l)) (Fin.ext (by show (k : ℕ) = 512 * 0 + k; omega))
  · refine Finset.sum_congr rfl fun k _ => ?_
    rw [mixers_read, dif_neg (by show ¬ 512 + (k : ℕ) < 512; omega), dif_pos (by show 512 + (k : ℕ) - 512 < 512; omega)]
    exact congrArg₂ (fun j i => (Y1 (ix2 r j) : EReal) * W (ix2 i l)) (Fin.ext (by show 512 + (k : ℕ) - 512 = k; omega)) (Fin.ext (by show 512 + (k : ℕ) = 512 * 1 + k; omega))
  · refine Finset.sum_congr rfl fun k _ => ?_
    rw [mixers_read, dif_neg (by show ¬ 1024 + (k : ℕ) < 512; omega), dif_neg (by show ¬ 1024 + (k : ℕ) - 512 < 512; omega), dif_pos (by show 1024 + (k : ℕ) - 512 - 512 < 512; omega)]
    exact congrArg₂ (fun j i => (Y2 (ix2 r j) : EReal) * W (ix2 i l)) (Fin.ext (by show 1024 + (k : ℕ) - 512 - 512 = k; omega)) (Fin.ext (by show 1024 + (k : ℕ) = 512 * 2 + k; omega))
  · refine Finset.sum_congr rfl fun k _ => ?_
    rw [mixers_read, dif_neg (by show ¬ 1536 + (k : ℕ) < 512; omega), dif_neg (by show ¬ 1536 + (k : ℕ) - 512 < 512; omega), dif_neg (by show ¬ 1536 + (k : ℕ) - 512 - 512 < 512; omega)]
    exact congrArg₂ (fun j i => (Y3 (ix2 r j) : EReal) * W (ix2 i l)) (Fin.ext (by show 1536 + (k : ℕ) - 512 - 512 - 512 = k; omega)) (Fin.ext (by show 1536 + (k : ℕ) = 512 * 3 + k; omega))

/-- The rows, normed and modulated. -/
def modulated (x : FVec Ideal S16896x2048 .f32) (g : FVec Ideal S2048 .f32) (M : FVec Ideal S8x6x2048 .f32) : FVec Ideal S16896x2048 .f32 :=
  addf (mulf (mulf (mulf x (broadcastInDim S16896x2048 ![0, 1] bcast_S16896x1_S16896x2048_0_1 (Host.rsqrt (addf (Host.divf (broadcastInDim S16896x1 ![0] bcast_S16896_S16896x1_0 (Host.reduceAdd (mulf x x) (constant S_ .f32 0x00000000#32) reducesTo_S16896x2048_S16896_d1 h_S_)) (broadcastInDim S16896x1 ![] bcast_S_S16896x1 (constant S_ .f32 0x45000000#32))) (broadcastInDim S16896x1 ![] bcast_S_S16896x1 (constant S_ .f32 0x358637BD#32)))))) (broadcastInDim S16896x2048 ![0, 1] bcast_S1x2048_S16896x2048_0_1 (broadcastInDim S1x2048 ![1] bcast_S2048_S1x2048_1 g))) (addf (broadcastInDim S16896x2048 ![] bcast_S_S16896x2048 (constant S_ .f32 0x3F800000#32)) (mods4 M))) (mods3 M)

theorem modulated_read (x : FVec Ideal S16896x2048 .f32) (g : FVec Ideal S2048 .f32) (M : FVec Ideal S8x6x2048 .f32) (r : Fin 16896) (l : Fin 2048) :
    modulated x g M (ix2 r l) = hidden (fun l => x (ix2 r l)) M g r l := by
  pointwise [modulated]
  rw [mods3_read, mods4_read]
  rfl

/-- The routers' logits of the modulated rows. -/
def logits (h : FVec Ideal S16896x2048 .f32) (Wg : FVec Ideal S2048x4 .f32) (We : FVec Ideal S2048x32 .f32) : FVec Ideal S16896x128 .f32 :=
  (concatenate S16896x128 1 [⟨S16896x4, ((Host.dotGeneral dot_S16896x2048_S2048x4_S16896x4_1_0_0_1_n_n none h Wg) : (⟨S16896x4, .f32⟩ : BufTy).Contents (Elt Ideal))⟩, ⟨S16896x32, ((Host.dotGeneral dot_S16896x2048_S2048x32_S16896x32_1_0_0_1_n_n none h We) : (⟨S16896x32, .f32⟩ : BufTy).Contents (Elt Ideal))⟩, ⟨S16896x92, ((broadcastInDim S16896x92 ![] bcast_S_S16896x92 (constant (F := Ideal) S_ .f32 0x00000000#32)) : (⟨S16896x92, .f32⟩ : BufTy).Contents (Elt Ideal))⟩] concatenates_S16896x4_S16896x32_S16896x92_S16896x128_d1 : (⟨S16896x128, .f32⟩ : BufTy).Contents (Elt Ideal))

theorem logits_read (h : FVec Ideal S16896x2048 .f32) (Wg : FVec Ideal S2048x4 .f32) (We : FVec Ideal S2048x32 .f32) (r : Fin 16896) (j : Fin 128) :
    logits h Wg We (ix2 r j) = ∑ k, h (ix2 r k) * router Wg We k j := by
  pointwise [logits]
  unfold router
  split_ifs with h1 h2 h3
  all_goals first
    | rfl
    | exact absurd rfl h3
    | simp only [mul_zero, Finset.sum_const_zero]

theorem results_read (Y0 Y1 Y2 Y3 : FVec Ideal S16896x512 .bf16) (W : FVec Ideal S2048x2048 .f32) (X : FVec Ideal S16896x2048 .f32) (M : FVec Ideal S8x6x2048 .f32)
    (g : FVec Ideal S2048 .f32) (Wg : FVec Ideal S2048x4 .f32) (We : FVec Ideal S2048x32 .f32) (r : Fin 16896) (j : Fin 128) :
    logits (modulated (rows Y0 Y1 Y2 Y3 W X M) g M) Wg We (ix2 r j) = logit Y0 Y1 Y2 Y3 W X M g Wg We r j := by
  rw [logits_read]
  unfold logit
  simp only [modulated_read, rows_read]

/-- The rows that the run leaves. -/
def rowsResult (m : (ℓ : Loc nD τ sig) → Buf (Elt Ideal) ℓ) (c : Dev nD) : FVec Ideal S16896x2048 .f32 :=
  rows (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

theorem logits_result (m : (ℓ : Loc nD τ sig) → Buf (Elt Ideal) ℓ) (c : Dev nD) : Cert.Reference3Ideal.Value.res_main_v55 m c
    = logits (modulated (rowsResult m c) (m ((c.tc : Thread nD τ).loc main_arg7)) (m ((c.tc : Thread nD τ).loc main_arg6)))
        (m ((c.tc : Thread nD τ).loc main_arg8)) (m ((c.tc : Thread nD τ).loc main_arg9)) := by
  unfold Cert.Reference3Ideal.Value.res_main_v55
  rfl

/-- Both results of the run, in terms of the arguments. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = (fun y => stream (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (y 0) (y 1) : Vec Ideal S16896x2048 .f32)
      ∧ r.2.mem ((c.tc : Thread nD τ).loc main_v55) = (fun y => logit (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (y 0) (y 1) : Vec Ideal S16896x128 .f32) := by
  refine (θ_run defs _ _).mono (fun r h c => ⟨(h c).1.trans ?_, ((h c).2.1.trans (logits_result m c)).trans ?_⟩) (Cert.Reference3Ideal.Value.run (F := Ideal) m ρ)
  · funext y
    have hy : y = ix2 (y 0) (y 1) := by funext a; match a with | ⟨0, _⟩ => rfl | ⟨1, _⟩ => rfl
    exact (congrArg (rowsResult m c) hy).trans (rows_read _ _ _ _ _ _ _ (y 0) (y 1))
  · funext y
    have hy : y = ix2 (y 0) (y 1) := by funext a; match a with | ⟨0, _⟩ => rfl | ⟨1, _⟩ => rfl
    exact (congrArg _ hy).trans (results_read _ _ _ _ _ _ _ _ _ _ (y 0) (y 1))

end Cert.Reference3Ideal.Out

end
-- ==== Proof.OutFinite.lean ====
module

public import proofs.«01_k».proof.Proof.Finite
public import proofs.«01_k».proof.Proof.OutSpec

/-!
# The output projection's finite arguments

The precondition's word, read as what it says: every entry of every argument is a real number.
-/

@[expose] public section

noncomputable section

namespace Cert.Finite3

open Idealize.ShloMosaic Idealize.SL.Sem Cert.Out Cert.Finite

/-- The side conditions of the precondition's operations. -/
theorem facts : Cert.Pre_finite3.Facts where
  bcast_S_S2048x2048 := by decide
  reducesTo_S2048x2048_S_d0_1 := by decide
  h_S_ := by decide
  bcast_S_S16896x2048 := by decide
  reducesTo_S16896x2048_S_d0_1 := by decide
  bcast_S_S8x6x2048 := by decide
  reducesTo_S8x6x2048_S_d0_1_2 := by decide
  bcast_S_S2048 := by decide
  reducesTo_S2048_S_d0 := by decide
  bcast_S_S2048x4 := by decide
  reducesTo_S2048x4_S_d0_1 := by decide
  bcast_S_S2048x32 := by decide
  reducesTo_S2048x32_S_d0_1 := by decide
  bitsLt_bf16_f32 := by decide
  bcast_S_S16896x512 := by decide
  reducesTo_S16896x512_S_d0_1 := by decide

theorem real_of (x : EReal) (h : Ideal.cmp .olt (max x (-x)) (Ideal.ofBits .f32 0x7F800000#32) = 1#1) : IsReal x :=
  ⟨_, real_of_word x (by rw [← ofBits_top]; exact h)⟩

/-- Every entry of every array is real. -/
theorem entries [Cert.Pre_finite3.Facts] (y0 : FVec Ideal Cert.Pre_finite3.S16896x512 .bf16) (y1 : FVec Ideal Cert.Pre_finite3.S16896x512 .bf16) (y2 : FVec Ideal Cert.Pre_finite3.S16896x512 .bf16) (y3 : FVec Ideal Cert.Pre_finite3.S16896x512 .bf16) (w : FVec Ideal Cert.Pre_finite3.S2048x2048 .f32) (x : FVec Ideal Cert.Pre_finite3.S16896x2048 .f32) (a : FVec Ideal Cert.Pre_finite3.S8x6x2048 .f32) (g : FVec Ideal Cert.Pre_finite3.S2048 .f32) (wg : FVec Ideal Cert.Pre_finite3.S2048x4 .f32) (we : FVec Ideal Cert.Pre_finite3.S2048x32 .f32)
    (h : Cert.Pre_finite3.fn (F := Ideal) y0 y1 y2 y3 w x a g wg we = fun _ => 1#1) :
    (∀ i, IsReal (y0 i)) ∧ (∀ i, IsReal (y1 i)) ∧ (∀ i, IsReal (y2 i)) ∧ (∀ i, IsReal (y3 i)) ∧ (∀ i, IsReal (w i)) ∧ (∀ i, IsReal (x i)) ∧ (∀ i, IsReal (a i)) ∧ (∀ i, IsReal (g i)) ∧ (∀ i, IsReal (wg i)) ∧ (∀ i, IsReal (we i)) := by
  have e := congrFun h (Shape.Idx.first Cert.Pre_finite3.Facts.h_S_)
  have hsub : Subsingleton Cert.Pre_finite3.S_.Idx := ⟨fun a b => funext fun k => k.elim0⟩
  obtain ⟨e, d3⟩ := both _ _ e
  obtain ⟨e, d2⟩ := both _ _ e
  obtain ⟨e, d1⟩ := both _ _ e
  obtain ⟨e, d0⟩ := both _ _ e
  obtain ⟨e, d9⟩ := both _ _ e
  obtain ⟨e, d8⟩ := both _ _ e
  obtain ⟨e, d7⟩ := both _ _ e
  obtain ⟨e, d6⟩ := both _ _ e
  obtain ⟨d4, d5⟩ := both _ _ e
  exact ⟨fun i => real_of _ (Host.reduce_andi_all _ _ _ _ _ d0 i), fun i => real_of _ (Host.reduce_andi_all _ _ _ _ _ d1 i), fun i => real_of _ (Host.reduce_andi_all _ _ _ _ _ d2 i), fun i => real_of _ (Host.reduce_andi_all _ _ _ _ _ d3 i), fun i => real_of _ (Host.reduce_andi_all _ _ _ _ _ d4 i), fun i => real_of _ (Host.reduce_andi_all _ _ _ _ _ d5 i), fun i => real_of _ (Host.reduce_andi_all _ _ _ _ _ d6 i), fun i => real_of _ (Host.reduce_andi_all _ _ _ _ _ d7 i), fun i => real_of _ (Host.reduce_andi_all _ _ _ _ _ d8 i), fun i => real_of _ (Host.reduce_andi_all _ _ _ _ _ d9 i)⟩

end Cert.Finite3

end
-- ==== Proof.lean ====
module

public import proofs.«01_k».proof.Defs
public import proofs.«01_k».proof.Proof.Gen.Kernel.Frame
public import proofs.«01_k».proof.Proof.Gen.KernelIdeal.Frame
public import proofs.«01_k».proof.Proof.KernelValue
public import proofs.«01_k».proof.Proof.RefResult
public import proofs.«01_k».proof.Proof.Finite
public import proofs.«01_k».proof.Proof.Gen.Kernel2.Frame
public import proofs.«01_k».proof.Proof.Gen.Kernel2Ideal.Frame
public import proofs.«01_k».proof.Proof.Projection
public import proofs.«01_k».proof.Proof.Gen.Kernel4.Frame
public import proofs.«01_k».proof.Proof.Final
public import proofs.«01_k».proof.Proof.Gen.Kernel5.Frame
public import proofs.«01_k».proof.Proof.Gen.Kernel5Ideal.Frame
public import proofs.«01_k».proof.Proof.First
public import proofs.«01_k».proof.Proof.OutRunBits
public import proofs.«01_k».proof.Proof.OutRun
public import proofs.«01_k».proof.Proof.OutKernel
public import proofs.«01_k».proof.Proof.OutRef
public import proofs.«01_k».proof.Proof.OutFinite
public import Idealize.ShloMosaic.Lib.Bf16Pair
public import Idealize.ShloMosaic.Lib.Bf16PairInverse

/-!
# The claims

The frames are the generated ones and the reference's own run. The value claim puts both results at one array: the outputs of the gated
recurrence over the joined times of each sequence; for the input projection it is the rows' products with the weights' columns, in the array's order;
for the final call, the normed residual stream; for the output projection, the rows after it and the routers' logits of the normed rows;
for the first norm, the residual stream and its normed rows.
-/

@[expose] public section

noncomputable section

namespace Cert.Proof

open Idealize.ShloMosaic Idealize.SL.Sem

/-- The projections' entries, as real numbers over natural indices. -/
def reals2 {a b : ℕ} (u : (⟨2, ![a, b]⟩ : Shape).Idx → EReal) (r l : ℕ) : ℝ :=
  if h : r < a ∧ l < b then (u (ix2 ⟨r, h.1⟩ ⟨l, h.2⟩)).toReal else 0

/-- The logits' entries, as real numbers over natural indices. -/
def reals3 {a b d : ℕ} (u : (⟨3, ![a, b, d]⟩ : Shape).Idx → EReal) (i j l : ℕ) : ℝ :=
  if h : i < a ∧ j < b ∧ l < d then (u (ix3 ⟨i, h.1⟩ ⟨j, h.2.1⟩ ⟨l, h.2.2⟩)).toReal else 0

theorem reals2_spec {a b : ℕ} (u : (⟨2, ![a, b]⟩ : Shape).Idx → EReal) (hu : ∀ i, u i = (((u i).toReal : ℝ) : EReal)) (r : Fin a) (l : Fin b) :
    u (ix2 r l) = ((reals2 u r l : ℝ) : EReal) := by
  rw [reals2, dif_pos ⟨r.isLt, l.isLt⟩]
  exact hu _

theorem reals3_spec {a b d : ℕ} (u : (⟨3, ![a, b, d]⟩ : Shape).Idx → EReal) (hu : ∀ i, u i = (((u i).toReal : ℝ) : EReal))
    (i : Fin a) (j : Fin b) (l : Fin d) : u (ix3 i j l) = ((reals3 u i j l : ℝ) : EReal) := by
  rw [reals3, dif_pos ⟨i.isLt, j.isLt, l.isLt⟩]
  exact hu _

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  have := Cert.Finite.facts
  let U (c : Dev Cert.KernelIdeal.nD) := reals2 (a := 16896) (b := 7680) (m ((c.tc : Thread Cert.KernelIdeal.nD Cert.KernelIdeal.τ).loc Cert.KernelIdeal.main_arg0))
  let X (c : Dev Cert.KernelIdeal.nD) := reals3 (a := 4) (b := 2) (d := 512) (m ((c.tc : Thread Cert.KernelIdeal.nD Cert.KernelIdeal.τ).loc Cert.KernelIdeal.main_arg1))
  have hu : ∀ (c : Dev Cert.KernelIdeal.nD) (r : Fin 16896) (l : Fin 7680), m ((c.tc : Thread Cert.KernelIdeal.nD Cert.KernelIdeal.τ).loc Cert.KernelIdeal.main_arg0) (ix2 r l)
      = ((U c r l : ℝ) : EReal) := fun c => reals2_spec _ (Cert.Finite.entries _ _ (hpre c)).1
  have hx : ∀ (c : Dev Cert.KernelIdeal.nD) (i : Fin 4) (d : Fin 2) (l : Fin 512), m ((c.tc : Thread Cert.KernelIdeal.nD Cert.KernelIdeal.τ).loc Cert.KernelIdeal.main_arg1) (ix3 i d l)
      = ((X c i d l : ℝ) : EReal) := fun c => reals3_spec _ (Cert.Finite.entries _ _ (hpre c)).2
  refine ⟨fun c => Cert.KernelIdeal.Chunk.outArray (U c) (X c), ?_, ?_⟩
  · refine (θ_run Cert.KernelIdeal.defs _ _).mono (fun r h c => ⟨(h c).1.trans ?_, (h c).2⟩) (Cert.KernelIdeal.Value.run_blocks (F := Ideal) m g)
    exact Cert.KernelIdeal.Chunk.arr_read m c (hu c) (hx c)
  · refine (θ_run Cert.ReferenceIdeal.defs _ _).mono (fun r h c => ⟨(h c).1.trans ?_, (h c).2⟩) (Cert.ReferenceIdeal.Value.run (F := Ideal) m' g')
    refine Cert.ReferenceIdeal.Entry.result_read _ (U c) _ (X c) (Cert.ReferenceIdeal.Entry.after_trips _ (U c) _ ?_
      (Cert.ReferenceIdeal.Value.ctr_entry m' c) 132 le_rfl)
    refine Cert.ReferenceIdeal.Entry.starts_of (fun b => m' (c, b)) (U c) (X c) (fun r l => ?_) (fun i d l => ?_)
    · exact (congrFun (hagree c).1 _).trans (hu c r l)
    · exact (congrFun (hagree c).2 _).trans (hx c i d l)

theorem frame_reference2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

theorem algebraic2 : Cert.algebraic_Kernel2Ideal_Reference2Ideal (hKernel2Ideal := Cert.Kernel2Ideal.Gen.facts)
    (hReference2Ideal := Cert.Reference2Ideal.Gen.facts) := by
  intro m g m' g' hpre hagree
  refine ⟨fun c => fun y => Cert.Projection.proj (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)) (y 0) (y 1 : ℕ), ?_, ?_⟩
  · exact (θ_run Cert.Kernel2Ideal.defs _ _).mono (fun r h c => ⟨(h c).1.trans (Cert.Kernel2Ideal.Project.arr_read m c), (h c).2⟩)
      (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    rw [(hagree c).1, (hagree c).2]
    funext y
    refine Eq.trans ?_ (Cert.Reference2Ideal.Project.result_read (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) (y 0) (y 1))
    refine congrArg (Cert.Reference2Ideal.Project.rearranged (Cert.Reference2Ideal.Project.product
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)))) ?_
    funext a
    match a with
    | ⟨0, _⟩ => rfl
    | ⟨1, _⟩ => rfl

theorem frame_reference3 : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩)
    (Cert.Reference3Ideal.Value.run (F := Ideal) m g)

/-- The packed array, its blocks and the pack itself, each at its shape. -/
theorem preserves3 : Cert.preserves_Kernel3_Kernel3Ideal := ⟨IdealRules.bf16_pair.bufferStatement _ _, IdealRules.bf16_pair.bufferStatement _ _,
  IdealRules.bf16_pair.packStatement _, IdealRules.bf16_pair.statement _ _⟩

theorem algebraic3 : Cert.algebraic_Kernel3Ideal_Reference3Ideal_pre_finite3 (hKernel3Ideal := Cert.Kernel3Ideal.Gen.facts)
    (hReference3Ideal := Cert.Reference3Ideal.Gen.facts) (hPre_finite3 := Cert.Finite3.facts) := by
  intro m g m' g' hpre hagree
  have := Cert.Finite3.facts
  refine ⟨fun c => Cert.Kernel3Ideal.Value.rowsTarget m c, fun c => Cert.Kernel3Ideal.Value.logitsTarget m c, ?_, ?_⟩
  · refine (θ_run Cert.Kernel3Ideal.defs _ _).mono (fun r h c => ⟨?_, ?_, h.2.1 c⟩)
      (θ_run_and (Cert.Kernel3Ideal.Body.run_main (F := Ideal) m g) (Cert.Kernel3Ideal.Body.frame (F := Ideal) m g))
    · exact ((h.1 c).1 9).trans (Cert.Kernel3Ideal.Value.rows_arr m c)
    · obtain ⟨h0, h1, h2, h3, h4, h5, h6, h7, h8, h9⟩ := Cert.Finite3.entries _ _ _ _ _ _ _ _ _ _ (hpre c)
      exact ((h.1 c).1 11).trans (Cert.Kernel3Ideal.Value.logits_arr m c h0 h1 h2 h3 h4 h5 h6 h7 h8 h9)
  · refine (θ_run Cert.Reference3Ideal.defs _ _).mono (fun r h c => ⟨(h.1 c).1.trans ?_, (h.1 c).2.trans ?_, (h.2 c).2.2⟩)
      (θ_run_and (Cert.Reference3Ideal.Out.run_read m' g') (Cert.Reference3Ideal.Value.run (F := Ideal) m' g'))
    · obtain ⟨e0, e1, e2, e3, e4, e5, e6, e7, e8, e9⟩ := hagree c
      rw [e0, e1, e2, e3, e4, e5, e6]
      rfl
    · obtain ⟨e0, e1, e2, e3, e4, e5, e6, e7, e8, e9⟩ := hagree c
      rw [e0, e1, e2, e3, e4, e5, e6, e7, e8, e9]
      rfl

theorem frame_reference4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

theorem algebraic4 : Cert.algebraic_Kernel4Ideal_Reference4Ideal (hKernel4Ideal := Cert.Kernel4Ideal.Gen.facts)
    (hReference4Ideal := Cert.Reference4Ideal.Gen.facts) := by
  intro m g m' g' hpre hagree
  refine ⟨fun c => Cert.Kernel4Ideal.Final.target m c, ?_, ?_⟩
  · exact (θ_run Cert.Kernel4Ideal.defs _ _).mono (fun r h c => ⟨(h c).1.trans (Cert.Kernel4Ideal.Final.arr_read m c), (h c).2⟩)
      (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    rw [(hagree c).1, (hagree c).2.1, (hagree c).2.2.1, (hagree c).2.2.2.1, (hagree c).2.2.2.2]
    funext y
    refine Eq.trans ?_ (Cert.Reference4Ideal.Final.result_read _ _ _ _ _ (y 0) (y 1))
    refine congrArg (Cert.Reference4Ideal.Final.scaled (Cert.Reference4Ideal.Final.stream _ _ _ _) _) ?_
    funext a
    match a with
    | ⟨0, _⟩ => rfl
    | ⟨1, _⟩ => rfl

theorem frame_reference5 : Cert.quiescent_Reference5Ideal (hReference5Ideal := Cert.Reference5Ideal.Gen.facts) := fun m g _ =>
  (θ_run Cert.Reference5Ideal.defs _ _).mono (fun r h => ⟨fun c => (h c).2.2, sem_eq_zero_of_no_sems (by decide) r.2⟩)
    (Cert.Reference5Ideal.Value.run (F := Ideal) m g)

theorem algebraic5 : Cert.algebraic_Kernel5Ideal_Reference5Ideal (hKernel5Ideal := Cert.Kernel5Ideal.Gen.facts)
    (hReference5Ideal := Cert.Reference5Ideal.Gen.facts) := by
  intro m g m' g' hpre hagree
  refine ⟨fun c => Cert.Kernel5Ideal.First.streamTarget m c, fun c => Cert.Kernel5Ideal.First.rowsTarget m c, ?_, ?_⟩
  · exact (θ_run Cert.Kernel5Ideal.defs _ _).mono (fun r h c => ⟨(h c).1.trans (Cert.Kernel5Ideal.First.stream_arr m c),
      (h c).2.1.trans (Cert.Kernel5Ideal.First.rows_arr m c), (h c).2.2⟩) (Cert.Kernel5Ideal.Value.run_blocks (F := Ideal) m g)
  · refine (θ_run Cert.Reference5Ideal.defs _ _).mono (fun r h c => ⟨(h.1 c).1.trans ?_, (h.1 c).2.trans ?_, (h.2 c).2.2⟩)
      (θ_run_and (Cert.Reference5Ideal.First.run_read m' g') (Cert.Reference5Ideal.Value.run (F := Ideal) m' g'))
    · obtain ⟨e0, e1, e2, e3, e4, e5⟩ := hagree c
      rw [e0, e1, e2, e3]
      rfl
    · obtain ⟨e0, e1, e2, e3, e4, e5⟩ := hagree c
      rw [e0, e1, e2, e3, e4, e5]
      rfl

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Finite.facts, Cert.Finite3.facts,
  fun m g _ => Cert.Kernel.Gen.frame m g, fun m g _ => Cert.KernelIdeal.Gen.frame m g, fun m g _ => Cert.KernelIdeal.Gen.frame m g,
  frame_reference, fun m g _ => frame_reference m g trivial, fun m g _ => Cert.Kernel2.Gen.frame m g, fun m g _ => Cert.Kernel2Ideal.Gen.frame m g,
  frame_reference2, fun m g _ => Cert.Kernel3.Body.frame m g, fun m g _ => Cert.Kernel3Ideal.Body.frame m g, fun m g _ => Cert.Kernel3Ideal.Body.frame m g,
  frame_reference3, fun m g _ => frame_reference3 m g trivial, fun m g _ => Cert.Kernel4.Gen.frame m g, fun m g _ => Cert.Kernel4Ideal.Gen.frame m g,
  frame_reference4, fun m g _ => Cert.Kernel5.Gen.frame m g, fun m g _ => Cert.Kernel5Ideal.Gen.frame m g, frame_reference5, trivial, algebraic, trivial, algebraic2, preserves3, algebraic3, trivial, algebraic4, trivial, algebraic5⟩

end Cert.Proof

end
